-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v45_1)) (v1 : (c : Dev Cert.Kernel4Ideal.nD) → Buf (Elt Ideal) ((c.tc : Thread Cert.Kernel4Ideal.nD Cert.Kernel4Ideal.τ).loc Cert.Kernel4Ideal.main_v45_2)) (v2 : (c : Dev Cert.Kernel4Ideal.nD) → Buf (Elt Ideal) ((c.tc : Thread Cert.Kernel4Ideal.nD Cert.Kernel4Ideal.τ).loc Cert.Kernel4Ideal.main_v45_3)) (v3 : (c : Dev Cert.Kernel4Ideal.nD) → Buf (Elt Ideal) ((c.tc : Thread Cert.Kernel4Ideal.nD Cert.Kernel4Ideal.τ).loc Cert.Kernel4Ideal.main_v45_4)) (v4 : (c : Dev Cert.Kernel4Ideal.nD) → Buf (Elt Ideal) ((c.tc : Thread Cert.Kernel4Ideal.nD Cert.Kernel4Ideal.τ).loc Cert.Kernel4Ideal.main_v45_5)) (v5 : (c : Dev Cert.Kernel4Ideal.nD) → Buf (Elt Ideal) ((c.tc : Thread Cert.Kernel4Ideal.nD Cert.Kernel4Ideal.τ).loc Cert.Kernel4Ideal.main_v45_6)) (v6 : (c : Dev Cert.Kernel4Ideal.nD) → Buf (Elt Ideal) ((c.tc : Thread Cert.Kernel4Ideal.nD Cert.Kernel4Ideal.τ).loc Cert.Kernel4Ideal.main_v45_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v45_1) = v0 c
          ∧ r.2.mem ((c.tc : Thread Cert.Kernel4Ideal.nD Cert.Kernel4Ideal.τ).loc Cert.Kernel4Ideal.main_v45_2) = v1 c
          ∧ r.2.mem ((c.tc : Thread Cert.Kernel4Ideal.nD Cert.Kernel4Ideal.τ).loc Cert.Kernel4Ideal.main_v45_3) = v2 c
          ∧ r.2.mem ((c.tc : Thread Cert.Kernel4Ideal.nD Cert.Kernel4Ideal.τ).loc Cert.Kernel4Ideal.main_v45_4) = v3 c
          ∧ r.2.mem ((c.tc : Thread Cert.Kernel4Ideal.nD Cert.Kernel4Ideal.τ).loc Cert.Kernel4Ideal.main_v45_5) = v4 c
          ∧ r.2.mem ((c.tc : Thread Cert.Kernel4Ideal.nD Cert.Kernel4Ideal.τ).loc Cert.Kernel4Ideal.main_v45_6) = v5 c
          ∧ r.2.mem ((c.tc : Thread Cert.Kernel4Ideal.nD Cert.Kernel4Ideal.τ).loc Cert.Kernel4Ideal.main_v45_7) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v62) = v1 c
          ∧ r.2.mem ((c.tc : Thread Cert.Reference4Ideal.nD Cert.Reference4Ideal.τ).loc Cert.Reference4Ideal.main_v63) = v2 c
          ∧ r.2.mem ((c.tc : Thread Cert.Reference4Ideal.nD Cert.Reference4Ideal.τ).loc Cert.Reference4Ideal.main_v33) = v3 c
          ∧ r.2.mem ((c.tc : Thread Cert.Reference4Ideal.nD Cert.Reference4Ideal.τ).loc Cert.Reference4Ideal.main_v123) = v4 c
          ∧ r.2.mem ((c.tc : Thread Cert.Reference4Ideal.nD Cert.Reference4Ideal.τ).loc Cert.Reference4Ideal.main_v125) = v5 c
          ∧ r.2.mem ((c.tc : Thread Cert.Reference4Ideal.nD Cert.Reference4Ideal.τ).loc Cert.Reference4Ideal.main_v35) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x8192x512 : Shape := ⟨3, ![4, 8192, 512]⟩
abbrev S4x256x512 : Shape := ⟨3, ![4, 256, 512]⟩
abbrev S4x64 : Shape := ⟨2, ![4, 64]⟩
abbrev S128 : Shape := ⟨1, ![128]⟩
abbrev S_ : Shape := ⟨0, ![]⟩

class Facts : Prop where
  bcast_S_S4x8192x512 : S_.BroadcastsInDim S4x8192x512 (![] : Fin 0 → Fin S4x8192x512.rank)
  bcast_S_S4x256x512 : S_.BroadcastsInDim S4x256x512 (![] : Fin 0 → Fin S4x256x512.rank)
  bcast_S_S4x64 : S_.BroadcastsInDim S4x64 (![] : Fin 0 → Fin S4x64.rank)

variable [Facts]

def fn {F : FTy → Type} [FloatOps F] (main_arg0 : FVec F S4x8192x512 .f32) (main_arg1 : FVec F S4x8192x512 .f32) (main_arg2 : FVec F S4x8192x512 .f32) (main_arg3 : FVec F S4x256x512 .f32) (main_arg4 : FVec F S4x256x512 .f32) (main_arg5 : FVec F S4x64 .f32) (main_arg6 : FVec F S128 .f32) : IVec S4x8192x512 1 × IVec S4x8192x512 1 × IVec S4x8192x512 1 × IVec S4x256x512 1 × IVec S4x256x512 1 × IVec S4x64 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_v3 : FVec F S4x8192x512 .f32 := Host.absf main_arg1
  let main_cst_0 : FVec F S_ .f32 := constant S_ .f32 0x7F800000#32
  let main_v4 : FVec F S4x8192x512 .f32 := broadcastInDim S4x8192x512 ![] bcast_S_S4x8192x512 main_cst_0
  let main_v5 : IVec S4x8192x512 1 := cmpf .olt main_v3 main_v4
  let main_v6 : FVec F S4x8192x512 .f32 := Host.absf main_arg2
  let main_cst_1 : FVec F S_ .f32 := constant S_ .f32 0x7F800000#32
  let main_v7 : FVec F S4x8192x512 .f32 := broadcastInDim S4x8192x512 ![] bcast_S_S4x8192x512 main_cst_1
  let main_v8 : IVec S4x8192x512 1 := cmpf .olt main_v6 main_v7
  let main_v9 : FVec F S4x256x512 .f32 := Host.absf main_arg3
  let main_cst_2 : FVec F S_ .f32 := constant S_ .f32 0x7F800000#32
  let main_v10 : FVec F S4x256x512 .f32 := broadcastInDim S4x256x512 ![] bcast_S_S4x256x512 main_cst_2
  let main_v11 : IVec S4x256x512 1 := cmpf .olt main_v9 main_v10
  let main_v12 : FVec F S4x256x512 .f32 := Host.absf main_arg4
  let main_cst_3 : FVec F S_ .f32 := constant S_ .f32 0x7F800000#32
  let main_v13 : FVec F S4x256x512 .f32 := broadcastInDim S4x256x512 ![] bcast_S_S4x256x512 main_cst_3
  let main_v14 : IVec S4x256x512 1 := cmpf .olt main_v12 main_v13
  let main_v15 : FVec F S4x64 .f32 := Host.absf main_arg5
  let main_cst_4 : FVec F S_ .f32 := constant S_ .f32 0x7F800000#32
  let main_v16 : FVec F S4x64 .f32 := broadcastInDim S4x64 ![] bcast_S_S4x64 main_cst_4
  let main_v17 : IVec S4x64 1 := cmpf .olt main_v15 main_v16
  (main_v2, main_v5, main_v8, main_v11, main_v14, main_v17)
-- ==== Kernel.lean ====
abbrev S4x8192x512 : Shape := ⟨3, ![4, 8192, 512]⟩
abbrev S4x256x512 : Shape := ⟨3, ![4, 256, 512]⟩
abbrev S4x64 : Shape := ⟨2, ![4, 64]⟩
abbrev S128 : Shape := ⟨1, ![128]⟩
abbrev S4x8448x512 : Shape := ⟨3, ![4, 8448, 512]⟩
abbrev S4x512x8448 : Shape := ⟨3, ![4, 512, 8448]⟩
abbrev S128x1 : Shape := ⟨2, ![128, 1]⟩
abbrev S1x8192x128 : Shape := ⟨3, ![1, 8192, 128]⟩
abbrev S1x8448x128 : Shape := ⟨3, ![1, 8448, 128]⟩
abbrev S1x128x8448 : Shape := ⟨3, ![1, 128, 8448]⟩
abbrev S8448x256 : Shape := ⟨2, ![8448, 256]⟩
abbrev S2x8x256 : Shape := ⟨3, ![2, 8, 256]⟩
abbrev S8x256 : Shape := ⟨2, ![8, 256]⟩
abbrev S1x8x256 : Shape := ⟨3, ![1, 8, 256]⟩
abbrev S1x64 : Shape := ⟨2, ![1, 64]⟩
abbrev S1 : Shape := ⟨1, ![1]⟩
abbrev S1x1 : Shape := ⟨2, ![1, 1]⟩
abbrev S1x128x128 : Shape := ⟨3, ![1, 128, 128]⟩
abbrev S128x128 : Shape := ⟨2, ![128, 128]⟩
abbrev S256x128 : Shape := ⟨2, ![256, 128]⟩
abbrev S1x768x128 : Shape := ⟨3, ![1, 768, 128]⟩
abbrev S768x128 : Shape := ⟨2, ![768, 128]⟩
abbrev S768x256 : Shape := ⟨2, ![768, 256]⟩
abbrev S96x8x256 : Shape := ⟨3, ![96, 8, 256]⟩
abbrev S1x128x768 : Shape := ⟨3, ![1, 128, 768]⟩
abbrev S128x768 : Shape := ⟨2, ![128, 768]⟩
abbrev S128x256 : Shape := ⟨2, ![128, 256]⟩
abbrev S256 : Shape := ⟨1, ![256]⟩
abbrev S1x256 : Shape := ⟨2, ![1, 256]⟩
abbrev S1x128 : Shape := ⟨2, ![1, 128]⟩

abbrev nBuf : Space → Nat
  | .hbm => 16
  | .vmem => 13
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x256x512, .f32⟩
  | .hbm, ⟨4, _⟩ => ⟨S4x256x512, .f32⟩
  | .hbm, ⟨5, _⟩ => ⟨S4x64, .f32⟩
  | .hbm, ⟨6, _⟩ => ⟨S128, .f32⟩
  | .hbm, ⟨7, _⟩ => ⟨S4x8192x512, .bf16⟩
  | .hbm, ⟨8, _⟩ => ⟨S4x8192x512, .bf16⟩
  | .hbm, ⟨9, _⟩ => ⟨S4x256x512, .bf16⟩
  | .hbm, ⟨10, _⟩ => ⟨S4x256x512, .bf16⟩
  | .hbm, ⟨11, _⟩ => ⟨S4x8448x512, .bf16⟩
  | .hbm, ⟨12, _⟩ => ⟨S4x512x8448, .bf16⟩
  | .hbm, ⟨13, _⟩ => ⟨S4x8448x512, .bf16⟩
  | .hbm, ⟨14, _⟩ => ⟨S128x1, .f32⟩
  | .hbm, ⟨15, _⟩ => ⟨S4x8192x512, .bf16⟩
  | .local _ .vmem, ⟨0, _⟩ => ⟨S4x64, .f32⟩
  | .local _ .vmem, ⟨1, _⟩ => ⟨S1x8192x128, .f32⟩
  | .local _ .vmem, ⟨2, _⟩ => ⟨S1x8192x128, .f32⟩
  | .local _ .vmem, ⟨3, _⟩ => ⟨S1x8448x128, .bf16⟩
  | .local _ .vmem, ⟨4, _⟩ => ⟨S1x8448x128, .bf16⟩
  | .local _ .vmem, ⟨5, _⟩ => ⟨S1x128x8448, .bf16⟩
  | .local _ .vmem, ⟨6, _⟩ => ⟨S1x128x8448, .bf16⟩
  | .local _ .vmem, ⟨7, _⟩ => ⟨S128x1, .f32⟩
  | .local _ .vmem, ⟨8, _⟩ => ⟨S1x8192x128, .bf16⟩
  | .local _ .vmem, ⟨9, _⟩ => ⟨S1x8192x128, .bf16⟩
  | .local _ .vmem, ⟨10, _⟩ => ⟨S8448x256, .f32⟩
  | .local _ .vmem, ⟨11, _⟩ => ⟨S8448x256, .f32⟩
  | .local _ .vmem, ⟨12, _⟩ => ⟨S2x8x256, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 33], ![false, false, false]⟩

def k0_mult1 (i : grid0.Coords) : BitVec 32 :=
  let c2_i32 : BitVec 32 := 2#32
  let arg2 : BitVec 32 := BitVec.ofNat 32 (i 2).val
  let v19 : BitVec 32 := Scalar.muli c2_i32 arg2
  let c0_i32_4 : BitVec 32 := 0#32
  let v20 : BitVec 32 := Scalar.addi v19 c0_i32_4
  let c63_i32 : BitVec 32 := 63#32
  let v21 : BitVec 32 := Scalar.minsi v20 c63_i32
  let c128_i32 : BitVec 32 := 128#32
  let v25 : BitVec 32 := Scalar.muli v21 c128_i32
  v25
def k0_off1 (i : grid0.Coords) (c0_i32_4 : BitVec 32) : Fin 3 → Nat :=
  let c0_7 : Index := 0#32
  let c2_i32 : BitVec 32 := 2#32
  let arg2 : BitVec 32 := BitVec.ofNat 32 (i 2).val
  let v19 : BitVec 32 := Scalar.muli c2_i32 arg2
  let v20 : BitVec 32 := Scalar.addi v19 c0_i32_4
  let c63_i32 : BitVec 32 := 63#32
  let v21 : BitVec 32 := Scalar.minsi v20 c63_i32
  let c128_i32 : BitVec 32 := 128#32
  let v25 : BitVec 32 := Scalar.muli v21 c128_i32
  let v26 : BitVec 32 := v25
  let v27 : Index := Scalar.indexCast v26
  let c0_8 : Index := 0#32
  ![0, v27.toNat, 0]
def k0_mult2 (i : grid0.Coords) : BitVec 32 :=
  let c63_i32_6 : BitVec 32 := 63#32
  let c0_i32_5 : BitVec 32 := 0#32
  let c2_i32 : BitVec 32 := 2#32
  let arg2 : BitVec 32 := BitVec.ofNat 32 (i 2).val
  let v19 : BitVec 32 := Scalar.muli c2_i32 arg2
  let c0_i32_4 : BitVec 32 := 0#32
  let v20 : BitVec 32 := Scalar.addi v19 c0_i32_4
  let c1_i32 : BitVec 32 := 1#32
  let v22 : BitVec 32 := Scalar.subi v20 c1_i32
  let v23 : BitVec 32 := Scalar.maxsi c0_i32_5 v22
  let v24 : BitVec 32 := Scalar.minsi c63_i32_6 v23
  let c128_i32_158 : BitVec 32 := 128#32
  let v2411 : BitVec 32 := Scalar.muli v24 c128_i32_158
  v2411
def k0_off2 (i : grid0.Coords) (c0_i32_4 : BitVec 32) : Fin 3 → Nat :=
  let c0_159 : Index := 0#32
  let c63_i32_6 : BitVec 32 := 63#32
  let c0_i32_5 : BitVec 32 := 0#32
  let c2_i32 : BitVec 32 := 2#32
  let arg2 : BitVec 32 := BitVec.ofNat 32 (i 2).val
  let v19 : BitVec 32 := Scalar.muli c2_i32 arg2
  let v20 : BitVec 32 := Scalar.addi v19 c0_i32_4
  let c1_i32 : BitVec 32 := 1#32
  let v22 : BitVec 32 := Scalar.subi v20 c1_i32
  let v23 : BitVec 32 := Scalar.maxsi c0_i32_5 v22
  let v24 : BitVec 32 := Scalar.minsi c63_i32_6 v23
  let c128_i32_158 : BitVec 32 := 128#32
  let v2411 : BitVec 32 := Scalar.muli v24 c128_i32_158
  let v2412 : BitVec 32 := v2411
  let v2413 : Index := Scalar.indexCast v2412
  let c0_160 : Index := 0#32
  ![0, v2413.toNat, 0]
def k0_mult3 (i : grid0.Coords) : BitVec 32 :=
  let c2_i32_161 : BitVec 32 := 2#32
  let arg2 : BitVec 32 := BitVec.ofNat 32 (i 2).val
  let v2417 : BitVec 32 := Scalar.muli c2_i32_161 arg2
  let c1_i32_162 : BitVec 32 := 1#32
  let v2418 : BitVec 32 := Scalar.addi v2417 c1_i32_162
  let c63_i32_163 : BitVec 32 := 63#32
  let v2419 : BitVec 32 := Scalar.minsi v2418 c63_i32_163
  let c128_i32_167 : BitVec 32 := 128#32
  let v2423 : BitVec 32 := Scalar.muli v2419 c128_i32_167
  v2423
def k0_mult4 (i : grid0.Coords) : BitVec 32 :=
  let c63_i32_166 : BitVec 32 := 63#32
  let c0_i32_165 : BitVec 32 := 0#32
  let c2_i32_161 : BitVec 32 := 2#32
  let arg2 : BitVec 32 := BitVec.ofNat 32 (i 2).val
  let v2417 : BitVec 32 := Scalar.muli c2_i32_161 arg2
  let c1_i32_162 : BitVec 32 := 1#32
  let v2418 : BitVec 32 := Scalar.addi v2417 c1_i32_162
  let c1_i32_164 : BitVec 32 := 1#32
  let v2420 : BitVec 32 := Scalar.subi v2418 c1_i32_164
  let v2421 : BitVec 32 := Scalar.maxsi c0_i32_165 v2420
  let v2422 : BitVec 32 := Scalar.minsi c63_i32_166 v2421
  let c128_i32_331 : BitVec 32 := 128#32
  let v4809 : BitVec 32 := Scalar.muli v2422 c128_i32_331
  v4809
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x8448 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S4x8192x512 : Shape := ⟨3, ![4, 8192, 512]⟩
abbrev S4x256x512 : Shape := ⟨3, ![4, 256, 512]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S4x8192x4x2x64 : Shape := ⟨5, ![4, 8192, 4, 2, 64]⟩
abbrev S4x8448x512 : Shape := ⟨3, ![4, 8448, 512]⟩
abbrev S4x8448x4x2x64 : Shape := ⟨5, ![4, 8448, 4, 2, 64]⟩
abbrev S4x8448x4x128 : Shape := ⟨4, ![4, 8448, 4, 128]⟩
abbrev S4x4x2x8192x8448 : Shape := ⟨5, ![4, 4, 2, 8192, 8448]⟩
abbrev S4x4x2x8192 : Shape := ⟨4, ![4, 4, 2, 8192]⟩
abbrev S4x4x2x8192x1 : Shape := ⟨5, ![4, 4, 2, 8192, 1]⟩
abbrev S4x4x1x8192x8448 : Shape := ⟨5, ![4, 4, 1, 8192, 8448]⟩
abbrev S4x4x8192x8448 : Shape := ⟨4, ![4, 4, 8192, 8448]⟩
abbrev S4x4x128x8192 : Shape := ⟨4, ![4, 4, 128, 8192]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x256x512, .f32⟩
  | .hbm, ⟨4, _⟩ => ⟨S4x256x512, .f32⟩
  | .hbm, ⟨5, _⟩ => ⟨S4x64, .f32⟩
  | .hbm, ⟨6, _⟩ => ⟨S128, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x8192x4x2x64, .f32⟩
  | .hbm, ⟨27, _⟩ => ⟨S4x8448x512, .f32⟩
  | .hbm, ⟨28, _⟩ => ⟨S4x8448x4x2x64, .f32⟩
  | .hbm, ⟨29, _⟩ => ⟨S4x8448x512, .f32⟩
  | .hbm, ⟨30, _⟩ => ⟨S4x8448x4x128, .f32⟩
  | .hbm, ⟨31, _⟩ => ⟨S4x4x2x8192x8448, .f32⟩
  | .hbm, ⟨32, _⟩ => ⟨S_, .f32⟩
  | .hbm, ⟨33, _⟩ => ⟨S4x4x2x8192x8448, .f32⟩
  | .hbm, ⟨34, _⟩ => ⟨S4x4x2x8192x8448, .f32⟩
  | .hbm, ⟨35, _⟩ => ⟨S_, .f32⟩
  | .hbm, ⟨36, _⟩ => ⟨S4x4x2x8192, .f32⟩
  | .hbm, ⟨37, _⟩ => ⟨S_, .f32⟩
  | .hbm, ⟨38, _⟩ => ⟨S4x4x2x8192, .f32⟩
  | .hbm, ⟨39, _⟩ => ⟨S4x4x2x8192, .f32⟩
  | .hbm, ⟨40, _⟩ => ⟨S4x4x2x8192x1, .f32⟩
  | .hbm, ⟨41, _⟩ => ⟨S4x4x2x8192x8448, .f32⟩
  | .hbm, ⟨42, _⟩ => ⟨S4x4x2x8192x8448, .f32⟩
  | .hbm, ⟨43, _⟩ => ⟨S4x4x2x8192x8448, .f32⟩
  | .hbm, ⟨44, _⟩ => ⟨S_, .f32⟩
  | .hbm, ⟨45, _⟩ => ⟨S4x4x2x8192, .f32⟩
  | .hbm, ⟨46, _⟩ => ⟨S4x4x2x8192x1, .f32⟩
  | .hbm, ⟨47, _⟩ => ⟨S4x4x2x8192x8448, .f32⟩
  | .hbm, ⟨48, _⟩ => ⟨S4x4x2x8192x8448, .f32⟩
  | .hbm, ⟨49, _⟩ => ⟨S4x4x1x8192x8448, .f32⟩
  | .hbm, ⟨50, _⟩ => ⟨S4x4x8192x8448, .f32⟩
  | .hbm, ⟨51, _⟩ => ⟨S4x4x1x8192x8448, .f32⟩
  | .hbm, ⟨52, _⟩ => ⟨S4x4x8192x8448, .f32⟩
  | .hbm, ⟨53, _⟩ => ⟨S4x4x8192x8448, .f32⟩
  | .hbm, ⟨54, _⟩ => ⟨S4x4x8192x8448, .f32⟩
  | .hbm, ⟨55, _⟩ => ⟨S4x4x8192x8448, .f32⟩
  | .hbm, ⟨56, _⟩ => ⟨S4x4x128x8192, .f32⟩
  | .hbm, ⟨57, _⟩ => ⟨S4x8192x4x128, .f32⟩
  | .hbm, ⟨58, _⟩ => ⟨S4x8192x4x128, .f32⟩
  | .hbm, ⟨59, _⟩ => ⟨S_, .f32⟩
  | .hbm, ⟨60, _⟩ => ⟨S4x8192x4, .f32⟩
  | .hbm, ⟨61, _⟩ => ⟨S4x8192x4x1, .f32⟩
  | .hbm, ⟨62, _⟩ => ⟨S_, .f32⟩
  | .hbm, ⟨63, _⟩ => ⟨S4x8192x4x1, .f32⟩
  | .hbm, ⟨64, _⟩ => ⟨S4x8192x4x1, .f32⟩
  | .hbm, ⟨65, _⟩ => ⟨S_, .f32⟩
  | .hbm, ⟨66, _⟩ => ⟨S4x8192x4x1, .f32⟩
  | .hbm, ⟨67, _⟩ => ⟨S4x8192x4x1, .f32⟩
  | .hbm, ⟨68, _⟩ => ⟨S4x8192x4x1, .f32⟩
  | .hbm, ⟨69, _⟩ => ⟨S4x8192x4x128, .f32⟩
  | .hbm, ⟨70, _⟩ => ⟨S4x8192x4x128, .f32⟩
  | .hbm, ⟨71, _⟩ => ⟨S1x1x1x128, .f32⟩
  | .hbm, ⟨72, _⟩ => ⟨S4x8192x4x128, .f32⟩
  | .hbm, ⟨73, _⟩ => ⟨S4x8192x4x128, .f32⟩
  | .hbm, ⟨74, _⟩ => ⟨S_, .f32⟩
  | .hbm, ⟨75, _⟩ => ⟨S4x8192x4x128, .f32⟩
  | .hbm, ⟨76, _⟩ => ⟨S4x8192x4x128, .f32⟩
  | .hbm, ⟨77, _⟩ => ⟨S4x8192x512, .f32⟩
  | .hbm, ⟨78, _⟩ => ⟨S4x8192x512, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1x6144 : Shape := ⟨3, ![4, 1, 6144]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x8192x1024 : Shape := ⟨3, ![4, 8192, 1024]⟩
abbrev S4x1x6144 : Shape := ⟨3, ![4, 1, 6144]⟩
abbrev S1024 : Shape := ⟨1, ![1024]⟩
abbrev S1024x5632 : Shape := ⟨2, ![1024, 5632]⟩
abbrev S2816x1024 : Shape := ⟨2, ![2816, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 68
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x5632, .f32⟩
  | .hbm, ⟨36, _⟩ => ⟨S4x8192x2816, .f32⟩
  | .hbm, ⟨37, _⟩ => ⟨S4x8192x2816, .f32⟩
  | .hbm, ⟨38, _⟩ => ⟨S4x8192x2816, .f32⟩
  | .hbm, ⟨39, _⟩ => ⟨S4x8192x2816, .f32⟩
  | .hbm, ⟨40, _⟩ => ⟨S_, .f32⟩
  | .hbm, ⟨41, _⟩ => ⟨S4x8192x2816, .f32⟩
  | .hbm, ⟨42, _⟩ => ⟨S4x8192x2816, .f32⟩
  | .hbm, ⟨43, _⟩ => ⟨S_, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S_, .f32⟩
  | .hbm, ⟨54, _⟩ => ⟨S4x8192, .f32⟩
  | .hbm, ⟨55, _⟩ => ⟨S4x8192x1, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S_, .f32⟩
  | .hbm, ⟨60, _⟩ => ⟨S4x8192x1, .f32⟩
  | .hbm, ⟨61, _⟩ => ⟨S4x8192x1, .f32⟩
  | .hbm, ⟨62, _⟩ => ⟨S4x8192x1, .f32⟩
  | .hbm, ⟨63, _⟩ => ⟨S4x8192x1024, .f32⟩
  | .hbm, ⟨64, _⟩ => ⟨S4x8192x1024, .f32⟩
  | .hbm, ⟨65, _⟩ => ⟨S1x1x1024, .f32⟩
  | .hbm, ⟨66, _⟩ => ⟨S4x8192x1024, .f32⟩
  | .hbm, ⟨67, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x512 : Shape := ⟨3, ![4, 8192, 512]⟩
abbrev S4x8192x3072 : Shape := ⟨3, ![4, 8192, 3072]⟩
abbrev S4x1x6144 : Shape := ⟨3, ![4, 1, 6144]⟩
abbrev S512x1024 : Shape := ⟨2, ![512, 1024]⟩
abbrev S1024x1024 : Shape := ⟨2, ![1024, 1024]⟩
abbrev S1x512x1024 : Shape := ⟨3, ![1, 512, 1024]⟩
abbrev S1x512x512 : Shape := ⟨3, ![1, 512, 512]⟩
abbrev S1x512x3072 : Shape := ⟨3, ![1, 512, 3072]⟩
abbrev S1x1x1024 : Shape := ⟨3, ![1, 1, 1024]⟩
abbrev S512x512 : Shape := ⟨2, ![512, 512]⟩
abbrev S1x1024 : Shape := ⟨2, ![1, 1024]⟩

abbrev nBuf : Space → Nat
  | .hbm => 18
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x3072, .f32⟩
  | .hbm, ⟨5, _⟩ => ⟨S4x1x6144, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S4x8192x512, .bf16⟩
  | .hbm, ⟨11, _⟩ => ⟨S4x8192x512, .bf16⟩
  | .hbm, ⟨12, _⟩ => ⟨S4x8192x3072, .bf16⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .f32⟩
  | .local _ .vmem, ⟨7, _⟩ => ⟨S1x512x512, .f32⟩
  | .local _ .vmem, ⟨8, _⟩ => ⟨S1x512x3072, .bf16⟩
  | .local _ .vmem, ⟨9, _⟩ => ⟨S1x512x3072, .bf16⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S4x8192x1024 : Shape := ⟨3, ![4, 8192, 1024]⟩
abbrev S4x8192x512 : Shape := ⟨3, ![4, 8192, 512]⟩
abbrev S4x8192x3072 : Shape := ⟨3, ![4, 8192, 3072]⟩
abbrev S4x1x6144 : Shape := ⟨3, ![4, 1, 6144]⟩
abbrev S512x1024 : Shape := ⟨2, ![512, 1024]⟩
abbrev S1024x1024 : Shape := ⟨2, ![1024, 1024]⟩
abbrev S4x1x1024 : Shape := ⟨3, ![4, 1, 1024]⟩
abbrev S4x8192x3x1024 : Shape := ⟨4, ![4, 8192, 3, 1024]⟩
abbrev S4x8192x1x1024 : Shape := ⟨4, ![4, 8192, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x3072, .f32⟩
  | .hbm, ⟨5, _⟩ => ⟨S4x1x6144, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x8192x3x1024, .f32⟩
  | .hbm, ⟨17, _⟩ => ⟨S4x8192x1x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1x6144 : Shape := ⟨3, ![4, 1, 6144]⟩
abbrev S1024 : Shape := ⟨1, ![1024]⟩
abbrev S1024x6656 : Shape := ⟨2, ![1024, 6656]⟩
abbrev S4x128x128 : Shape := ⟨3, ![4, 128, 128]⟩
abbrev S512 : Shape := ⟨1, ![512]⟩
abbrev S3x1536 : Shape := ⟨2, ![3, 1536]⟩
abbrev S1536 : Shape := ⟨1, ![1536]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S1x512 : Shape := ⟨2, ![1, 512]⟩
abbrev S1x1536 : Shape := ⟨2, ![1, 1536]⟩
abbrev S4x8192x512 : Shape := ⟨3, ![4, 8192, 512]⟩
abbrev S4x8192x3072 : Shape := ⟨3, ![4, 8192, 3072]⟩
abbrev S1x256x1024 : Shape := ⟨3, ![1, 256, 1024]⟩
abbrev S1x8x1024 : Shape := ⟨3, ![1, 8, 1024]⟩
abbrev S1x1x1024 : Shape := ⟨3, ![1, 1, 1024]⟩
abbrev S256x128 : Shape := ⟨2, ![256, 128]⟩
abbrev S1x256x512 : Shape := ⟨3, ![1, 256, 512]⟩
abbrev S1x256x3072 : Shape := ⟨3, ![1, 256, 3072]⟩
abbrev S272x512 : Shape := ⟨2, ![272, 512]⟩
abbrev S272x1536 : Shape := ⟨2, ![272, 1536]⟩
abbrev S256x1024 : Shape := ⟨2, ![256, 1024]⟩
abbrev S256 : Shape := ⟨1, ![256]⟩
abbrev S256x1 : Shape := ⟨2, ![256, 1]⟩
abbrev S8x1024 : Shape := ⟨2, ![8, 1024]⟩
abbrev S8 : Shape := ⟨1, ![8]⟩
abbrev S8x1 : Shape := ⟨2, ![8, 1]⟩
abbrev S272x1024 : Shape := ⟨2, ![272, 1024]⟩
abbrev S1024x2048 : Shape := ⟨2, ![1024, 2048]⟩
abbrev S272x2048 : Shape := ⟨2, ![272, 2048]⟩
abbrev S272x1 : Shape := ⟨2, ![272, 1]⟩
abbrev S1x128x128 : Shape := ⟨3, ![1, 128, 128]⟩
abbrev S128x128 : Shape := ⟨2, ![128, 128]⟩
abbrev S1x128 : Shape := ⟨2, ![1, 128]⟩
abbrev S1x256x128 : Shape := ⟨3, ![1, 256, 128]⟩
abbrev S1024x1024 : Shape := ⟨2, ![1024, 1024]⟩
abbrev S1024x512 : Shape := ⟨2, ![1024, 512]⟩
abbrev S256x512 : Shape := ⟨2, ![256, 512]⟩

abbrev nBuf : Space → Nat
  | .hbm => 103
  | .vmem => 38
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1024, .f32⟩
  | .hbm, ⟨3, _⟩ => ⟨S1024x6656, .f32⟩
  | .hbm, ⟨4, _⟩ => ⟨S4x128x128, .f32⟩
  | .hbm, ⟨5, _⟩ => ⟨S512, .f32⟩
  | .hbm, ⟨6, _⟩ => ⟨S3x1536, .f32⟩
  | .hbm, ⟨7, _⟩ => ⟨S1536, .f32⟩
  | .hbm, ⟨8, _⟩ => ⟨S1024x6656, .bf16⟩
  | .hbm, ⟨9, _⟩ => ⟨S8192, .i32⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i1⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S_, .i1⟩
  | .hbm, ⟨45, _⟩ => ⟨S8192, .i1⟩
  | .hbm, ⟨46, _⟩ => ⟨S8192, .i1⟩
  | .hbm, ⟨47, _⟩ => ⟨S8192, .i1⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S8192, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S8192x1, .f32⟩
  | .hbm, ⟨66, _⟩ => ⟨S1x16, .f32⟩
  | .hbm, ⟨67, _⟩ => ⟨S8192x16, .f32⟩
  | .hbm, ⟨68, _⟩ => ⟨S8192x16, .f32⟩
  | .hbm, ⟨69, _⟩ => ⟨S8192x16, .f32⟩
  | .hbm, ⟨70, _⟩ => ⟨S8192x1, .f32⟩
  | .hbm, ⟨71, _⟩ => ⟨S1x16, .f32⟩
  | .hbm, ⟨72, _⟩ => ⟨S8192x16, .f32⟩
  | .hbm, ⟨73, _⟩ => ⟨S8192x16, .f32⟩
  | .hbm, ⟨74, _⟩ => ⟨S8192x16, .f32⟩
  | .hbm, ⟨75, _⟩ => ⟨S8192x16, .f32⟩
  | .hbm, ⟨76, _⟩ => ⟨S8192x16, .f32⟩
  | .hbm, ⟨77, _⟩ => ⟨S8192x64, .f32⟩
  | .hbm, ⟨78, _⟩ => ⟨S8192x16, .f32⟩
  | .hbm, ⟨79, _⟩ => ⟨S8192x16, .f32⟩
  | .hbm, ⟨80, _⟩ => ⟨S8192x16, .f32⟩
  | .hbm, ⟨81, _⟩ => ⟨S8192x16, .f32⟩
  | .hbm, ⟨82, _⟩ => ⟨S8192x16, .f32⟩
  | .hbm, ⟨83, _⟩ => ⟨S8192x16, .f32⟩
  | .hbm, ⟨84, _⟩ => ⟨S8192x64, .f32⟩
  | .hbm, ⟨85, _⟩ => ⟨S1x8192x1x64, .f32⟩
  | .hbm, ⟨86, _⟩ => ⟨S1x8192x2x64, .f32⟩
  | .hbm, ⟨87, _⟩ => ⟨S8192x128, .f32⟩
  | .hbm, ⟨88, _⟩ => ⟨S1x8192x1x64, .f32⟩
  | .hbm, ⟨89, _⟩ => ⟨S1x8192x2x64, .f32⟩
  | .hbm, ⟨90, _⟩ => ⟨S8192x128, .f32⟩
  | .hbm, ⟨91, _⟩ => ⟨S1x1024, .f32⟩
  | .hbm, ⟨92, _⟩ => ⟨S4x128x128, .bf16⟩
  | .hbm, ⟨93, _⟩ => ⟨S1x512, .f32⟩
  | .hbm, ⟨94, _⟩ => ⟨S1x1536, .f32⟩
  | .hbm, ⟨95, _⟩ => ⟨S4x8192x512, .bf16⟩
  | .hbm, ⟨96, _⟩ => ⟨S4x8192x512, .f32⟩
  | .hbm, ⟨97, _⟩ => ⟨S4x8192x512, .f32⟩
  | .hbm, ⟨98, _⟩ => ⟨S4x8192x512, .f32⟩
  | .hbm, ⟨99, _⟩ => ⟨S4x8192x3072, .bf16⟩
  | .hbm, ⟨100, _⟩ => ⟨S4x8192x512, .bf16⟩
  | .hbm, ⟨101, _⟩ => ⟨S4x8192x512, .bf16⟩
  | .hbm, ⟨102, _⟩ => ⟨S4x8192x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x6656, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S4x128x128, .bf16⟩
  | .local _ .vmem, ⟨17, _⟩ => ⟨S1x512, .f32⟩
  | .local _ .vmem, ⟨18, _⟩ => ⟨S3x1536, .f32⟩
  | .local _ .vmem, ⟨19, _⟩ => ⟨S1x1536, .f32⟩
  | .local _ .vmem, ⟨20, _⟩ => ⟨S1x256x512, .bf16⟩
  | .local _ .vmem, ⟨21, _⟩ => ⟨S1x256x512, .bf16⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x256x3072, .bf16⟩
  | .local _ .vmem, ⟨29, _⟩ => ⟨S1x256x3072, .bf16⟩
  | .local _ .vmem, ⟨30, _⟩ => ⟨S1x256x512, .bf16⟩
  | .local _ .vmem, ⟨31, _⟩ => ⟨S1x256x512, .bf16⟩
  | .local _ .vmem, ⟨32, _⟩ => ⟨S1x256x512, .bf16⟩
  | .local _ .vmem, ⟨33, _⟩ => ⟨S1x256x512, .bf16⟩
  | .local _ .vmem, ⟨34, _⟩ => ⟨S1x256x512, .bf16⟩
  | .local _ .vmem, ⟨35, _⟩ => ⟨S1x256x512, .bf16⟩
  | .local _ .vmem, ⟨36, _⟩ => ⟨S272x512, .f32⟩
  | .local _ .vmem, ⟨37, _⟩ => ⟨S272x1536, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_cst : Ref sig .tc := ⟨.hbm, 53, rfl⟩
abbrev main_v7 : Ref sig .tc := ⟨.hbm, 54, rfl⟩
abbrev main_v8 : Ref sig .tc := ⟨.hbm, 55, rfl⟩
abbrev main_cst_1 : Ref sig .tc := ⟨.hbm, 56, rfl⟩
abbrev main_v9 : Ref sig .tc := ⟨.hbm, 57, rfl⟩
abbrev main_v10 : Ref sig .tc := ⟨.hbm, 58, rfl⟩
abbrev main_cst_2 : Ref sig .tc := ⟨.hbm, 59, rfl⟩
abbrev main_v11 : Ref sig .tc := ⟨.hbm, 60, rfl⟩
abbrev main_v12 : Ref sig .tc := ⟨.hbm, 61, rfl⟩
abbrev main_cst_3 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45_0 : Ref sig .tc := ⟨.hbm, 95, rfl⟩
abbrev main_v45_1 : Ref sig .tc := ⟨.hbm, 96, rfl⟩
abbrev main_v45_2 : Ref sig .tc := ⟨.hbm, 97, rfl⟩
abbrev main_v45_3 : Ref sig .tc := ⟨.hbm, 98, rfl⟩
abbrev main_v45_4 : Ref sig .tc := ⟨.hbm, 99, rfl⟩
abbrev main_v45_5 : Ref sig .tc := ⟨.hbm, 100, rfl⟩
abbrev main_v45_6 : Ref sig .tc := ⟨.hbm, 101, rfl⟩
abbrev main_v45_7 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x6656 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x3072 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference4Ideal.lean ====
abbrev S4x8192x1024 : Shape := ⟨3, ![4, 8192, 1024]⟩
abbrev S4x1x6144 : Shape := ⟨3, ![4, 1, 6144]⟩
abbrev S1024 : Shape := ⟨1, ![1024]⟩
abbrev S1024x6656 : Shape := ⟨2, ![1024, 6656]⟩
abbrev S4x128x128 : Shape := ⟨3, ![4, 128, 128]⟩
abbrev S512 : Shape := ⟨1, ![512]⟩
abbrev S3x1536 : Shape := ⟨2, ![3, 1536]⟩
abbrev S1536 : Shape := ⟨1, ![1536]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6656 : Shape := ⟨3, ![4, 8192, 6656]⟩
abbrev S4x8192x3072 : Shape := ⟨3, ![4, 8192, 3072]⟩
abbrev S4x8192x512 : Shape := ⟨3, ![4, 8192, 512]⟩
abbrev S4x8192x1536 : Shape := ⟨3, ![4, 8192, 1536]⟩
abbrev S4x8194x1536 : Shape := ⟨3, ![4, 8194, 1536]⟩
abbrev S1x1536 : Shape := ⟨2, ![1, 1536]⟩
abbrev S1x1x1536 : Shape := ⟨3, ![1, 1, 1536]⟩
abbrev S128 : Shape := ⟨1, ![128]⟩
abbrev S64 : Shape := ⟨1, ![64]⟩
abbrev S128x1 : Shape := ⟨2, ![128, 1]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x2x16 : Shape := ⟨3, ![8192, 2, 16]⟩
abbrev S4x8192x8x2x64 : Shape := ⟨5, ![4, 8192, 8, 2, 64]⟩
abbrev S4x8192x8x2x2x2x16 : Shape := ⟨7, ![4, 8192, 8, 2, 2, 2, 16]⟩
abbrev S1x8192x1x1x2x16 : Shape := ⟨6, ![1, 8192, 1, 1, 2, 16]⟩
abbrev S4x8192x8x2x2x1x16 : Shape := ⟨7, ![4, 8192, 8, 2, 2, 1, 16]⟩
abbrev S4x8192x8x2x2x16 : Shape := ⟨6, ![4, 8192, 8, 2, 2, 16]⟩

abbrev nBuf : Space → Nat
  | .hbm => 147
  | .vmem => 0
  | .smem => 0
  | _ => 0

abbrev hbmTy0_0 (i : Nat) : BufTy := match i % 128 with
  | 0 => ⟨S4x8192x1024, .f32⟩
  | 1 => ⟨S4x1x6144, .f32⟩
  | 2 => ⟨S1024, .f32⟩
  | 3 => ⟨S1024x6656, .f32⟩
  | 4 => ⟨S4x128x128, .f32⟩
  | 5 => ⟨S512, .f32⟩
  | 6 => ⟨S3x1536, .f32⟩
  | 7 => ⟨S1536, .f32⟩
  | 8 => ⟨S4x1x1024, .f32⟩
  | 9 => ⟨S4x1x1024, .f32⟩
  | 10 => ⟨S4x1x1024, .f32⟩
  | 11 => ⟨S4x1x1024, .f32⟩
  | 12 => ⟨S4x1x1024, .f32⟩
  | 13 => ⟨S4x1x1024, .f32⟩
  | 14 => ⟨S4x8192x1024, .f32⟩
  | 15 => ⟨S_, .f32⟩
  | 16 => ⟨S4x8192, .f32⟩
  | 17 => ⟨S4x8192x1, .f32⟩
  | 18 => ⟨S_, .f32⟩
  | 19 => ⟨S4x8192x1, .f32⟩
  | 20 => ⟨S4x8192x1, .f32⟩
  | 21 => ⟨S_, .f32⟩
  | 22 => ⟨S4x8192x1, .f32⟩
  | 23 => ⟨S4x8192x1, .f32⟩
  | 24 => ⟨S4x8192x1, .f32⟩
  | 25 => ⟨S4x8192x1024, .f32⟩
  | 26 => ⟨S4x8192x1024, .f32⟩
  | 27 => ⟨S1x1x1024, .f32⟩
  | 28 => ⟨S4x8192x1024, .f32⟩
  | 29 => ⟨S4x8192x1024, .f32⟩
  | 30 => ⟨S_, .f32⟩
  | 31 => ⟨S4x1x1024, .f32⟩
  | 32 => ⟨S4x1x1024, .f32⟩
  | 33 => ⟨S4x8192x1024, .f32⟩
  | 34 => ⟨S4x8192x1024, .f32⟩
  | 35 => ⟨S4x8192x1024, .f32⟩
  | 36 => ⟨S4x8192x1024, .f32⟩
  | 37 => ⟨S4x8192x6656, .f32⟩
  | 38 => ⟨S4x8192x3072, .f32⟩
  | 39 => ⟨S4x8192x3072, .f32⟩
  | 40 => ⟨S4x8192x3072, .f32⟩
  | 41 => ⟨S_, .f32⟩
  | 42 => ⟨S4x8192x3072, .f32⟩
  | 43 => ⟨S4x8192x3072, .f32⟩
  | 44 => ⟨S_, .f32⟩
  | 45 => ⟨S4x8192x3072, .f32⟩
  | 46 => ⟨S4x8192x3072, .f32⟩
  | 47 => ⟨S4x8192x3072, .bf16⟩
  | 48 => ⟨S4x8192x512, .f32⟩
  | 49 => ⟨S4x8192x512, .bf16⟩
  | 50 => ⟨S4x8192x1536, .f32⟩
  | 51 => ⟨S_, .i32⟩
  | 52 => ⟨S_, .f32⟩
  | 53 => ⟨S4x8194x1536, .f32⟩
  | 54 => ⟨S4x8192x1536, .f32⟩
  | 55 => ⟨S1x1536, .f32⟩
  | 56 => ⟨S1536, .f32⟩
  | 57 => ⟨S1x1x1536, .f32⟩
  | 58 => ⟨S4x8192x1536, .f32⟩
  | 59 => ⟨S4x8192x1536, .f32⟩
  | 60 => ⟨S4x8192x1536, .f32⟩
  | 61 => ⟨S1x1536, .f32⟩
  | 62 => ⟨S1536, .f32⟩
  | 63 => ⟨S1x1x1536, .f32⟩
  | 64 => ⟨S4x8192x1536, .f32⟩
  | 65 => ⟨S4x8192x1536, .f32⟩
  | 66 => ⟨S4x8192x1536, .f32⟩
  | 67 => ⟨S4x8192x1536, .f32⟩
  | 68 => ⟨S1x1536, .f32⟩
  | 69 => ⟨S1536, .f32⟩
  | 70 => ⟨S1x1x1536, .f32⟩
  | 71 => ⟨S4x8192x1536, .f32⟩
  | 72 => ⟨S4x8192x1536, .f32⟩
  | 73 => ⟨S4x8192x1536, .f32⟩
  | 74 => ⟨S1x1x1536, .f32⟩
  | 75 => ⟨S4x8192x1536, .f32⟩
  | 76 => ⟨S4x8192x1536, .f32⟩
  | 77 => ⟨S4x8192x512, .f32⟩
  | 78 => ⟨S4x8192x512, .f32⟩
  | 79 => ⟨S4x8192x512, .f32⟩
  | 80 => ⟨S128, .f32⟩
  | 81 => ⟨S64, .f32⟩
  | 82 => ⟨S128x1, .f32⟩
  | 83 => ⟨S128x64, .f32⟩
  | 84 => ⟨S8192, .f32⟩
  | 85 => ⟨S1x64, .f32⟩
  | 86 => ⟨S128x64, .f32⟩
  | 87 => ⟨S8192, .f32⟩
  | 88 => ⟨S16, .f32⟩
  | 89 => ⟨S_, .f32⟩
  | 90 => ⟨S16, .f32⟩
  | 91 => ⟨S16, .f32⟩
  | 92 => ⟨S_, .f32⟩
  | 93 => ⟨S16, .f32⟩
  | 94 => ⟨S16, .f32⟩
  | 95 => ⟨S_, .f32⟩
  | 96 => ⟨S16, .f32⟩
  | 97 => ⟨S16, .f32⟩
  | 98 => ⟨S_, .f32⟩
  | 99 => ⟨S16, .f32⟩
  | 100 => ⟨S16, .f32⟩
  | 101 => ⟨S8192x1, .f32⟩
  | 102 => ⟨S1x16, .f32⟩
  | 103 => ⟨S8192x16, .f32⟩
  | 104 => ⟨S8192x16, .f32⟩
  | 105 => ⟨S8192x16, .f32⟩
  | 106 => ⟨S8192x1, .f32⟩
  | 107 => ⟨S1x16, .f32⟩
  | 108 => ⟨S8192x16, .f32⟩
  | 109 => ⟨S8192x16, .f32⟩
  | 110 => ⟨S8192x16, .f32⟩
  | 111 => ⟨S8192x1x16, .f32⟩
  | 112 => ⟨S8192x1x16, .f32⟩
  | 113 => ⟨S8192x2x16, .f32⟩
  | 114 => ⟨S8192x2x16, .f32⟩
  | 115 => ⟨S8192x2x16, .f32⟩
  | 116 => ⟨S4x8192x1024, .f32⟩
  | 117 => ⟨S4x8192x8x2x64, .f32⟩
  | 118 => ⟨S4x8192x8x2x2x2x16, .f32⟩
  | 119 => ⟨S1x8192x1x1x2x16, .f32⟩
  | 120 => ⟨S1x8192x1x1x2x16, .f32⟩
  | 121 => ⟨S4x8192x8x2x2x1x16, .f32⟩
  | 122 => ⟨S4x8192x8x2x2x16, .f32⟩
  | 123 => ⟨S4x8192x8x2x2x1x16, .f32⟩
  | 124 => ⟨S4x8192x8x2x2x16, .f32⟩
  | 125 => ⟨S4x8192x8x2x2x16, .f32⟩
  | 126 => ⟨S4x8192x8x2x2x16, .f32⟩
  | 127 => ⟨S4x8192x8x2x2x16, .f32⟩
  | _ => ⟨S4x8192x1024, .f32⟩

abbrev hbmTy0_1 (i : Nat) : BufTy := match i % 128 with
  | 0 => ⟨S4x8192x8x2x2x16, .f32⟩
  | 1 => ⟨S4x8192x8x2x2x16, .f32⟩
  | 2 => ⟨S4x8192x8x2x2x16, .f32⟩
  | 3 => ⟨S4x8192x8x2x2x16, .f32⟩
  | 4 => ⟨S4x8192x8x2x2x16, .f32⟩
  | 5 => ⟨S4x8192x8x2x2x16, .f32⟩
  | 6 => ⟨S4x8192x8x2x2x16, .f32⟩
  | 7 => ⟨S4x8192x8x2x2x1x16, .f32⟩
  | 8 => ⟨S4x8192x8x2x2x1x16, .f32⟩
  | 9 => ⟨S4x8192x8x2x2x2x16, .f32⟩
  | 10 => ⟨S4x8192x8x2x64, .f32⟩
  | 11 => ⟨S4x8192x1024, .f32⟩
  | 12 => ⟨S4x8192x512, .f32⟩
  | 13 => ⟨S_, .f32⟩
  | 14 => ⟨S4x8192x512, .f32⟩
  | 15 => ⟨S4x8192x512, .f32⟩
  | 16 => ⟨S4x8192x512, .bf16⟩
  | 17 => ⟨S4x8192x512, .f32⟩
  | 18 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_call0_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_5 : Ref sig .tc := ⟨.hbm, 89, rfl⟩
abbrev main_v73 : Ref sig .tc := ⟨.hbm, 90, rfl⟩
abbrev main_v74 : Ref sig .tc := ⟨.hbm, 91, rfl⟩
abbrev main_cst_6 : Ref sig .tc := ⟨.hbm, 92, rfl⟩
abbrev main_v75 : Ref sig .tc := ⟨.hbm, 93, rfl⟩
abbrev main_v76 : Ref sig .tc := ⟨.hbm, 94, rfl⟩
abbrev main_cst_7 : Ref sig .tc := ⟨.hbm, 95, rfl⟩
abbrev main_v77 : Ref sig .tc := ⟨.hbm, 96, rfl⟩
abbrev main_v78 : Ref sig .tc := ⟨.hbm, 97, rfl⟩
abbrev main_cst_8 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_cst_9 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩

abbrev nD : Nat := 1
abbrev τ : Topo := Topo.v7x

variable {F : FTy → Type} [FloatOps F]
-- ==== Proof.Parts.lean ====
/-
  The parts of the body that read no named constant, each equal to its skeleton at any float operations alone.
-/
module

public import proofs.«01_k».proof.Proof.Gen.KernelIdeal.Skeleton

@[expose] public section

set_option maxRecDepth 65536

namespace Cert.KernelIdeal

open Idealize.ShloMosaic

variable {F : FTy → Type} [FloatOps F]

theorem k0_part2_eq_skeleton : k0_part2 (F := F) = Gen.k0_part2_skel (F := F) := rfl
theorem k0_part3_eq_skeleton : k0_part3 (F := F) = Gen.k0_part3_skel (F := F) := rfl
theorem k0_part4_eq_skeleton : k0_part4 (F := F) = Gen.k0_part4_skel (F := F) := rfl
theorem k0_part5_eq_skeleton : k0_part5 (F := F) = Gen.k0_part5_skel (F := F) := rfl
theorem k0_part6_eq_skeleton : k0_part6 (F := F) = Gen.k0_part6_skel (F := F) := rfl
theorem k0_part7_eq_skeleton : k0_part7 (F := F) = Gen.k0_part7_skel (F := F) := rfl
theorem k0_part8_eq_skeleton : k0_part8 (F := F) = Gen.k0_part8_skel (F := F) := rfl
theorem k0_part9_eq_skeleton : k0_part9 (F := F) = Gen.k0_part9_skel (F := F) := rfl
theorem k0_part10_eq_skeleton : k0_part10 (F := F) = Gen.k0_part10_skel (F := F) := rfl
theorem k0_part11_eq_skeleton : k0_part11 (F := F) = Gen.k0_part11_skel (F := F) := rfl
theorem k0_part12_eq_skeleton : k0_part12 (F := F) = Gen.k0_part12_skel (F := F) := rfl
theorem k0_part13_eq_skeleton : k0_part13 (F := F) = Gen.k0_part13_skel (F := F) := rfl
theorem k0_part14_eq_skeleton : k0_part14 (F := F) = Gen.k0_part14_skel (F := F) := rfl
theorem k0_part15_eq_skeleton : k0_part15 (F := F) = Gen.k0_part15_skel (F := F) := rfl
theorem k0_part16_eq_skeleton : k0_part16 (F := F) = Gen.k0_part16_skel (F := F) := rfl
theorem k0_part17_eq_skeleton : k0_part17 (F := F) = Gen.k0_part17_skel (F := F) := rfl
theorem k0_part18_eq_skeleton : k0_part18 (F := F) = Gen.k0_part18_skel (F := F) := rfl
theorem k0_part19_eq_skeleton : k0_part19 (F := F) = Gen.k0_part19_skel (F := F) := rfl
theorem k0_part20_eq_skeleton : k0_part20 (F := F) = Gen.k0_part20_skel (F := F) := rfl
theorem k0_part21_eq_skeleton : k0_part21 (F := F) = Gen.k0_part21_skel (F := F) := rfl
theorem k0_part22_eq_skeleton : k0_part22 (F := F) = Gen.k0_part22_skel (F := F) := rfl
theorem k0_part23_eq_skeleton : k0_part23 (F := F) = Gen.k0_part23_skel (F := F) := rfl
theorem k0_part24_eq_skeleton : k0_part24 (F := F) = Gen.k0_part24_skel (F := F) := rfl
theorem k0_part25_eq_skeleton : k0_part25 (F := F) = Gen.k0_part25_skel (F := F) := rfl
theorem k0_part26_eq_skeleton : k0_part26 (F := F) = Gen.k0_part26_skel (F := F) := rfl
theorem k0_part27_eq_skeleton : k0_part27 (F := F) = Gen.k0_part27_skel (F := F) := rfl
theorem k0_part28_eq_skeleton : k0_part28 (F := F) = Gen.k0_part28_skel (F := F) := rfl
theorem k0_part29_eq_skeleton : k0_part29 (F := F) = Gen.k0_part29_skel (F := F) := rfl
theorem k0_part30_eq_skeleton : k0_part30 (F := F) = Gen.k0_part30_skel (F := F) := rfl
theorem k0_part31_eq_skeleton : k0_part31 (F := F) = Gen.k0_part31_skel (F := F) := rfl
theorem k0_part32_eq_skeleton : k0_part32 (F := F) = Gen.k0_part32_skel (F := F) := rfl
theorem k0_part33_eq_skeleton : k0_part33 (F := F) = Gen.k0_part33_skel (F := F) := rfl
theorem k0_part34_eq_skeleton : k0_part34 (F := F) = Gen.k0_part34_skel (F := F) := rfl
theorem k0_part35_eq_skeleton : k0_part35 (F := F) = Gen.k0_part35_skel (F := F) := rfl
theorem k0_part36_eq_skeleton : k0_part36 (F := F) = Gen.k0_part36_skel (F := F) := rfl
theorem k0_part37_eq_skeleton : k0_part37 (F := F) = Gen.k0_part37_skel (F := F) := rfl
theorem k0_part38_eq_skeleton : k0_part38 (F := F) = Gen.k0_part38_skel (F := F) := rfl
theorem k0_part39_eq_skeleton : k0_part39 (F := F) = Gen.k0_part39_skel (F := F) := rfl
theorem k0_part40_eq_skeleton : k0_part40 (F := F) = Gen.k0_part40_skel (F := F) := rfl
theorem k0_part41_eq_skeleton : k0_part41 (F := F) = Gen.k0_part41_skel (F := F) := rfl
theorem k0_part42_eq_skeleton : k0_part42 (F := F) = Gen.k0_part42_skel (F := F) := rfl
theorem k0_part43_eq_skeleton : k0_part43 (F := F) = Gen.k0_part43_skel (F := F) := rfl
theorem k0_part45_eq_skeleton : k0_part45 (F := F) = Gen.k0_part45_skel (F := F) := rfl
theorem k0_part46_eq_skeleton : k0_part46 (F := F) = Gen.k0_part46_skel (F := F) := rfl
theorem k0_part47_eq_skeleton : k0_part47 (F := F) = Gen.k0_part47_skel (F := F) := rfl
theorem k0_part48_eq_skeleton : k0_part48 (F := F) = Gen.k0_part48_skel (F := F) := rfl
theorem k0_part49_eq_skeleton : k0_part49 (F := F) = Gen.k0_part49_skel (F := F) := rfl
theorem k0_part50_eq_skeleton : k0_part50 (F := F) = Gen.k0_part50_skel (F := F) := rfl
theorem k0_part51_eq_skeleton : k0_part51 (F := F) = Gen.k0_part51_skel (F := F) := rfl
theorem k0_part52_eq_skeleton : k0_part52 (F := F) = Gen.k0_part52_skel (F := F) := rfl
theorem k0_part53_eq_skeleton : k0_part53 (F := F) = Gen.k0_part53_skel (F := F) := rfl
theorem k0_part54_eq_skeleton : k0_part54 (F := F) = Gen.k0_part54_skel (F := F) := rfl
theorem k0_part55_eq_skeleton : k0_part55 (F := F) = Gen.k0_part55_skel (F := F) := rfl
theorem k0_part56_eq_skeleton : k0_part56 (F := F) = Gen.k0_part56_skel (F := F) := rfl
theorem k0_part57_eq_skeleton : k0_part57 (F := F) = Gen.k0_part57_skel (F := F) := rfl
theorem k0_part58_eq_skeleton : k0_part58 (F := F) = Gen.k0_part58_skel (F := F) := rfl
theorem k0_part59_eq_skeleton : k0_part59 (F := F) = Gen.k0_part59_skel (F := F) := rfl
theorem k0_part60_eq_skeleton : k0_part60 (F := F) = Gen.k0_part60_skel (F := F) := rfl
theorem k0_part61_eq_skeleton : k0_part61 (F := F) = Gen.k0_part61_skel (F := F) := rfl
theorem k0_part62_eq_skeleton : k0_part62 (F := F) = Gen.k0_part62_skel (F := F) := rfl
theorem k0_part63_eq_skeleton : k0_part63 (F := F) = Gen.k0_part63_skel (F := F) := rfl
theorem k0_part64_eq_skeleton : k0_part64 (F := F) = Gen.k0_part64_skel (F := F) := rfl
theorem k0_part65_eq_skeleton : k0_part65 (F := F) = Gen.k0_part65_skel (F := F) := rfl
theorem k0_part66_eq_skeleton : k0_part66 (F := F) = Gen.k0_part66_skel (F := F) := rfl
theorem k0_part67_eq_skeleton : k0_part67 (F := F) = Gen.k0_part67_skel (F := F) := rfl
theorem k0_part68_eq_skeleton : k0_part68 (F := F) = Gen.k0_part68_skel (F := F) := rfl
theorem k0_part69_eq_skeleton : k0_part69 (F := F) = Gen.k0_part69_skel (F := F) := rfl
theorem k0_part70_eq_skeleton : k0_part70 (F := F) = Gen.k0_part70_skel (F := F) := rfl
theorem k0_part71_eq_skeleton : k0_part71 (F := F) = Gen.k0_part71_skel (F := F) := rfl
theorem k0_part72_eq_skeleton : k0_part72 (F := F) = Gen.k0_part72_skel (F := F) := rfl
theorem k0_part73_eq_skeleton : k0_part73 (F := F) = Gen.k0_part73_skel (F := F) := rfl
theorem k0_part74_eq_skeleton : k0_part74 (F := F) = Gen.k0_part74_skel (F := F) := rfl
theorem k0_part75_eq_skeleton : k0_part75 (F := F) = Gen.k0_part75_skel (F := F) := rfl
theorem k0_part76_eq_skeleton : k0_part76 (F := F) = Gen.k0_part76_skel (F := F) := rfl
theorem k0_part77_eq_skeleton : k0_part77 (F := F) = Gen.k0_part77_skel (F := F) := rfl
theorem k0_part78_eq_skeleton : k0_part78 (F := F) = Gen.k0_part78_skel (F := F) := rfl
theorem k0_part79_eq_skeleton : k0_part79 (F := F) = Gen.k0_part79_skel (F := F) := rfl
theorem k0_part80_eq_skeleton : k0_part80 (F := F) = Gen.k0_part80_skel (F := F) := rfl
theorem k0_part81_eq_skeleton : k0_part81 (F := F) = Gen.k0_part81_skel (F := F) := rfl
theorem k0_part82_eq_skeleton : k0_part82 (F := F) = Gen.k0_part82_skel (F := F) := rfl
theorem k0_part83_eq_skeleton : k0_part83 (F := F) = Gen.k0_part83_skel (F := F) := rfl
theorem k0_part84_eq_skeleton : k0_part84 (F := F) = Gen.k0_part84_skel (F := F) := rfl
theorem k0_part85_eq_skeleton : k0_part85 (F := F) = Gen.k0_part85_skel (F := F) := rfl
theorem k0_part86_eq_skeleton : k0_part86 (F := F) = Gen.k0_part86_skel (F := F) := rfl
theorem k0_part88_eq_skeleton : k0_part88 (F := F) = Gen.k0_part88_skel (F := F) := rfl

end Cert.KernelIdeal
-- ==== Proof.Body.lean ====
/-
  The body of the differential attention at symbolic operands, run once: what it leaves in the output block
  and in the three scratch buffers, as terms over what it found.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Parts
public import Idealize.ShloMosaic.Lib.Tactic

@[expose] public section

set_option maxRecDepth 16384

noncomputable section

namespace Cert.KernelIdeal.Att

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents type of a memref's buffer on core `c`. -/
abbrev Bf (c : Dev nD) {sp : Space} {S : Shape} {e : EltTy} (M : Memref sig .tc sp S e) : Type := Buf (Elt F) (M.view.loc (c : Thread nD τ))
/-- A memref's buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- What one grid point leaves. -/
noncomputable def bodyRun (i : grid0.Coords) (c : Dev nD)
    (M3 : Memref sig .tc .vmem S4x64 .f32) (h3 : M3.IsWhole) (M4 : Memref sig .tc .vmem S1x8192x128 .f32) (h4 : M4.IsWhole)
    (M5 : Memref sig .tc .vmem S1x8448x128 .bf16) (h5 : M5.IsWhole) (M6 : Memref sig .tc .vmem S1x128x8448 .bf16) (h6 : M6.IsWhole)
    (M7 : Memref sig .tc .vmem S128x1 .f32) (h7 : M7.IsWhole) (M8 : Memref sig .tc .vmem S1x8192x128 .bf16) (h8 : M8.IsWhole)
    (M9 : Memref sig .tc .vmem S8448x256 .f32) (h9 : M9.IsWhole) (M10 : Memref sig .tc .vmem S8448x256 .f32) (h10 : M10.IsWhole)
    (M11 : Memref sig .tc .vmem S2x8x256 .f32) (h11 : M11.IsWhole)
    (f3 : Bf (F := F) c M3) (f4 : Bf (F := F) c M4) (f5 : Bf (F := F) c M5) (f6 : Bf (F := F) c M6) (f7 : Bf (F := F) c M7)
    (f8 : Bf (F := F) c M8) (f10 : Bf (F := F) c M10) (f11 : Bf (F := F) c M11) :
    { W : Bf (F := F) c M8 × Bf (F := F) c M9 × Bf (F := F) c M10 × Bf (F := F) c M11 //
      ∀ (f9 : Bf (F := F) c M9) (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M3 f3 ∗ pt c M4 f4 ∗ pt c M5 f5 ∗ pt c M6 f6 ∗ pt c M7 f7 ∗ pt c M8 W.1 ∗ pt c M9 W.2.1 ∗ pt c M10 W.2.2.1
                ∗ pt c M11 W.2.2.2) -∗ Q ⟨⟩))
        ⊢ wp frame (wpE (defs₀ (F := F)) Variants.none c none) E
            (cc0_diff_attention_t i M3 h3 M4 h4 M5 h5 M6 h6 M7 h7 M8 h8 M9 h9 M10 h10 M11 h11) Q } := by
  refine ⟨⟨?_, ?_, ?_, ?_⟩, fun f9 E Q => ?run⟩
  case run =>
    iintro ⟨H3, H4, H5, H6, H7, H8, H9, H10, H11, Hk⟩
    simp only [Gen.cc0_diff_attention_t_eq_skeleton]; unfold Gen.cc0_diff_attention_t_skel
    sl_exec_parts!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Att

end
-- ==== Proof.Pure.lean ====
/-
  What the two halves of a grid point compute, in one form each: the scores of a query tile, and the output rows
  from a tile's scores and their maximum. The run's own terms, cut at other places, are these by unfolding.
-/
module

public import proofs.«01_k».proof.Proof.Body

@[expose] public section

set_option maxRecDepth 16384

noncomputable section

namespace Cert.KernelIdeal.Att

open Cert.KernelIdeal Cert.KernelIdeal.Gen

open Idealize.ShloMosaic
open Idealize.ShloMosaic.TcCoe

variable {F : FTy → Type} [FloatOps F]

/-- The weights before normalization: 2 to the power of a chunk's scores less their maximum. -/
def expF (m : FVec F S8x256 .f32) (s : Vec F S768x256 .f32) : FVec F S96x8x256 .f32 :=
  exp2 (subf (shapeCast S96x8x256 s shapeCasts_S768x256_S96x8x256)
    (broadcastTo S96x8x256 (shapeCast S1x8x256 m shapeCasts_S8x256_S1x8x256) broadcasts_S1x8x256_S96x8x256))

/-- A chunk's weights summed down each sublane. -/
def lcF (m : FVec F S8x256 .f32) (s : Vec F S768x256 .f32) : FVec F S8x256 .f32 :=
  multiReduction .add [0] S8x256 (expF m s) 0x00000000#32 reduces_S96x8x256_S8x256 (.inl rfl) rfl

/-- A chunk's values against its weights. -/
def pvF (m : FVec F S8x256 .f32) (s : Vec F S768x256 .f32) (v : Vec F S1x128x768 .bf16) : FVec F S128x256 .f32 :=
  matmul dot_S128x768_S768x256_S128x256_1_0_0_1_n_n none (shapeCast S128x768 v shapeCasts_S1x128x768_S128x768)
    (truncf .bf16 (shapeCast S768x256 (expF m s) shapeCasts_S96x8x256_S768x256) bitsLt_bf16_f32) (constant S128x256 .f32 0x00000000#32)

/-- The weights' sums over the eleven chunks. -/
def lF (m : FVec F S8x256 .f32) (s : Fin 11 → Vec F S768x256 .f32) : FVec F S8x256 .f32 :=
  addf (addf (addf (addf (addf (addf (addf (addf (addf (addf (lcF m (s 0)) (lcF m (s 1))) (lcF m (s 2))) (lcF m (s 3))) (lcF m (s 4))) (lcF m (s 5))) (lcF m (s 6))) (lcF m (s 7))) (lcF m (s 8))) (lcF m (s 9))) (lcF m (s 10))

/-- The weighted values over the eleven chunks. -/
def accF (m : FVec F S8x256 .f32) (s : Fin 11 → Vec F S768x256 .f32) (v : Fin 11 → Vec F S1x128x768 .bf16) : FVec F S128x256 .f32 :=
  addf (addf (addf (addf (addf (addf (addf (addf (addf (addf (pvF m (s 0) (v 0)) (pvF m (s 1) (v 1))) (pvF m (s 2) (v 2))) (pvF m (s 3) (v 3))) (pvF m (s 4) (v 4))) (pvF m (s 5) (v 5))) (pvF m (s 6) (v 6))) (pvF m (s 7) (v 7))) (pvF m (s 8) (v 8))) (pvF m (s 9) (v 9))) (pvF m (s 10) (v 10))

/-- The two maps' difference, a query's row in each column. -/
def diffF (lam : FVec F S1x1 .f32) (l : FVec F S8x256 .f32) (a : FVec F S128x256 .f32) : FVec F S128x128 .f32 :=
  have l1 : FVec F S1x256 .f32 := shapeCast S1x256 (multiReduction .add [0] S256 l 0x00000000#32 reduces_S8x256_S256 (.inl rfl) rfl) shapeCasts_S256_S1x256
  subf (divf (extractStridedSlice S128x128 ![0, 0] a slices_S128x256_o0_0_S128x128)
      (broadcastTo S128x128 (extractStridedSlice S1x128 ![0, 0] l1 slices_S1x256_o0_0_S1x128) broadcasts_S1x128_S128x128))
    (mulf (extractStridedSlice S128x128 ![0, 128] a slices_S128x256_o0_128_S128x128)
      (broadcastTo S128x128 (divf (broadcastTo S1x128 lam broadcasts_S1x1_S1x128)
        (extractStridedSlice S1x128 ![0, 128] l1 slices_S1x256_o0_128_S1x128)) broadcasts_S1x128_S128x128))

/-- The output rows of a tile, from its scores and their maximum. -/
def outF (lam : FVec F S1x1 .f32) (m : Vec F S1x8x256 .f32) (s : Fin 11 → Vec F S768x256 .f32) (v : Fin 11 → Vec F S1x128x768 .bf16)
    (g : Vec F S128x1 .f32) : FVec F S1x128x128 .bf16 :=
  k0_pay145 (diffF lam (lF (k0_pay9 m) s) (accF (k0_pay9 m) s v)) g

/-- The rectangle of chunk `k` of a score buffer. -/
abbrev rcS (k : Fin 11) : Rect S8448x256 :=
  Rect.unit ![768 * k.val, 0] S768x256.size (by intro a; fin_cases a <;> simp [S768x256, S8448x256]; omega)
/-- The rectangle of chunk `k` of the keys. -/
abbrev rcK (k : Fin 11) : Rect S1x8448x128 :=
  Rect.unit ![0, 768 * k.val, 0] S1x768x128.size (by intro a; fin_cases a <;> simp [S1x768x128, S1x8448x128]; omega)
/-- The rectangle of chunk `k` of the transposed values. -/
abbrev rcV (k : Fin 11) : Rect S1x128x8448 :=
  Rect.unit ![0, 0, 768 * k.val] S1x128x768.size (by intro a; fin_cases a <;> simp [S1x128x768, S1x128x8448]; omega)

section Links

variable (i : grid0.Coords) (c : Dev nD)
    (M3 : Memref sig .tc .vmem S4x64 .f32) (M4 : Memref sig .tc .vmem S1x8192x128 .f32)
    (M5 : Memref sig .tc .vmem S1x8448x128 .bf16) (M6 : Memref sig .tc .vmem S1x128x8448 .bf16)
    (M7 : Memref sig .tc .vmem S128x1 .f32)
    (M9 : Memref sig .tc .vmem S8448x256 .f32) (M10 : Memref sig .tc .vmem S8448x256 .f32)
    (M11 : Memref sig .tc .vmem S2x8x256 .f32)
    (f3 : Bf (F := F) c M3) (f4 : Bf (F := F) c M4) (f5 : Bf (F := F) c M5) (f6 : Bf (F := F) c M6) (f7 : Bf (F := F) c M7)
    (f10 : Bf (F := F) c M10) (f11 : Bf (F := F) c M11)

/-- The first output rows, from the scores the point before left. -/
theorem link_out0 (g : Vec F S128x1 .f32) :
    k0_pay145 (bodyRun.sl.r_118 i c M3 M6 M10 M11 f3 f6 f10 f11) g
      = outF (k0_pay4 (View.readAt (Elt F) M3.view (Rect.unit ![0, 0] S4x64.size inb_S4x64_S4x64_0_0).toLoadRect f3))
          (bodyRun.sl.v42 i c M11 f11)
          (fun k => View.readAt (Elt F) M10.view (rcS k).toLoadRect
            (if hc : bodyRun.sl.v2 i = 1#1 then M10.view.writes (Elt F) f10 [⟨Rect.unit ![0, 0] S8448x256.size inb_S8448x256_S8448x256_0_0, k0_pay2⟩] else f10))
          (fun k => View.readAt (Elt F) M6.view (rcV k).toLoadRect f6) g := by
  rfl

end Links

end Cert.KernelIdeal.Att

end
-- ==== Proof.Scores.lean ====
/-
  The score tiles the run writes: each chunk of keys against the two halves of the query tile, where they land, how
  they read back, and that their running maximum is made of them alone.
-/
module

public import proofs.«01_k».proof.Proof.Pure
public import Idealize.ShloMosaic.Lib.Pipeline.Value

@[expose] public section

set_option maxRecDepth 16384

noncomputable section

namespace Cert.KernelIdeal.Att

open Cert.KernelIdeal Cert.KernelIdeal.Gen

open Idealize.ShloMosaic
open Idealize.ShloMosaic.TcCoe

variable {F : FTy → Type} [FloatOps F] [Named F]

/-- A chunk of keys against a query tile's two halves. -/
def scF (q : Vec F S1x128x128 .f32) (k : Vec F S1x768x128 .bf16) : FVec F S768x256 .f32 :=
  k0_pay10 (k0_pay5 q) (iota .tc S128x128 32 [1] iota_S128x128_d1_w32) k0_pay6 k0_pay7 k

/-- A running maximum as the kernel keeps it: taken over the sublanes and spread over them. -/
def mF (p : FVec F S8x256 .f32) : FVec F S1x8x256 .f32 :=
  shapeCast S1x8x256 (broadcastTo S8x256 (shapeCast S1x256 (shapeCast S1x256
    (multiReduction .maximumf [0] S256 p 0xFF800000#32 reduces_S8x256_S256 (.inl rfl) rfl)
    shapeCasts_S256_S1x256) shapeCasts_S1x256_S1x256) broadcasts_S1x256_S8x256) shapeCasts_S8x256_S1x8x256

/-- Every entry satisfies `P`. -/
def AllP (P : F .f32 → Prop) {s : Shape} (a : FVec F s .f32) : Prop := ∀ i, P (a i)

theorem AllP.max {P : F .f32 → Prop} (hP : ∀ a b, P a → P b → P (FloatOps.maximumf a b)) {s : Shape} {a b : FVec F s .f32}
    (ha : AllP P a) (hb : AllP P b) : AllP P (maximumf a b) := fun i => hP _ _ (ha i) (hb i)

theorem AllP.slice {P : F .f32 → Prop} {s : Shape} {a : FVec F s .f32} (ha : AllP P a) (t : Shape) (off : Fin s.rank → Nat)
    (h : s.Slices off t) : AllP P (extractStridedSlice t off a h) := fun _ => ha _

/-- `m` is a maximum of the scores `s`: made of them by the maximum alone. -/
def IsMax (s : Fin 11 → Vec F S768x256 .f32) (m : Vec F S1x8x256 .f32) : Prop :=
  ∃ p : FVec F S8x256 .f32, m = mF p ∧
    ∀ P : F .f32 → Prop, (∀ a b, P a → P b → P (FloatOps.maximumf a b)) → (∀ k, AllP P (s k)) → AllP P p

section Scores

variable (i : grid0.Coords) (c : Dev nD)
    (M4 : Memref sig .tc .vmem S1x8192x128 .f32)
    (M5 : Memref sig .tc .vmem S1x8448x128 .bf16)
    (f4 : Bf (F := F) c M4) (f5 : Bf (F := F) c M5)

/-- The query tile the point's first half takes. -/
abbrev q0 : Vec F S1x128x128 .f32 := View.readAt (Elt F) M4.view (Rect.unit (s := S1x8192x128) (k0_off1 i 0#32) S1x128x128.size (k0_off1_inb i 0)).toLoadRect f4
/-- The query tile the point's second half takes. -/
abbrev q1 : Vec F S1x128x128 .f32 := View.readAt (Elt F) M4.view (Rect.unit (s := S1x8192x128) (k0_off1 i 1#32) S1x128x128.size (k0_off1_inb i 1)).toLoadRect f4
/-- Chunk `k` of the keys. -/
abbrev kk (k : Fin 11) : Vec F S1x768x128 .bf16 := View.readAt (Elt F) M5.view (rcK k).toLoadRect f5

/-- The score buffer's pieces. -/
def pieces (G : Fin 11 → Vec F S768x256 .f32) : List (View.Piece (Elt F) S8448x256 .f32) :=
  [⟨rcS 10, G 10⟩, ⟨rcS 9, G 9⟩, ⟨rcS 8, G 8⟩, ⟨rcS 7, G 7⟩, ⟨rcS 6, G 6⟩, ⟨rcS 5, G 5⟩, ⟨rcS 4, G 4⟩, ⟨rcS 3, G 3⟩,
    ⟨rcS 2, G 2⟩, ⟨rcS 1, G 1⟩, ⟨rcS 0, G 0⟩]

theorem pieces_cast (G : Fin 11 → FVec F S768x256 .f32) :
    pieces (fun k => shapeCast S768x256 (G k) shapeCasts_S768x256_S768x256) = pieces G := by
  simp only [Idealize.ShloMosaic.shapeCast_self]

theorem link_H9 : bodyRun.sl.H9_11 i c M4 M5 f4 f5 = pieces (fun k => scF (q0 i c M4 f4) (kk c M5 f5 k)) := by
  rw [← pieces_cast]; rfl
theorem link_H10 : bodyRun.sl.H10_11 i c M4 M5 f4 f5 = pieces (fun k => scF (q1 i c M4 f4) (kk c M5 f5 k)) := by
  rw [← pieces_cast]; rfl

set_option maxHeartbeats 4000000 in
/-- The running maximum of the first half is made of its scores. -/
theorem link_m0 : IsMax (fun k => scF (q0 i c M4 f4) (kk c M5 f5 k)) (k0_pay143 (bodyRun.sl.r_110 i c M4 M5 f4 f5) (bodyRun.sl.r_116 i c M4 M5 f4 f5) (bodyRun.sl.r_117 i c M4 M5 f4 f5)) := by
  refine ⟨_, by rfl, fun P hP hs => ?_⟩
  have h_r_5 : AllP P (bodyRun.sl.r_5 i c M4 M5 f4 f5) := by
    have e0 : AllP P (k0_pay10 (bodyRun.sl.r_1 i c M4 f4) bodyRun.sl.v33 k0_pay6 k0_pay7 (View.readAt (Elt F) M5.view (Rect.unit (s := S1x8448x128) ![0, 0, 0] S1x768x128.size inb_S1x8448x128_S1x768x128_0_0_0).toLoadRect f5)) := by first | exact hs 0
    unfold bodyRun.sl.r_5 k0_pay12
    dsimp only
    repeat' first | with_reducible refine AllP.max hP ?_ ?_ | with_reducible refine AllP.slice ?_ _ _ _ | with_reducible exact e0 | exact e0
  have h_r_6 : AllP P (bodyRun.sl.r_6 i c M4 M5 f4 f5) := by
    have e0 : AllP P (k0_pay10 (bodyRun.sl.r_1 i c M4 f4) bodyRun.sl.v33 k0_pay6 k0_pay7 (View.readAt (Elt F) M5.view (Rect.unit (s := S1x8448x128) ![0, 0, 0] S1x768x128.size inb_S1x8448x128_S1x768x128_0_0_0).toLoadRect f5)) := by first | exact hs 0
    unfold bodyRun.sl.r_6 k0_pay13
    dsimp only
    repeat' first | with_reducible refine AllP.max hP ?_ ?_ | with_reducible refine AllP.slice ?_ _ _ _ | with_reducible exact e0 | exact e0
  have h_r_7 : AllP P (bodyRun.sl.r_7 i c M4 M5 f4 f5) := by
    have e0 : AllP P (bodyRun.sl.r_4 i c M4 M5 f4 f5) := by first | exact hs 0
    unfold bodyRun.sl.r_7 k0_pay14
    dsimp only
    repeat' first | with_reducible exact h_r_5 | with_reducible exact h_r_6 | with_reducible refine AllP.max hP ?_ ?_ | with_reducible refine AllP.slice ?_ _ _ _ | with_reducible exact e0 | exact e0
  have h_r_8 : AllP P (bodyRun.sl.r_8 i c M4 M5 f4 f5) := by
    have e0 : AllP P (bodyRun.sl.r_4 i c M4 M5 f4 f5) := by first | exact hs 0
    unfold bodyRun.sl.r_8 k0_pay15
    dsimp only
    repeat' first | with_reducible refine AllP.max hP ?_ ?_ | with_reducible refine AllP.slice ?_ _ _ _ | with_reducible exact e0 | exact e0
  have h_r_9 : AllP P (bodyRun.sl.r_9 i c M4 M5 f4 f5) := by
    have e0 : AllP P (bodyRun.sl.r_4 i c M4 M5 f4 f5) := by first | exact hs 0
    unfold bodyRun.sl.r_9 k0_pay16
    dsimp only
    repeat' first | with_reducible exact h_r_7 | with_reducible exact h_r_8 | with_reducible refine AllP.max hP ?_ ?_ | with_reducible refine AllP.slice ?_ _ _ _ | with_reducible exact e0 | exact e0
  have h_r_10 : AllP P (bodyRun.sl.r_10 i c M4 M5 f4 f5) := by
    have e0 : AllP P (bodyRun.sl.r_4 i c M4 M5 f4 f5) := by first | exact hs 0
    unfold bodyRun.sl.r_10 k0_pay17
    dsimp only
    repeat' first | with_reducible refine AllP.max hP ?_ ?_ | with_reducible refine AllP.slice ?_ _ _ _ | with_reducible exact e0 | exact e0
  have h_r_11 : AllP P (bodyRun.sl.r_11 i c M4 M5 f4 f5) := by
    have e0 : AllP P (bodyRun.sl.r_4 i c M4 M5 f4 f5) := by first | exact hs 0
    unfold bodyRun.sl.r_11 k0_pay18
    dsimp only
    repeat' first | with_reducible exact h_r_9 | with_reducible exact h_r_10 | with_reducible refine AllP.max hP ?_ ?_ | with_reducible refine AllP.slice ?_ _ _ _ | with_reducible exact e0 | exact e0
  have h_r_16 : AllP P (bodyRun.sl.r_16 i c M4 M5 f4 f5) := by
    have e0 : AllP P (k0_pay23 (bodyRun.sl.r_2 i c M4 f4) (bodyRun.sl.r_14 c M5 f5) bodyRun.sl.cst_29) := by first | exact hs 1
    unfold bodyRun.sl.r_16 k0_pay25
    dsimp only
    repeat' first | with_reducible exact h_r_11 | with_reducible refine AllP.max hP ?_ ?_ | with_reducible refine AllP.slice ?_ _ _ _ | with_reducible exact e0 | exact e0
  have h_r_17 : AllP P (bodyRun.sl.r_17 i c M4 M5 f4 f5) := by
    have e0 : AllP P (k0_pay23 (bodyRun.sl.r_2 i c M4 f4) (bodyRun.sl.r_14 c M5 f5) bodyRun.sl.cst_29) := by first | exact hs 1
    unfold bodyRun.sl.r_17 k0_pay26
    dsimp only
    repeat' first | with_reducible refine AllP.max hP ?_ ?_ | with_reducible refine AllP.slice ?_ _ _ _ | with_reducible exact e0 | exact e0
  have h_r_18 : AllP P (bodyRun.sl.r_18 i c M4 M5 f4 f5) := by
    have e0 : AllP P (bodyRun.sl.r_15 i c M4 M5 f4 f5) := by first | exact hs 1
    unfold bodyRun.sl.r_18 k0_pay27
    dsimp only
    repeat' first | with_reducible exact h_r_16 | with_reducible exact h_r_17 | with_reducible refine AllP.max hP ?_ ?_ | with_reducible refine AllP.slice ?_ _ _ _ | with_reducible exact e0 | exact e0
  have h_r_19 : AllP P (bodyRun.sl.r_19 i c M4 M5 f4 f5) := by
    have e0 : AllP P (bodyRun.sl.r_15 i c M4 M5 f4 f5) := by first | exact hs 1
    unfold bodyRun.sl.r_19 k0_pay28
    dsimp only
    repeat' first | with_reducible refine AllP.max hP ?_ ?_ | with_reducible refine AllP.slice ?_ _ _ _ | with_reducible exact e0 | exact e0
  have h_r_20 : AllP P (bodyRun.sl.r_20 i c M4 M5 f4 f5) := by
    have e0 : AllP P (bodyRun.sl.r_15 i c M4 M5 f4 f5) := by first | exact hs 1
    unfold bodyRun.sl.r_20 k0_pay29
    dsimp only
    repeat' first | with_reducible exact h_r_18 | with_reducible exact h_r_19 | with_reducible refine AllP.max hP ?_ ?_ | with_reducible refine AllP.slice ?_ _ _ _ | with_reducible exact e0 | exact e0
  have h_r_21 : AllP P (bodyRun.sl.r_21 i c M4 M5 f4 f5) := by
    have e0 : AllP P (bodyRun.sl.r_15 i c M4 M5 f4 f5) := by first | exact hs 1
    unfold bodyRun.sl.r_21 k0_pay30
    dsimp only
    repeat' first | with_reducible refine AllP.max hP ?_ ?_ | with_reducible refine AllP.slice ?_ _ _ _ | with_reducible exact e0 | exact e0
  have h_r_25 : AllP P (bodyRun.sl.r_25 i c M4 M5 f4 f5) := by
    have e0 : AllP P (bodyRun.sl.r_15 i c M4 M5 f4 f5) := by first | exact hs 1 | exact hs 2
    have e1 : AllP P (k0_pay34 (bodyRun.sl.r_2 i c M4 f4) (View.readAt (Elt F) M5.view (Rect.unit (s := S1x8448x128) ![0, 1536, 0] S1x768x128.size inb_S1x8448x128_S1x768x128_0_1536_0).toLoadRect f5)) := by first | exact hs 1 | exact hs 2
    unfold bodyRun.sl.r_25 k0_pay36
    dsimp only
    repeat' first | with_reducible exact h_r_20 | with_reducible exact h_r_21 | with_reducible refine AllP.max hP ?_ ?_ | with_reducible refine AllP.slice ?_ _ _ _ | with_reducible exact e0 | exact e0 | with_reducible exact e1 | exact e1
  have h_r_26 : AllP P (bodyRun.sl.r_26 i c M4 M5 f4 f5) := by
    have e0 : AllP P (k0_pay34 (bodyRun.sl.r_2 i c M4 f4) (View.readAt (Elt F) M5.view (Rect.unit (s := S1x8448x128) ![0, 1536, 0] S1x768x128.size inb_S1x8448x128_S1x768x128_0_1536_0).toLoadRect f5)) := by first | exact hs 2
    unfold bodyRun.sl.r_26 k0_pay37
    dsimp only
    repeat' first | with_reducible refine AllP.max hP ?_ ?_ | with_reducible refine AllP.slice ?_ _ _ _ | with_reducible exact e0 | exact e0
  have h_r_27 : AllP P (bodyRun.sl.r_27 i c M4 M5 f4 f5) := by
    have e0 : AllP P (bodyRun.sl.r_24 i c M4 M5 f4 f5) := by first | exact hs 2
    unfold bodyRun.sl.r_27 k0_pay38
    dsimp only
    repeat' first | with_reducible exact h_r_25 | with_reducible exact h_r_26 | with_reducible refine AllP.max hP ?_ ?_ | with_reducible refine AllP.slice ?_ _ _ _ | with_reducible exact e0 | exact e0
  have h_r_28 : AllP P (bodyRun.sl.r_28 i c M4 M5 f4 f5) := by
    have e0 : AllP P (bodyRun.sl.r_24 i c M4 M5 f4 f5) := by first | exact hs 2
    unfold bodyRun.sl.r_28 k0_pay39
    dsimp only
    repeat' first | with_reducible refine AllP.max hP ?_ ?_ | with_reducible refine AllP.slice ?_ _ _ _ | with_reducible exact e0 | exact e0
  have h_r_29 : AllP P (bodyRun.sl.r_29 i c M4 M5 f4 f5) := by
    have e0 : AllP P (bodyRun.sl.r_24 i c M4 M5 f4 f5) := by first | exact hs 2
    unfold bodyRun.sl.r_29 k0_pay40
    dsimp only
    repeat' first | with_reducible exact h_r_27 | with_reducible exact h_r_28 | with_reducible refine AllP.max hP ?_ ?_ | with_reducible refine AllP.slice ?_ _ _ _ | with_reducible exact e0 | exact e0
  have h_r_30 : AllP P (bodyRun.sl.r_30 i c M4 M5 f4 f5) := by
    have e0 : AllP P (bodyRun.sl.r_24 i c M4 M5 f4 f5) := by first | exact hs 2
    unfold bodyRun.sl.r_30 k0_pay41
    dsimp only
    repeat' first | with_reducible refine AllP.max hP ?_ ?_ | with_reducible refine AllP.slice ?_ _ _ _ | with_reducible exact e0 | exact e0
  have h_r_31 : AllP P (bodyRun.sl.r_31 i c M4 M5 f4 f5) := by
    have e0 : AllP P (bodyRun.sl.r_24 i c M4 M5 f4 f5) := by first | exact hs 2
    unfold bodyRun.sl.r_31 k0_pay42
    dsimp only
    repeat' first | with_reducible exact h_r_29 | with_reducible exact h_r_30 | with_reducible refine AllP.max hP ?_ ?_ | with_reducible refine AllP.slice ?_ _ _ _ | with_reducible exact e0 | exact e0
  have h_r_32 : AllP P (bodyRun.sl.r_32 i c M4 M5 f4 f5) := by
    have e0 : AllP P (bodyRun.sl.r_24 i c M4 M5 f4 f5) := by first | exact hs 2
    unfold bodyRun.sl.r_32 k0_pay43
    dsimp only
    repeat' first | with_reducible refine AllP.max hP ?_ ?_ | with_reducible refine AllP.slice ?_ _ _ _ | with_reducible exact e0 | exact e0
  have h_r_36 : AllP P (bodyRun.sl.r_36 i c M4 M5 f4 f5) := by
    have e0 : AllP P (bodyRun.sl.r_24 i c M4 M5 f4 f5) := by first | exact hs 2 | exact hs 3
    have e1 : AllP P (k0_pay47 (bodyRun.sl.r_2 i c M4 f4) (View.readAt (Elt F) M5.view (Rect.unit (s := S1x8448x128) ![0, 2304, 0] S1x768x128.size inb_S1x8448x128_S1x768x128_0_2304_0).toLoadRect f5)) := by first | exact hs 2 | exact hs 3
    unfold bodyRun.sl.r_36 k0_pay49
    dsimp only
    repeat' first | with_reducible exact h_r_31 | with_reducible exact h_r_32 | with_reducible refine AllP.max hP ?_ ?_ | with_reducible refine AllP.slice ?_ _ _ _ | with_reducible exact e0 | exact e0 | with_reducible exact e1 | exact e1
  have h_r_37 : AllP P (bodyRun.sl.r_37 i c M4 M5 f4 f5) := by
    have e0 : AllP P (k0_pay47 (bodyRun.sl.r_2 i c M4 f4) (View.readAt (Elt F) M5.view (Rect.unit (s := S1x8448x128) ![0, 2304, 0] S1x768x128.size inb_S1x8448x128_S1x768x128_0_2304_0).toLoadRect f5)) := by first | exact hs 3
    unfold bodyRun.sl.r_37 k0_pay50
    dsimp only
    repeat' first | with_reducible refine AllP.max hP ?_ ?_ | with_reducible refine AllP.slice ?_ _ _ _ | with_reducible exact e0 | exact e0
  have h_r_38 : AllP P (bodyRun.sl.r_38 i c M4 M5 f4 f5) := by
    have e0 : AllP P (bodyRun.sl.r_35 i c M4 M5 f4 f5) := by first | exact hs 3
    unfold bodyRun.sl.r_38 k0_pay51
    dsimp only
    repeat' first | with_reducible exact h_r_36 | with_reducible exact h_r_37 | with_reducible refine AllP.max hP ?_ ?_ | with_reducible refine AllP.slice ?_ _ _ _ | with_reducible exact e0 | exact e0
  have h_r_39 : AllP P (bodyRun.sl.r_39 i c M4 M5 f4 f5) := by
    have e0 : AllP P (bodyRun.sl.r_35 i c M4 M5 f4 f5) := by first | exact hs 3
    unfold bodyRun.sl.r_39 k0_pay52
    dsimp only
    repeat' first | with_reducible refine AllP.max hP ?_ ?_ | with_reducible refine AllP.slice ?_ _ _ _ | with_reducible exact e0 | exact e0
  have h_r_40 : AllP P (bodyRun.sl.r_40 i c M4 M5 f4 f5) := by
    have e0 : AllP P (bodyRun.sl.r_35 i c M4 M5 f4 f5) := by first | exact hs 3
    unfold bodyRun.sl.r_40 k0_pay53
    dsimp only
    repeat' first | with_reducible exact h_r_38 | with_reducible exact h_r_39 | with_reducible refine AllP.max hP ?_ ?_ | with_reducible refine AllP.slice ?_ _ _ _ | with_reducible exact e0 | exact e0
  have h_r_41 : AllP P (bodyRun.sl.r_41 i c M4 M5 f4 f5) := by
    have e0 : AllP P (bodyRun.sl.r_35 i c M4 M5 f4 f5) := by first | exact hs 3
    unfold bodyRun.sl.r_41 k0_pay54
    dsimp only
    repeat' first | with_reducible refine AllP.max hP ?_ ?_ | with_reducible refine AllP.slice ?_ _ _ _ | with_reducible exact e0 | exact e0
  have h_r_42 : AllP P (bodyRun.sl.r_42 i c M4 M5 f4 f5) := by
    have e0 : AllP P (bodyRun.sl.r_35 i c M4 M5 f4 f5) := by first | exact hs 3
    unfold bodyRun.sl.r_42 k0_pay55
    dsimp only
    repeat' first | with_reducible exact h_r_40 | with_reducible exact h_r_41 | with_reducible refine AllP.max hP ?_ ?_ | with_reducible refine AllP.slice ?_ _ _ _ | with_reducible exact e0 | exact e0
  have h_r_47 : AllP P (bodyRun.sl.r_47 i c M4 M5 f4 f5) := by
    have e0 : AllP P (k0_pay59 (bodyRun.sl.r_2 i c M4 f4) (View.readAt (Elt F) M5.view (Rect.unit (s := S1x8448x128) ![0, 3072, 0] S1x768x128.size inb_S1x8448x128_S1x768x128_0_3072_0).toLoadRect f5)) := by first | exact hs 4
    unfold bodyRun.sl.r_47 k0_pay61
    dsimp only
    repeat' first | with_reducible exact h_r_42 | with_reducible refine AllP.max hP ?_ ?_ | with_reducible refine AllP.slice ?_ _ _ _ | with_reducible exact e0 | exact e0
  have h_r_48 : AllP P (bodyRun.sl.r_48 i c M4 M5 f4 f5) := by
    have e0 : AllP P (k0_pay59 (bodyRun.sl.r_2 i c M4 f4) (View.readAt (Elt F) M5.view (Rect.unit (s := S1x8448x128) ![0, 3072, 0] S1x768x128.size inb_S1x8448x128_S1x768x128_0_3072_0).toLoadRect f5)) := by first | exact hs 4
    unfold bodyRun.sl.r_48 k0_pay62
    dsimp only
    repeat' first | with_reducible refine AllP.max hP ?_ ?_ | with_reducible refine AllP.slice ?_ _ _ _ | with_reducible exact e0 | exact e0
  have h_r_49 : AllP P (bodyRun.sl.r_49 i c M4 M5 f4 f5) := by
    have e0 : AllP P (bodyRun.sl.r_46 i c M4 M5 f4 f5) := by first | exact hs 4
    unfold bodyRun.sl.r_49 k0_pay63
    dsimp only
    repeat' first | with_reducible exact h_r_47 | with_reducible exact h_r_48 | with_reducible refine AllP.max hP ?_ ?_ | with_reducible refine AllP.slice ?_ _ _ _ | with_reducible exact e0 | exact e0
  have h_r_50 : AllP P (bodyRun.sl.r_50 i c M4 M5 f4 f5) := by
    have e0 : AllP P (bodyRun.sl.r_46 i c M4 M5 f4 f5) := by first | exact hs 4
    unfold bodyRun.sl.r_50 k0_pay64
    dsimp only
    repeat' first | with_reducible refine AllP.max hP ?_ ?_ | with_reducible refine AllP.slice ?_ _ _ _ | with_reducible exact e0 | exact e0
  have h_r_51 : AllP P (bodyRun.sl.r_51 i c M4 M5 f4 f5) := by
    have e0 : AllP P (bodyRun.sl.r_46 i c M4 M5 f4 f5) := by first | exact hs 4
    unfold bodyRun.sl.r_51 k0_pay65
    dsimp only
    repeat' first | with_reducible exact h_r_49 | with_reducible exact h_r_50 | with_reducible refine AllP.max hP ?_ ?_ | with_reducible refine AllP.slice ?_ _ _ _ | with_reducible exact e0 | exact e0
  have h_r_52 : AllP P (bodyRun.sl.r_52 i c M4 M5 f4 f5) := by
    have e0 : AllP P (bodyRun.sl.r_46 i c M4 M5 f4 f5) := by first | exact hs 4
    unfold bodyRun.sl.r_52 k0_pay66
    dsimp only
    repeat' first | with_reducible refine AllP.max hP ?_ ?_ | with_reducible refine AllP.slice ?_ _ _ _ | with_reducible exact e0 | exact e0
  have h_r_53 : AllP P (bodyRun.sl.r_53 i c M4 M5 f4 f5) := by
    have e0 : AllP P (bodyRun.sl.r_46 i c M4 M5 f4 f5) := by first | exact hs 4
    unfold bodyRun.sl.r_53 k0_pay67
    dsimp only
    repeat' first | with_reducible exact h_r_51 | with_reducible exact h_r_52 | with_reducible refine AllP.max hP ?_ ?_ | with_reducible refine AllP.slice ?_ _ _ _ | with_reducible exact e0 | exact e0
  have h_r_57 : AllP P (bodyRun.sl.r_57 i c M4 M5 f4 f5) := by
    have e0 : AllP P (k0_pay71 (bodyRun.sl.r_2 i c M4 f4) (View.readAt (Elt F) M5.view (Rect.unit (s := S1x8448x128) ![0, 3840, 0] S1x768x128.size inb_S1x8448x128_S1x768x128_0_3840_0).toLoadRect f5)) := by first | exact hs 5
    unfold bodyRun.sl.r_57 k0_pay73
    dsimp only
    repeat' first | with_reducible exact h_r_53 | with_reducible refine AllP.max hP ?_ ?_ | with_reducible refine AllP.slice ?_ _ _ _ | with_reducible exact e0 | exact e0
  have h_r_58 : AllP P (bodyRun.sl.r_58 i c M4 M5 f4 f5) := by
    have e0 : AllP P (k0_pay71 (bodyRun.sl.r_2 i c M4 f4) (View.readAt (Elt F) M5.view (Rect.unit (s := S1x8448x128) ![0, 3840, 0] S1x768x128.size inb_S1x8448x128_S1x768x128_0_3840_0).toLoadRect f5)) := by first | exact hs 5
    unfold bodyRun.sl.r_58 k0_pay74
    dsimp only
    repeat' first | with_reducible refine AllP.max hP ?_ ?_ | with_reducible refine AllP.slice ?_ _ _ _ | with_reducible exact e0 | exact e0
  have h_r_59 : AllP P (bodyRun.sl.r_59 i c M4 M5 f4 f5) := by
    have e0 : AllP P (bodyRun.sl.r_56 i c M4 M5 f4 f5) := by first | exact hs 5
    unfold bodyRun.sl.r_59 k0_pay75
    dsimp only
    repeat' first | with_reducible exact h_r_57 | with_reducible exact h_r_58 | with_reducible refine AllP.max hP ?_ ?_ | with_reducible refine AllP.slice ?_ _ _ _ | with_reducible exact e0 | exact e0
  have h_r_60 : AllP P (bodyRun.sl.r_60 i c M4 M5 f4 f5) := by
    have e0 : AllP P (bodyRun.sl.r_56 i c M4 M5 f4 f5) := by first | exact hs 5
    unfold bodyRun.sl.r_60 k0_pay76
    dsimp only
    repeat' first | with_reducible refine AllP.max hP ?_ ?_ | with_reducible refine AllP.slice ?_ _ _ _ | with_reducible exact e0 | exact e0
  have h_r_61 : AllP P (bodyRun.sl.r_61 i c M4 M5 f4 f5) := by
    have e0 : AllP P (bodyRun.sl.r_56 i c M4 M5 f4 f5) := by first | exact hs 5
    unfold bodyRun.sl.r_61 k0_pay77
    dsimp only
    repeat' first | with_reducible exact h_r_59 | with_reducible exact h_r_60 | with_reducible refine AllP.max hP ?_ ?_ | with_reducible refine AllP.slice ?_ _ _ _ | with_reducible exact e0 | exact e0
  have h_r_62 : AllP P (bodyRun.sl.r_62 i c M4 M5 f4 f5) := by
    have e0 : AllP P (bodyRun.sl.r_56 i c M4 M5 f4 f5) := by first | exact hs 5
    unfold bodyRun.sl.r_62 k0_pay78
    dsimp only
    repeat' first | with_reducible refine AllP.max hP ?_ ?_ | with_reducible refine AllP.slice ?_ _ _ _ | with_reducible exact e0 | exact e0
  have h_r_66 : AllP P (bodyRun.sl.r_66 i c M4 M5 f4 f5) := by
    have e0 : AllP P (bodyRun.sl.r_56 i c M4 M5 f4 f5) := by first | exact hs 5 | exact hs 6
    have e1 : AllP P (k0_pay82 (bodyRun.sl.r_2 i c M4 f4) (View.readAt (Elt F) M5.view (Rect.unit (s := S1x8448x128) ![0, 4608, 0] S1x768x128.size inb_S1x8448x128_S1x768x128_0_4608_0).toLoadRect f5)) := by first | exact hs 5 | exact hs 6
    unfold bodyRun.sl.r_66 k0_pay84
    dsimp only
    repeat' first | with_reducible exact h_r_61 | with_reducible exact h_r_62 | with_reducible refine AllP.max hP ?_ ?_ | with_reducible refine AllP.slice ?_ _ _ _ | with_reducible exact e0 | exact e0 | with_reducible exact e1 | exact e1
  have h_r_67 : AllP P (bodyRun.sl.r_67 i c M4 M5 f4 f5) := by
    have e0 : AllP P (k0_pay82 (bodyRun.sl.r_2 i c M4 f4) (View.readAt (Elt F) M5.view (Rect.unit (s := S1x8448x128) ![0, 4608, 0] S1x768x128.size inb_S1x8448x128_S1x768x128_0_4608_0).toLoadRect f5)) := by first | exact hs 6
    unfold bodyRun.sl.r_67 k0_pay85
    dsimp only
    repeat' first | with_reducible refine AllP.max hP ?_ ?_ | with_reducible refine AllP.slice ?_ _ _ _ | with_reducible exact e0 | exact e0
  have h_r_68 : AllP P (bodyRun.sl.r_68 i c M4 M5 f4 f5) := by
    have e0 : AllP P (bodyRun.sl.r_65 i c M4 M5 f4 f5) := by first | exact hs 6
    unfold bodyRun.sl.r_68 k0_pay86
    dsimp only
    repeat' first | with_reducible exact h_r_66 | with_reducible exact h_r_67 | with_reducible refine AllP.max hP ?_ ?_ | with_reducible refine AllP.slice ?_ _ _ _ | with_reducible exact e0 | exact e0
  have h_r_69 : AllP P (bodyRun.sl.r_69 i c M4 M5 f4 f5) := by
    have e0 : AllP P (bodyRun.sl.r_65 i c M4 M5 f4 f5) := by first | exact hs 6
    unfold bodyRun.sl.r_69 k0_pay87
    dsimp only
    repeat' first | with_reducible refine AllP.max hP ?_ ?_ | with_reducible refine AllP.slice ?_ _ _ _ | with_reducible exact e0 | exact e0
  have h_r_70 : AllP P (bodyRun.sl.r_70 i c M4 M5 f4 f5) := by
    have e0 : AllP P (bodyRun.sl.r_65 i c M4 M5 f4 f5) := by first | exact hs 6
    unfold bodyRun.sl.r_70 k0_pay88
    dsimp only
    repeat' first | with_reducible exact h_r_68 | with_reducible exact h_r_69 | with_reducible refine AllP.max hP ?_ ?_ | with_reducible refine AllP.slice ?_ _ _ _ | with_reducible exact e0 | exact e0
  have h_r_71 : AllP P (bodyRun.sl.r_71 i c M4 M5 f4 f5) := by
    have e0 : AllP P (bodyRun.sl.r_65 i c M4 M5 f4 f5) := by first | exact hs 6
    unfold bodyRun.sl.r_71 k0_pay89
    dsimp only
    repeat' first | with_reducible refine AllP.max hP ?_ ?_ | with_reducible refine AllP.slice ?_ _ _ _ | with_reducible exact e0 | exact e0
  have h_r_72 : AllP P (bodyRun.sl.r_72 i c M4 M5 f4 f5) := by
    have e0 : AllP P (bodyRun.sl.r_65 i c M4 M5 f4 f5) := by first | exact hs 6
    unfold bodyRun.sl.r_72 k0_pay90
    dsimp only
    repeat' first | with_reducible exact h_r_70 | with_reducible exact h_r_71 | with_reducible refine AllP.max hP ?_ ?_ | with_reducible refine AllP.slice ?_ _ _ _ | with_reducible exact e0 | exact e0
  have h_r_73 : AllP P (bodyRun.sl.r_73 i c M4 M5 f4 f5) := by
    have e0 : AllP P (bodyRun.sl.r_65 i c M4 M5 f4 f5) := by first | exact hs 6
    unfold bodyRun.sl.r_73 k0_pay91
    dsimp only
    repeat' first | with_reducible refine AllP.max hP ?_ ?_ | with_reducible refine AllP.slice ?_ _ _ _ | with_reducible exact e0 | exact e0
  have h_r_77 : AllP P (bodyRun.sl.r_77 i c M4 M5 f4 f5) := by
    have e0 : AllP P (bodyRun.sl.r_65 i c M4 M5 f4 f5) := by first | exact hs 6 | exact hs 7
    have e1 : AllP P (k0_pay95 (bodyRun.sl.r_2 i c M4 f4) (View.readAt (Elt F) M5.view (Rect.unit (s := S1x8448x128) ![0, 5376, 0] S1x768x128.size inb_S1x8448x128_S1x768x128_0_5376_0).toLoadRect f5)) := by first | exact hs 6 | exact hs 7
    unfold bodyRun.sl.r_77 k0_pay97
    dsimp only
    repeat' first | with_reducible exact h_r_72 | with_reducible exact h_r_73 | with_reducible refine AllP.max hP ?_ ?_ | with_reducible refine AllP.slice ?_ _ _ _ | with_reducible exact e0 | exact e0 | with_reducible exact e1 | exact e1
  have h_r_78 : AllP P (bodyRun.sl.r_78 i c M4 M5 f4 f5) := by
    have e0 : AllP P (k0_pay95 (bodyRun.sl.r_2 i c M4 f4) (View.readAt (Elt F) M5.view (Rect.unit (s := S1x8448x128) ![0, 5376, 0] S1x768x128.size inb_S1x8448x128_S1x768x128_0_5376_0).toLoadRect f5)) := by first | exact hs 7
    unfold bodyRun.sl.r_78 k0_pay98
    dsimp only
    repeat' first | with_reducible refine AllP.max hP ?_ ?_ | with_reducible refine AllP.slice ?_ _ _ _ | with_reducible exact e0 | exact e0
  have h_r_79 : AllP P (bodyRun.sl.r_79 i c M4 M5 f4 f5) := by
    have e0 : AllP P (bodyRun.sl.r_76 i c M4 M5 f4 f5) := by first | exact hs 7
    unfold bodyRun.sl.r_79 k0_pay99
    dsimp only
    repeat' first | with_reducible exact h_r_77 | with_reducible exact h_r_78 | with_reducible refine AllP.max hP ?_ ?_ | with_reducible refine AllP.slice ?_ _ _ _ | with_reducible exact e0 | exact e0
  have h_r_80 : AllP P (bodyRun.sl.r_80 i c M4 M5 f4 f5) := by
    have e0 : AllP P (bodyRun.sl.r_76 i c M4 M5 f4 f5) := by first | exact hs 7
    unfold bodyRun.sl.r_80 k0_pay100
    dsimp only
    repeat' first | with_reducible refine AllP.max hP ?_ ?_ | with_reducible refine AllP.slice ?_ _ _ _ | with_reducible exact e0 | exact e0
  have h_r_81 : AllP P (bodyRun.sl.r_81 i c M4 M5 f4 f5) := by
    have e0 : AllP P (bodyRun.sl.r_76 i c M4 M5 f4 f5) := by first | exact hs 7
    unfold bodyRun.sl.r_81 k0_pay101
    dsimp only
    repeat' first | with_reducible exact h_r_79 | with_reducible exact h_r_80 | with_reducible refine AllP.max hP ?_ ?_ | with_reducible refine AllP.slice ?_ _ _ _ | with_reducible exact e0 | exact e0
  have h_r_82 : AllP P (bodyRun.sl.r_82 i c M4 M5 f4 f5) := by
    have e0 : AllP P (bodyRun.sl.r_76 i c M4 M5 f4 f5) := by first | exact hs 7
    unfold bodyRun.sl.r_82 k0_pay102
    dsimp only
    repeat' first | with_reducible refine AllP.max hP ?_ ?_ | with_reducible refine AllP.slice ?_ _ _ _ | with_reducible exact e0 | exact e0
  have h_r_83 : AllP P (bodyRun.sl.r_83 i c M4 M5 f4 f5) := by
    have e0 : AllP P (bodyRun.sl.r_76 i c M4 M5 f4 f5) := by first | exact hs 7
    unfold bodyRun.sl.r_83 k0_pay103
    dsimp only
    repeat' first | with_reducible exact h_r_81 | with_reducible exact h_r_82 | with_reducible refine AllP.max hP ?_ ?_ | with_reducible refine AllP.slice ?_ _ _ _ | with_reducible exact e0 | exact e0
  have h_r_89 : AllP P (bodyRun.sl.r_89 i c M4 M5 f4 f5) := by
    have e0 : AllP P (k0_pay109 (bodyRun.sl.r_2 i c M4 f4) (View.readAt (Elt F) M5.view (Rect.unit (s := S1x8448x128) ![0, 6144, 0] S1x768x128.size inb_S1x8448x128_S1x768x128_0_6144_0).toLoadRect f5)) := by first | exact hs 8
    unfold bodyRun.sl.r_89 k0_pay111
    dsimp only
    repeat' first | with_reducible exact h_r_83 | with_reducible refine AllP.max hP ?_ ?_ | with_reducible refine AllP.slice ?_ _ _ _ | with_reducible exact e0 | exact e0
  have h_r_90 : AllP P (bodyRun.sl.r_90 i c M4 M5 f4 f5) := by
    have e0 : AllP P (k0_pay109 (bodyRun.sl.r_2 i c M4 f4) (View.readAt (Elt F) M5.view (Rect.unit (s := S1x8448x128) ![0, 6144, 0] S1x768x128.size inb_S1x8448x128_S1x768x128_0_6144_0).toLoadRect f5)) := by first | exact hs 8
    unfold bodyRun.sl.r_90 k0_pay112
    dsimp only
    repeat' first | with_reducible refine AllP.max hP ?_ ?_ | with_reducible refine AllP.slice ?_ _ _ _ | with_reducible exact e0 | exact e0
  have h_r_91 : AllP P (bodyRun.sl.r_91 i c M4 M5 f4 f5) := by
    have e0 : AllP P (bodyRun.sl.r_88 i c M4 M5 f4 f5) := by first | exact hs 8
    unfold bodyRun.sl.r_91 k0_pay113
    dsimp only
    repeat' first | with_reducible exact h_r_89 | with_reducible exact h_r_90 | with_reducible refine AllP.max hP ?_ ?_ | with_reducible refine AllP.slice ?_ _ _ _ | with_reducible exact e0 | exact e0
  have h_r_92 : AllP P (bodyRun.sl.r_92 i c M4 M5 f4 f5) := by
    have e0 : AllP P (bodyRun.sl.r_88 i c M4 M5 f4 f5) := by first | exact hs 8
    unfold bodyRun.sl.r_92 k0_pay114
    dsimp only
    repeat' first | with_reducible refine AllP.max hP ?_ ?_ | with_reducible refine AllP.slice ?_ _ _ _ | with_reducible exact e0 | exact e0
  have h_r_93 : AllP P (bodyRun.sl.r_93 i c M4 M5 f4 f5) := by
    have e0 : AllP P (bodyRun.sl.r_88 i c M4 M5 f4 f5) := by first | exact hs 8
    unfold bodyRun.sl.r_93 k0_pay115
    dsimp only
    repeat' first | with_reducible exact h_r_91 | with_reducible exact h_r_92 | with_reducible refine AllP.max hP ?_ ?_ | with_reducible refine AllP.slice ?_ _ _ _ | with_reducible exact e0 | exact e0
  have h_r_94 : AllP P (bodyRun.sl.r_94 i c M4 M5 f4 f5) := by
    have e0 : AllP P (bodyRun.sl.r_88 i c M4 M5 f4 f5) := by first | exact hs 8
    unfold bodyRun.sl.r_94 k0_pay116
    dsimp only
    repeat' first | with_reducible refine AllP.max hP ?_ ?_ | with_reducible refine AllP.slice ?_ _ _ _ | with_reducible exact e0 | exact e0
  have h_r_95 : AllP P (bodyRun.sl.r_95 i c M4 M5 f4 f5) := by
    have e0 : AllP P (bodyRun.sl.r_88 i c M4 M5 f4 f5) := by first | exact hs 8
    unfold bodyRun.sl.r_95 k0_pay117
    dsimp only
    repeat' first | with_reducible exact h_r_93 | with_reducible exact h_r_94 | with_reducible refine AllP.max hP ?_ ?_ | with_reducible refine AllP.slice ?_ _ _ _ | with_reducible exact e0 | exact e0
  have h_r_101 : AllP P (bodyRun.sl.r_101 i c M4 M5 f4 f5) := by
    have e0 : AllP P (k0_pay123 (bodyRun.sl.r_2 i c M4 f4) (View.readAt (Elt F) M5.view (Rect.unit (s := S1x8448x128) ![0, 6912, 0] S1x768x128.size inb_S1x8448x128_S1x768x128_0_6912_0).toLoadRect f5)) := by first | exact hs 9
    unfold bodyRun.sl.r_101 k0_pay125
    dsimp only
    repeat' first | with_reducible exact h_r_95 | with_reducible refine AllP.max hP ?_ ?_ | with_reducible refine AllP.slice ?_ _ _ _ | with_reducible exact e0 | exact e0
  have h_r_102 : AllP P (bodyRun.sl.r_102 i c M4 M5 f4 f5) := by
    have e0 : AllP P (k0_pay123 (bodyRun.sl.r_2 i c M4 f4) (View.readAt (Elt F) M5.view (Rect.unit (s := S1x8448x128) ![0, 6912, 0] S1x768x128.size inb_S1x8448x128_S1x768x128_0_6912_0).toLoadRect f5)) := by first | exact hs 9
    unfold bodyRun.sl.r_102 k0_pay126
    dsimp only
    repeat' first | with_reducible refine AllP.max hP ?_ ?_ | with_reducible refine AllP.slice ?_ _ _ _ | with_reducible exact e0 | exact e0
  have h_r_103 : AllP P (bodyRun.sl.r_103 i c M4 M5 f4 f5) := by
    have e0 : AllP P (bodyRun.sl.r_100 i c M4 M5 f4 f5) := by first | exact hs 9
    unfold bodyRun.sl.r_103 k0_pay127
    dsimp only
    repeat' first | with_reducible exact h_r_101 | with_reducible exact h_r_102 | with_reducible refine AllP.max hP ?_ ?_ | with_reducible refine AllP.slice ?_ _ _ _ | with_reducible exact e0 | exact e0
  have h_r_104 : AllP P (bodyRun.sl.r_104 i c M4 M5 f4 f5) := by
    have e0 : AllP P (bodyRun.sl.r_100 i c M4 M5 f4 f5) := by first | exact hs 9
    unfold bodyRun.sl.r_104 k0_pay128
    dsimp only
    repeat' first | with_reducible refine AllP.max hP ?_ ?_ | with_reducible refine AllP.slice ?_ _ _ _ | with_reducible exact e0 | exact e0
  have h_r_105 : AllP P (bodyRun.sl.r_105 i c M4 M5 f4 f5) := by
    have e0 : AllP P (bodyRun.sl.r_100 i c M4 M5 f4 f5) := by first | exact hs 9
    unfold bodyRun.sl.r_105 k0_pay129
    dsimp only
    repeat' first | with_reducible exact h_r_103 | with_reducible exact h_r_104 | with_reducible refine AllP.max hP ?_ ?_ | with_reducible refine AllP.slice ?_ _ _ _ | with_reducible exact e0 | exact e0
  have h_r_106 : AllP P (bodyRun.sl.r_106 i c M4 M5 f4 f5) := by
    have e0 : AllP P (bodyRun.sl.r_100 i c M4 M5 f4 f5) := by first | exact hs 9
    unfold bodyRun.sl.r_106 k0_pay130
    dsimp only
    repeat' first | with_reducible refine AllP.max hP ?_ ?_ | with_reducible refine AllP.slice ?_ _ _ _ | with_reducible exact e0 | exact e0
  have h_r_107 : AllP P (bodyRun.sl.r_107 i c M4 M5 f4 f5) := by
    have e0 : AllP P (bodyRun.sl.r_100 i c M4 M5 f4 f5) := by first | exact hs 9
    unfold bodyRun.sl.r_107 k0_pay131
    dsimp only
    repeat' first | with_reducible exact h_r_105 | with_reducible exact h_r_106 | with_reducible refine AllP.max hP ?_ ?_ | with_reducible refine AllP.slice ?_ _ _ _ | with_reducible exact e0 | exact e0
  have h_r_112 : AllP P (bodyRun.sl.r_112 i c M4 M5 f4 f5) := by
    have e0 : AllP P (bodyRun.sl.r_110 i c M4 M5 f4 f5) := by first | exact hs 10
    unfold bodyRun.sl.r_112 k0_pay137
    dsimp only
    repeat' first | with_reducible exact h_r_107 | with_reducible refine AllP.max hP ?_ ?_ | with_reducible refine AllP.slice ?_ _ _ _ | with_reducible exact e0 | exact e0
  have h_r_113 : AllP P (bodyRun.sl.r_113 i c M4 M5 f4 f5) := by
    have e0 : AllP P (bodyRun.sl.r_110 i c M4 M5 f4 f5) := by first | exact hs 10
    unfold bodyRun.sl.r_113 k0_pay138
    dsimp only
    repeat' first | with_reducible refine AllP.max hP ?_ ?_ | with_reducible refine AllP.slice ?_ _ _ _ | with_reducible exact e0 | exact e0
  have h_r_114 : AllP P (bodyRun.sl.r_114 i c M4 M5 f4 f5) := by
    have e0 : AllP P (bodyRun.sl.r_110 i c M4 M5 f4 f5) := by first | exact hs 10
    unfold bodyRun.sl.r_114 k0_pay139
    dsimp only
    repeat' first | with_reducible exact h_r_112 | with_reducible exact h_r_113 | with_reducible refine AllP.max hP ?_ ?_ | with_reducible refine AllP.slice ?_ _ _ _ | with_reducible exact e0 | exact e0
  have h_r_115 : AllP P (bodyRun.sl.r_115 i c M4 M5 f4 f5) := by
    have e0 : AllP P (bodyRun.sl.r_110 i c M4 M5 f4 f5) := by first | exact hs 10
    unfold bodyRun.sl.r_115 k0_pay140
    dsimp only
    repeat' first | with_reducible refine AllP.max hP ?_ ?_ | with_reducible refine AllP.slice ?_ _ _ _ | with_reducible exact e0 | exact e0
  have h_r_116 : AllP P (bodyRun.sl.r_116 i c M4 M5 f4 f5) := by
    have e0 : AllP P (bodyRun.sl.r_110 i c M4 M5 f4 f5) := by first | exact hs 10
    unfold bodyRun.sl.r_116 k0_pay141
    dsimp only
    repeat' first | with_reducible exact h_r_114 | with_reducible exact h_r_115 | with_reducible refine AllP.max hP ?_ ?_ | with_reducible refine AllP.slice ?_ _ _ _ | with_reducible exact e0 | exact e0
  have h_r_117 : AllP P (bodyRun.sl.r_117 i c M4 M5 f4 f5) := by
    have e0 : AllP P (bodyRun.sl.r_110 i c M4 M5 f4 f5) := by first | exact hs 10
    unfold bodyRun.sl.r_117 k0_pay142
    dsimp only
    repeat' first | with_reducible refine AllP.max hP ?_ ?_ | with_reducible refine AllP.slice ?_ _ _ _ | with_reducible exact e0 | exact e0
  repeat' first | with_reducible exact h_r_116 | with_reducible exact h_r_117 | with_reducible refine AllP.max hP ?_ ?_ | with_reducible refine AllP.slice ?_ _ _ _ | exact hs 10

set_option maxHeartbeats 4000000 in
/-- The running maximum of the second half is made of its scores. -/
theorem link_m1 : IsMax (fun k => scF (q1 i c M4 f4) (kk c M5 f5 k)) (k0_pay282 (bodyRun.sl.r_228 i c M4 M5 f4 f5) (bodyRun.sl.r_233 i c M4 M5 f4 f5) (bodyRun.sl.r_234 i c M4 M5 f4 f5)) := by
  refine ⟨_, by rfl, fun P hP hs => ?_⟩
  have h_r_123 : AllP P (bodyRun.sl.r_123 i c M4 M5 f4 f5) := by
    have e0 : AllP P (k0_pay149 (bodyRun.sl.r_119 i c M4 f4) bodyRun.sl.v33 bodyRun.sl.cst_171 (View.readAt (Elt F) M5.view (Rect.unit (s := S1x8448x128) ![0, 0, 0] S1x768x128.size inb_S1x8448x128_S1x768x128_0_0_0).toLoadRect f5)) := by first | exact hs 0
    unfold bodyRun.sl.r_123 k0_pay151
    dsimp only
    repeat' first | with_reducible refine AllP.max hP ?_ ?_ | with_reducible refine AllP.slice ?_ _ _ _ | with_reducible exact e0 | exact e0
  have h_r_124 : AllP P (bodyRun.sl.r_124 i c M4 M5 f4 f5) := by
    have e0 : AllP P (k0_pay149 (bodyRun.sl.r_119 i c M4 f4) bodyRun.sl.v33 bodyRun.sl.cst_171 (View.readAt (Elt F) M5.view (Rect.unit (s := S1x8448x128) ![0, 0, 0] S1x768x128.size inb_S1x8448x128_S1x768x128_0_0_0).toLoadRect f5)) := by first | exact hs 0
    unfold bodyRun.sl.r_124 k0_pay152
    dsimp only
    repeat' first | with_reducible refine AllP.max hP ?_ ?_ | with_reducible refine AllP.slice ?_ _ _ _ | with_reducible exact e0 | exact e0
  have h_r_125 : AllP P (bodyRun.sl.r_125 i c M4 M5 f4 f5) := by
    have e0 : AllP P (bodyRun.sl.r_122 i c M4 M5 f4 f5) := by first | exact hs 0
    unfold bodyRun.sl.r_125 k0_pay153
    dsimp only
    repeat' first | with_reducible exact h_r_123 | with_reducible exact h_r_124 | with_reducible refine AllP.max hP ?_ ?_ | with_reducible refine AllP.slice ?_ _ _ _ | with_reducible exact e0 | exact e0
  have h_r_126 : AllP P (bodyRun.sl.r_126 i c M4 M5 f4 f5) := by
    have e0 : AllP P (bodyRun.sl.r_122 i c M4 M5 f4 f5) := by first | exact hs 0
    unfold bodyRun.sl.r_126 k0_pay154
    dsimp only
    repeat' first | with_reducible refine AllP.max hP ?_ ?_ | with_reducible refine AllP.slice ?_ _ _ _ | with_reducible exact e0 | exact e0
  have h_r_127 : AllP P (bodyRun.sl.r_127 i c M4 M5 f4 f5) := by
    have e0 : AllP P (bodyRun.sl.r_122 i c M4 M5 f4 f5) := by first | exact hs 0
    unfold bodyRun.sl.r_127 k0_pay155
    dsimp only
    repeat' first | with_reducible exact h_r_125 | with_reducible exact h_r_126 | with_reducible refine AllP.max hP ?_ ?_ | with_reducible refine AllP.slice ?_ _ _ _ | with_reducible exact e0 | exact e0
  have h_r_128 : AllP P (bodyRun.sl.r_128 i c M4 M5 f4 f5) := by
    have e0 : AllP P (bodyRun.sl.r_122 i c M4 M5 f4 f5) := by first | exact hs 0
    unfold bodyRun.sl.r_128 k0_pay156
    dsimp only
    repeat' first | with_reducible refine AllP.max hP ?_ ?_ | with_reducible refine AllP.slice ?_ _ _ _ | with_reducible exact e0 | exact e0
  have h_r_129 : AllP P (bodyRun.sl.r_129 i c M4 M5 f4 f5) := by
    have e0 : AllP P (bodyRun.sl.r_122 i c M4 M5 f4 f5) := by first | exact hs 0
    unfold bodyRun.sl.r_129 k0_pay157
    dsimp only
    repeat' first | with_reducible exact h_r_127 | with_reducible exact h_r_128 | with_reducible refine AllP.max hP ?_ ?_ | with_reducible refine AllP.slice ?_ _ _ _ | with_reducible exact e0 | exact e0
  have h_r_133 : AllP P (bodyRun.sl.r_133 i c M4 M5 f4 f5) := by
    have e0 : AllP P (k0_pay161 (bodyRun.sl.r_120 i c M4 f4) (View.readAt (Elt F) M5.view (Rect.unit (s := S1x8448x128) ![0, 768, 0] S1x768x128.size inb_S1x8448x128_S1x768x128_0_768_0).toLoadRect f5)) := by first | exact hs 1
    unfold bodyRun.sl.r_133 k0_pay163
    dsimp only
    repeat' first | with_reducible exact h_r_129 | with_reducible refine AllP.max hP ?_ ?_ | with_reducible refine AllP.slice ?_ _ _ _ | with_reducible exact e0 | exact e0
  have h_r_134 : AllP P (bodyRun.sl.r_134 i c M4 M5 f4 f5) := by
    have e0 : AllP P (k0_pay161 (bodyRun.sl.r_120 i c M4 f4) (View.readAt (Elt F) M5.view (Rect.unit (s := S1x8448x128) ![0, 768, 0] S1x768x128.size inb_S1x8448x128_S1x768x128_0_768_0).toLoadRect f5)) := by first | exact hs 1
    unfold bodyRun.sl.r_134 k0_pay164
    dsimp only
    repeat' first | with_reducible refine AllP.max hP ?_ ?_ | with_reducible refine AllP.slice ?_ _ _ _ | with_reducible exact e0 | exact e0
  have h_r_135 : AllP P (bodyRun.sl.r_135 i c M4 M5 f4 f5) := by
    have e0 : AllP P (bodyRun.sl.r_132 i c M4 M5 f4 f5) := by first | exact hs 1
    unfold bodyRun.sl.r_135 k0_pay165
    dsimp only
    repeat' first | with_reducible exact h_r_133 | with_reducible exact h_r_134 | with_reducible refine AllP.max hP ?_ ?_ | with_reducible refine AllP.slice ?_ _ _ _ | with_reducible exact e0 | exact e0
  have h_r_136 : AllP P (bodyRun.sl.r_136 i c M4 M5 f4 f5) := by
    have e0 : AllP P (bodyRun.sl.r_132 i c M4 M5 f4 f5) := by first | exact hs 1
    unfold bodyRun.sl.r_136 k0_pay166
    dsimp only
    repeat' first | with_reducible refine AllP.max hP ?_ ?_ | with_reducible refine AllP.slice ?_ _ _ _ | with_reducible exact e0 | exact e0
  have h_r_137 : AllP P (bodyRun.sl.r_137 i c M4 M5 f4 f5) := by
    have e0 : AllP P (bodyRun.sl.r_132 i c M4 M5 f4 f5) := by first | exact hs 1
    unfold bodyRun.sl.r_137 k0_pay167
    dsimp only
    repeat' first | with_reducible exact h_r_135 | with_reducible exact h_r_136 | with_reducible refine AllP.max hP ?_ ?_ | with_reducible refine AllP.slice ?_ _ _ _ | with_reducible exact e0 | exact e0
  have h_r_138 : AllP P (bodyRun.sl.r_138 i c M4 M5 f4 f5) := by
    have e0 : AllP P (bodyRun.sl.r_132 i c M4 M5 f4 f5) := by first | exact hs 1
    unfold bodyRun.sl.r_138 k0_pay168
    dsimp only
    repeat' first | with_reducible refine AllP.max hP ?_ ?_ | with_reducible refine AllP.slice ?_ _ _ _ | with_reducible exact e0 | exact e0
  have h_r_142 : AllP P (bodyRun.sl.r_142 i c M4 M5 f4 f5) := by
    have e0 : AllP P (bodyRun.sl.r_132 i c M4 M5 f4 f5) := by first | exact hs 1 | exact hs 2
    have e1 : AllP P (k0_pay172 (bodyRun.sl.r_120 i c M4 f4) (View.readAt (Elt F) M5.view (Rect.unit (s := S1x8448x128) ![0, 1536, 0] S1x768x128.size inb_S1x8448x128_S1x768x128_0_1536_0).toLoadRect f5)) := by first | exact hs 1 | exact hs 2
    unfold bodyRun.sl.r_142 k0_pay174
    dsimp only
    repeat' first | with_reducible exact h_r_137 | with_reducible exact h_r_138 | with_reducible refine AllP.max hP ?_ ?_ | with_reducible refine AllP.slice ?_ _ _ _ | with_reducible exact e0 | exact e0 | with_reducible exact e1 | exact e1
  have h_r_143 : AllP P (bodyRun.sl.r_143 i c M4 M5 f4 f5) := by
    have e0 : AllP P (k0_pay172 (bodyRun.sl.r_120 i c M4 f4) (View.readAt (Elt F) M5.view (Rect.unit (s := S1x8448x128) ![0, 1536, 0] S1x768x128.size inb_S1x8448x128_S1x768x128_0_1536_0).toLoadRect f5)) := by first | exact hs 2
    unfold bodyRun.sl.r_143 k0_pay175
    dsimp only
    repeat' first | with_reducible refine AllP.max hP ?_ ?_ | with_reducible refine AllP.slice ?_ _ _ _ | with_reducible exact e0 | exact e0
  have h_r_144 : AllP P (bodyRun.sl.r_144 i c M4 M5 f4 f5) := by
    have e0 : AllP P (bodyRun.sl.r_141 i c M4 M5 f4 f5) := by first | exact hs 2
    unfold bodyRun.sl.r_144 k0_pay176
    dsimp only
    repeat' first | with_reducible exact h_r_142 | with_reducible exact h_r_143 | with_reducible refine AllP.max hP ?_ ?_ | with_reducible refine AllP.slice ?_ _ _ _ | with_reducible exact e0 | exact e0
  have h_r_145 : AllP P (bodyRun.sl.r_145 i c M4 M5 f4 f5) := by
    have e0 : AllP P (bodyRun.sl.r_141 i c M4 M5 f4 f5) := by first | exact hs 2
    unfold bodyRun.sl.r_145 k0_pay177
    dsimp only
    repeat' first | with_reducible refine AllP.max hP ?_ ?_ | with_reducible refine AllP.slice ?_ _ _ _ | with_reducible exact e0 | exact e0
  have h_r_146 : AllP P (bodyRun.sl.r_146 i c M4 M5 f4 f5) := by
    have e0 : AllP P (bodyRun.sl.r_141 i c M4 M5 f4 f5) := by first | exact hs 2
    unfold bodyRun.sl.r_146 k0_pay178
    dsimp only
    repeat' first | with_reducible exact h_r_144 | with_reducible exact h_r_145 | with_reducible refine AllP.max hP ?_ ?_ | with_reducible refine AllP.slice ?_ _ _ _ | with_reducible exact e0 | exact e0
  have h_r_147 : AllP P (bodyRun.sl.r_147 i c M4 M5 f4 f5) := by
    have e0 : AllP P (bodyRun.sl.r_141 i c M4 M5 f4 f5) := by first | exact hs 2
    unfold bodyRun.sl.r_147 k0_pay179
    dsimp only
    repeat' first | with_reducible refine AllP.max hP ?_ ?_ | with_reducible refine AllP.slice ?_ _ _ _ | with_reducible exact e0 | exact e0
  have h_r_148 : AllP P (bodyRun.sl.r_148 i c M4 M5 f4 f5) := by
    have e0 : AllP P (bodyRun.sl.r_141 i c M4 M5 f4 f5) := by first | exact hs 2
    unfold bodyRun.sl.r_148 k0_pay180
    dsimp only
    repeat' first | with_reducible exact h_r_146 | with_reducible exact h_r_147 | with_reducible refine AllP.max hP ?_ ?_ | with_reducible refine AllP.slice ?_ _ _ _ | with_reducible exact e0 | exact e0
  have h_r_149 : AllP P (bodyRun.sl.r_149 i c M4 M5 f4 f5) := by
    have e0 : AllP P (bodyRun.sl.r_141 i c M4 M5 f4 f5) := by first | exact hs 2
    unfold bodyRun.sl.r_149 k0_pay181
    dsimp only
    repeat' first | with_reducible refine AllP.max hP ?_ ?_ | with_reducible refine AllP.slice ?_ _ _ _ | with_reducible exact e0 | exact e0
  have h_r_153 : AllP P (bodyRun.sl.r_153 i c M4 M5 f4 f5) := by
    have e0 : AllP P (bodyRun.sl.r_141 i c M4 M5 f4 f5) := by first | exact hs 2 | exact hs 3
    have e1 : AllP P (k0_pay185 (bodyRun.sl.r_120 i c M4 f4) (View.readAt (Elt F) M5.view (Rect.unit (s := S1x8448x128) ![0, 2304, 0] S1x768x128.size inb_S1x8448x128_S1x768x128_0_2304_0).toLoadRect f5)) := by first | exact hs 2 | exact hs 3
    unfold bodyRun.sl.r_153 k0_pay187
    dsimp only
    repeat' first | with_reducible exact h_r_148 | with_reducible exact h_r_149 | with_reducible refine AllP.max hP ?_ ?_ | with_reducible refine AllP.slice ?_ _ _ _ | with_reducible exact e0 | exact e0 | with_reducible exact e1 | exact e1
  have h_r_154 : AllP P (bodyRun.sl.r_154 i c M4 M5 f4 f5) := by
    have e0 : AllP P (k0_pay185 (bodyRun.sl.r_120 i c M4 f4) (View.readAt (Elt F) M5.view (Rect.unit (s := S1x8448x128) ![0, 2304, 0] S1x768x128.size inb_S1x8448x128_S1x768x128_0_2304_0).toLoadRect f5)) := by first | exact hs 3
    unfold bodyRun.sl.r_154 k0_pay188
    dsimp only
    repeat' first | with_reducible refine AllP.max hP ?_ ?_ | with_reducible refine AllP.slice ?_ _ _ _ | with_reducible exact e0 | exact e0
  have h_r_155 : AllP P (bodyRun.sl.r_155 i c M4 M5 f4 f5) := by
    have e0 : AllP P (bodyRun.sl.r_152 i c M4 M5 f4 f5) := by first | exact hs 3
    unfold bodyRun.sl.r_155 k0_pay189
    dsimp only
    repeat' first | with_reducible exact h_r_153 | with_reducible exact h_r_154 | with_reducible refine AllP.max hP ?_ ?_ | with_reducible refine AllP.slice ?_ _ _ _ | with_reducible exact e0 | exact e0
  have h_r_156 : AllP P (bodyRun.sl.r_156 i c M4 M5 f4 f5) := by
    have e0 : AllP P (bodyRun.sl.r_152 i c M4 M5 f4 f5) := by first | exact hs 3
    unfold bodyRun.sl.r_156 k0_pay190
    dsimp only
    repeat' first | with_reducible refine AllP.max hP ?_ ?_ | with_reducible refine AllP.slice ?_ _ _ _ | with_reducible exact e0 | exact e0
  have h_r_157 : AllP P (bodyRun.sl.r_157 i c M4 M5 f4 f5) := by
    have e0 : AllP P (bodyRun.sl.r_152 i c M4 M5 f4 f5) := by first | exact hs 3
    unfold bodyRun.sl.r_157 k0_pay191
    dsimp only
    repeat' first | with_reducible exact h_r_155 | with_reducible exact h_r_156 | with_reducible refine AllP.max hP ?_ ?_ | with_reducible refine AllP.slice ?_ _ _ _ | with_reducible exact e0 | exact e0
  have h_r_158 : AllP P (bodyRun.sl.r_158 i c M4 M5 f4 f5) := by
    have e0 : AllP P (bodyRun.sl.r_152 i c M4 M5 f4 f5) := by first | exact hs 3
    unfold bodyRun.sl.r_158 k0_pay192
    dsimp only
    repeat' first | with_reducible refine AllP.max hP ?_ ?_ | with_reducible refine AllP.slice ?_ _ _ _ | with_reducible exact e0 | exact e0
  have h_r_159 : AllP P (bodyRun.sl.r_159 i c M4 M5 f4 f5) := by
    have e0 : AllP P (bodyRun.sl.r_152 i c M4 M5 f4 f5) := by first | exact hs 3
    unfold bodyRun.sl.r_159 k0_pay193
    dsimp only
    repeat' first | with_reducible exact h_r_157 | with_reducible exact h_r_158 | with_reducible refine AllP.max hP ?_ ?_ | with_reducible refine AllP.slice ?_ _ _ _ | with_reducible exact e0 | exact e0
  have h_r_165 : AllP P (bodyRun.sl.r_165 i c M4 M5 f4 f5) := by
    have e0 : AllP P (k0_pay199 (bodyRun.sl.r_120 i c M4 f4) (View.readAt (Elt F) M5.view (Rect.unit (s := S1x8448x128) ![0, 3072, 0] S1x768x128.size inb_S1x8448x128_S1x768x128_0_3072_0).toLoadRect f5)) := by first | exact hs 4
    unfold bodyRun.sl.r_165 k0_pay201
    dsimp only
    repeat' first | with_reducible exact h_r_159 | with_reducible refine AllP.max hP ?_ ?_ | with_reducible refine AllP.slice ?_ _ _ _ | with_reducible exact e0 | exact e0
  have h_r_166 : AllP P (bodyRun.sl.r_166 i c M4 M5 f4 f5) := by
    have e0 : AllP P (k0_pay199 (bodyRun.sl.r_120 i c M4 f4) (View.readAt (Elt F) M5.view (Rect.unit (s := S1x8448x128) ![0, 3072, 0] S1x768x128.size inb_S1x8448x128_S1x768x128_0_3072_0).toLoadRect f5)) := by first | exact hs 4
    unfold bodyRun.sl.r_166 k0_pay202
    dsimp only
    repeat' first | with_reducible refine AllP.max hP ?_ ?_ | with_reducible refine AllP.slice ?_ _ _ _ | with_reducible exact e0 | exact e0
  have h_r_167 : AllP P (bodyRun.sl.r_167 i c M4 M5 f4 f5) := by
    have e0 : AllP P (bodyRun.sl.r_164 i c M4 M5 f4 f5) := by first | exact hs 4
    unfold bodyRun.sl.r_167 k0_pay203
    dsimp only
    repeat' first | with_reducible exact h_r_165 | with_reducible exact h_r_166 | with_reducible refine AllP.max hP ?_ ?_ | with_reducible refine AllP.slice ?_ _ _ _ | with_reducible exact e0 | exact e0
  have h_r_168 : AllP P (bodyRun.sl.r_168 i c M4 M5 f4 f5) := by
    have e0 : AllP P (bodyRun.sl.r_164 i c M4 M5 f4 f5) := by first | exact hs 4
    unfold bodyRun.sl.r_168 k0_pay204
    dsimp only
    repeat' first | with_reducible refine AllP.max hP ?_ ?_ | with_reducible refine AllP.slice ?_ _ _ _ | with_reducible exact e0 | exact e0
  have h_r_169 : AllP P (bodyRun.sl.r_169 i c M4 M5 f4 f5) := by
    have e0 : AllP P (bodyRun.sl.r_164 i c M4 M5 f4 f5) := by first | exact hs 4
    unfold bodyRun.sl.r_169 k0_pay205
    dsimp only
    repeat' first | with_reducible exact h_r_167 | with_reducible exact h_r_168 | with_reducible refine AllP.max hP ?_ ?_ | with_reducible refine AllP.slice ?_ _ _ _ | with_reducible exact e0 | exact e0
  have h_r_170 : AllP P (bodyRun.sl.r_170 i c M4 M5 f4 f5) := by
    have e0 : AllP P (bodyRun.sl.r_164 i c M4 M5 f4 f5) := by first | exact hs 4
    unfold bodyRun.sl.r_170 k0_pay206
    dsimp only
    repeat' first | with_reducible refine AllP.max hP ?_ ?_ | with_reducible refine AllP.slice ?_ _ _ _ | with_reducible exact e0 | exact e0
  have h_r_171 : AllP P (bodyRun.sl.r_171 i c M4 M5 f4 f5) := by
    have e0 : AllP P (bodyRun.sl.r_164 i c M4 M5 f4 f5) := by first | exact hs 4
    unfold bodyRun.sl.r_171 k0_pay207
    dsimp only
    repeat' first | with_reducible exact h_r_169 | with_reducible exact h_r_170 | with_reducible refine AllP.max hP ?_ ?_ | with_reducible refine AllP.slice ?_ _ _ _ | with_reducible exact e0 | exact e0
  have h_r_177 : AllP P (bodyRun.sl.r_177 i c M4 M5 f4 f5) := by
    have e0 : AllP P (k0_pay213 (bodyRun.sl.r_120 i c M4 f4) (View.readAt (Elt F) M5.view (Rect.unit (s := S1x8448x128) ![0, 3840, 0] S1x768x128.size inb_S1x8448x128_S1x768x128_0_3840_0).toLoadRect f5)) := by first | exact hs 5
    unfold bodyRun.sl.r_177 k0_pay215
    dsimp only
    repeat' first | with_reducible exact h_r_171 | with_reducible refine AllP.max hP ?_ ?_ | with_reducible refine AllP.slice ?_ _ _ _ | with_reducible exact e0 | exact e0
  have h_r_178 : AllP P (bodyRun.sl.r_178 i c M4 M5 f4 f5) := by
    have e0 : AllP P (k0_pay213 (bodyRun.sl.r_120 i c M4 f4) (View.readAt (Elt F) M5.view (Rect.unit (s := S1x8448x128) ![0, 3840, 0] S1x768x128.size inb_S1x8448x128_S1x768x128_0_3840_0).toLoadRect f5)) := by first | exact hs 5
    unfold bodyRun.sl.r_178 k0_pay216
    dsimp only
    repeat' first | with_reducible refine AllP.max hP ?_ ?_ | with_reducible refine AllP.slice ?_ _ _ _ | with_reducible exact e0 | exact e0
  have h_r_179 : AllP P (bodyRun.sl.r_179 i c M4 M5 f4 f5) := by
    have e0 : AllP P (bodyRun.sl.r_176 i c M4 M5 f4 f5) := by first | exact hs 5
    unfold bodyRun.sl.r_179 k0_pay217
    dsimp only
    repeat' first | with_reducible exact h_r_177 | with_reducible exact h_r_178 | with_reducible refine AllP.max hP ?_ ?_ | with_reducible refine AllP.slice ?_ _ _ _ | with_reducible exact e0 | exact e0
  have h_r_180 : AllP P (bodyRun.sl.r_180 i c M4 M5 f4 f5) := by
    have e0 : AllP P (bodyRun.sl.r_176 i c M4 M5 f4 f5) := by first | exact hs 5
    unfold bodyRun.sl.r_180 k0_pay218
    dsimp only
    repeat' first | with_reducible refine AllP.max hP ?_ ?_ | with_reducible refine AllP.slice ?_ _ _ _ | with_reducible exact e0 | exact e0
  have h_r_181 : AllP P (bodyRun.sl.r_181 i c M4 M5 f4 f5) := by
    have e0 : AllP P (bodyRun.sl.r_176 i c M4 M5 f4 f5) := by first | exact hs 5
    unfold bodyRun.sl.r_181 k0_pay219
    dsimp only
    repeat' first | with_reducible exact h_r_179 | with_reducible exact h_r_180 | with_reducible refine AllP.max hP ?_ ?_ | with_reducible refine AllP.slice ?_ _ _ _ | with_reducible exact e0 | exact e0
  have h_r_182 : AllP P (bodyRun.sl.r_182 i c M4 M5 f4 f5) := by
    have e0 : AllP P (bodyRun.sl.r_176 i c M4 M5 f4 f5) := by first | exact hs 5
    unfold bodyRun.sl.r_182 k0_pay220
    dsimp only
    repeat' first | with_reducible refine AllP.max hP ?_ ?_ | with_reducible refine AllP.slice ?_ _ _ _ | with_reducible exact e0 | exact e0
  have h_r_183 : AllP P (bodyRun.sl.r_183 i c M4 M5 f4 f5) := by
    have e0 : AllP P (bodyRun.sl.r_176 i c M4 M5 f4 f5) := by first | exact hs 5
    unfold bodyRun.sl.r_183 k0_pay221
    dsimp only
    repeat' first | with_reducible exact h_r_181 | with_reducible exact h_r_182 | with_reducible refine AllP.max hP ?_ ?_ | with_reducible refine AllP.slice ?_ _ _ _ | with_reducible exact e0 | exact e0
  have h_r_188 : AllP P (bodyRun.sl.r_188 i c M4 M5 f4 f5) := by
    have e0 : AllP P (bodyRun.sl.r_186 i c M4 M5 f4 f5) := by first | exact hs 6
    unfold bodyRun.sl.r_188 k0_pay227
    dsimp only
    repeat' first | with_reducible exact h_r_183 | with_reducible refine AllP.max hP ?_ ?_ | with_reducible refine AllP.slice ?_ _ _ _ | with_reducible exact e0 | exact e0
  have h_r_189 : AllP P (bodyRun.sl.r_189 i c M4 M5 f4 f5) := by
    have e0 : AllP P (bodyRun.sl.r_186 i c M4 M5 f4 f5) := by first | exact hs 6
    unfold bodyRun.sl.r_189 k0_pay228
    dsimp only
    repeat' first | with_reducible refine AllP.max hP ?_ ?_ | with_reducible refine AllP.slice ?_ _ _ _ | with_reducible exact e0 | exact e0
  have h_r_190 : AllP P (bodyRun.sl.r_190 i c M4 M5 f4 f5) := by
    have e0 : AllP P (bodyRun.sl.r_186 i c M4 M5 f4 f5) := by first | exact hs 6
    unfold bodyRun.sl.r_190 k0_pay229
    dsimp only
    repeat' first | with_reducible exact h_r_188 | with_reducible exact h_r_189 | with_reducible refine AllP.max hP ?_ ?_ | with_reducible refine AllP.slice ?_ _ _ _ | with_reducible exact e0 | exact e0
  have h_r_191 : AllP P (bodyRun.sl.r_191 i c M4 M5 f4 f5) := by
    have e0 : AllP P (bodyRun.sl.r_186 i c M4 M5 f4 f5) := by first | exact hs 6
    unfold bodyRun.sl.r_191 k0_pay230
    dsimp only
    repeat' first | with_reducible refine AllP.max hP ?_ ?_ | with_reducible refine AllP.slice ?_ _ _ _ | with_reducible exact e0 | exact e0
  have h_r_192 : AllP P (bodyRun.sl.r_192 i c M4 M5 f4 f5) := by
    have e0 : AllP P (bodyRun.sl.r_186 i c M4 M5 f4 f5) := by first | exact hs 6
    unfold bodyRun.sl.r_192 k0_pay231
    dsimp only
    repeat' first | with_reducible exact h_r_190 | with_reducible exact h_r_191 | with_reducible refine AllP.max hP ?_ ?_ | with_reducible refine AllP.slice ?_ _ _ _ | with_reducible exact e0 | exact e0
  have h_r_193 : AllP P (bodyRun.sl.r_193 i c M4 M5 f4 f5) := by
    have e0 : AllP P (bodyRun.sl.r_186 i c M4 M5 f4 f5) := by first | exact hs 6
    unfold bodyRun.sl.r_193 k0_pay232
    dsimp only
    repeat' first | with_reducible refine AllP.max hP ?_ ?_ | with_reducible refine AllP.slice ?_ _ _ _ | with_reducible exact e0 | exact e0
  have h_r_197 : AllP P (bodyRun.sl.r_197 i c M4 M5 f4 f5) := by
    have e0 : AllP P (bodyRun.sl.r_186 i c M4 M5 f4 f5) := by first | exact hs 6 | exact hs 7
    have e1 : AllP P (k0_pay236 (bodyRun.sl.r_120 i c M4 f4) (View.readAt (Elt F) M5.view (Rect.unit (s := S1x8448x128) ![0, 5376, 0] S1x768x128.size inb_S1x8448x128_S1x768x128_0_5376_0).toLoadRect f5)) := by first | exact hs 6 | exact hs 7
    unfold bodyRun.sl.r_197 k0_pay238
    dsimp only
    repeat' first | with_reducible exact h_r_192 | with_reducible exact h_r_193 | with_reducible refine AllP.max hP ?_ ?_ | with_reducible refine AllP.slice ?_ _ _ _ | with_reducible exact e0 | exact e0 | with_reducible exact e1 | exact e1
  have h_r_198 : AllP P (bodyRun.sl.r_198 i c M4 M5 f4 f5) := by
    have e0 : AllP P (k0_pay236 (bodyRun.sl.r_120 i c M4 f4) (View.readAt (Elt F) M5.view (Rect.unit (s := S1x8448x128) ![0, 5376, 0] S1x768x128.size inb_S1x8448x128_S1x768x128_0_5376_0).toLoadRect f5)) := by first | exact hs 7
    unfold bodyRun.sl.r_198 k0_pay239
    dsimp only
    repeat' first | with_reducible refine AllP.max hP ?_ ?_ | with_reducible refine AllP.slice ?_ _ _ _ | with_reducible exact e0 | exact e0
  have h_r_199 : AllP P (bodyRun.sl.r_199 i c M4 M5 f4 f5) := by
    have e0 : AllP P (bodyRun.sl.r_196 i c M4 M5 f4 f5) := by first | exact hs 7
    unfold bodyRun.sl.r_199 k0_pay240
    dsimp only
    repeat' first | with_reducible exact h_r_197 | with_reducible exact h_r_198 | with_reducible refine AllP.max hP ?_ ?_ | with_reducible refine AllP.slice ?_ _ _ _ | with_reducible exact e0 | exact e0
  have h_r_200 : AllP P (bodyRun.sl.r_200 i c M4 M5 f4 f5) := by
    have e0 : AllP P (bodyRun.sl.r_196 i c M4 M5 f4 f5) := by first | exact hs 7
    unfold bodyRun.sl.r_200 k0_pay241
    dsimp only
    repeat' first | with_reducible refine AllP.max hP ?_ ?_ | with_reducible refine AllP.slice ?_ _ _ _ | with_reducible exact e0 | exact e0
  have h_r_201 : AllP P (bodyRun.sl.r_201 i c M4 M5 f4 f5) := by
    have e0 : AllP P (bodyRun.sl.r_196 i c M4 M5 f4 f5) := by first | exact hs 7
    unfold bodyRun.sl.r_201 k0_pay242
    dsimp only
    repeat' first | with_reducible exact h_r_199 | with_reducible exact h_r_200 | with_reducible refine AllP.max hP ?_ ?_ | with_reducible refine AllP.slice ?_ _ _ _ | with_reducible exact e0 | exact e0
  have h_r_202 : AllP P (bodyRun.sl.r_202 i c M4 M5 f4 f5) := by
    have e0 : AllP P (bodyRun.sl.r_196 i c M4 M5 f4 f5) := by first | exact hs 7
    unfold bodyRun.sl.r_202 k0_pay243
    dsimp only
    repeat' first | with_reducible refine AllP.max hP ?_ ?_ | with_reducible refine AllP.slice ?_ _ _ _ | with_reducible exact e0 | exact e0
  have h_r_203 : AllP P (bodyRun.sl.r_203 i c M4 M5 f4 f5) := by
    have e0 : AllP P (bodyRun.sl.r_196 i c M4 M5 f4 f5) := by first | exact hs 7
    unfold bodyRun.sl.r_203 k0_pay244
    dsimp only
    repeat' first | with_reducible exact h_r_201 | with_reducible exact h_r_202 | with_reducible refine AllP.max hP ?_ ?_ | with_reducible refine AllP.slice ?_ _ _ _ | with_reducible exact e0 | exact e0
  have h_r_207 : AllP P (bodyRun.sl.r_207 i c M4 M5 f4 f5) := by
    have e0 : AllP P (k0_pay248 (bodyRun.sl.r_120 i c M4 f4) (View.readAt (Elt F) M5.view (Rect.unit (s := S1x8448x128) ![0, 6144, 0] S1x768x128.size inb_S1x8448x128_S1x768x128_0_6144_0).toLoadRect f5)) := by first | exact hs 8
    unfold bodyRun.sl.r_207 k0_pay250
    dsimp only
    repeat' first | with_reducible exact h_r_203 | with_reducible refine AllP.max hP ?_ ?_ | with_reducible refine AllP.slice ?_ _ _ _ | with_reducible exact e0 | exact e0
  have h_r_208 : AllP P (bodyRun.sl.r_208 i c M4 M5 f4 f5) := by
    have e0 : AllP P (k0_pay248 (bodyRun.sl.r_120 i c M4 f4) (View.readAt (Elt F) M5.view (Rect.unit (s := S1x8448x128) ![0, 6144, 0] S1x768x128.size inb_S1x8448x128_S1x768x128_0_6144_0).toLoadRect f5)) := by first | exact hs 8
    unfold bodyRun.sl.r_208 k0_pay251
    dsimp only
    repeat' first | with_reducible refine AllP.max hP ?_ ?_ | with_reducible refine AllP.slice ?_ _ _ _ | with_reducible exact e0 | exact e0
  have h_r_209 : AllP P (bodyRun.sl.r_209 i c M4 M5 f4 f5) := by
    have e0 : AllP P (bodyRun.sl.r_206 i c M4 M5 f4 f5) := by first | exact hs 8
    unfold bodyRun.sl.r_209 k0_pay252
    dsimp only
    repeat' first | with_reducible exact h_r_207 | with_reducible exact h_r_208 | with_reducible refine AllP.max hP ?_ ?_ | with_reducible refine AllP.slice ?_ _ _ _ | with_reducible exact e0 | exact e0
  have h_r_210 : AllP P (bodyRun.sl.r_210 i c M4 M5 f4 f5) := by
    have e0 : AllP P (bodyRun.sl.r_206 i c M4 M5 f4 f5) := by first | exact hs 8
    unfold bodyRun.sl.r_210 k0_pay253
    dsimp only
    repeat' first | with_reducible refine AllP.max hP ?_ ?_ | with_reducible refine AllP.slice ?_ _ _ _ | with_reducible exact e0 | exact e0
  have h_r_211 : AllP P (bodyRun.sl.r_211 i c M4 M5 f4 f5) := by
    have e0 : AllP P (bodyRun.sl.r_206 i c M4 M5 f4 f5) := by first | exact hs 8
    unfold bodyRun.sl.r_211 k0_pay254
    dsimp only
    repeat' first | with_reducible exact h_r_209 | with_reducible exact h_r_210 | with_reducible refine AllP.max hP ?_ ?_ | with_reducible refine AllP.slice ?_ _ _ _ | with_reducible exact e0 | exact e0
  have h_r_212 : AllP P (bodyRun.sl.r_212 i c M4 M5 f4 f5) := by
    have e0 : AllP P (bodyRun.sl.r_206 i c M4 M5 f4 f5) := by first | exact hs 8
    unfold bodyRun.sl.r_212 k0_pay255
    dsimp only
    repeat' first | with_reducible refine AllP.max hP ?_ ?_ | with_reducible refine AllP.slice ?_ _ _ _ | with_reducible exact e0 | exact e0
  have h_r_213 : AllP P (bodyRun.sl.r_213 i c M4 M5 f4 f5) := by
    have e0 : AllP P (bodyRun.sl.r_206 i c M4 M5 f4 f5) := by first | exact hs 8
    unfold bodyRun.sl.r_213 k0_pay256
    dsimp only
    repeat' first | with_reducible exact h_r_211 | with_reducible exact h_r_212 | with_reducible refine AllP.max hP ?_ ?_ | with_reducible refine AllP.slice ?_ _ _ _ | with_reducible exact e0 | exact e0
  have h_r_219 : AllP P (bodyRun.sl.r_219 i c M4 M5 f4 f5) := by
    have e0 : AllP P (k0_pay260 (bodyRun.sl.r_120 i c M4 f4) (View.readAt (Elt F) M5.view (Rect.unit (s := S1x8448x128) ![0, 6912, 0] S1x768x128.size inb_S1x8448x128_S1x768x128_0_6912_0).toLoadRect f5)) := by first | exact hs 9
    unfold bodyRun.sl.r_219 k0_pay262
    dsimp only
    repeat' first | with_reducible exact h_r_213 | with_reducible refine AllP.max hP ?_ ?_ | with_reducible refine AllP.slice ?_ _ _ _ | with_reducible exact e0 | exact e0
  have h_r_220 : AllP P (bodyRun.sl.r_220 i c M4 M5 f4 f5) := by
    have e0 : AllP P (k0_pay260 (bodyRun.sl.r_120 i c M4 f4) (View.readAt (Elt F) M5.view (Rect.unit (s := S1x8448x128) ![0, 6912, 0] S1x768x128.size inb_S1x8448x128_S1x768x128_0_6912_0).toLoadRect f5)) := by first | exact hs 9
    unfold bodyRun.sl.r_220 k0_pay263
    dsimp only
    repeat' first | with_reducible refine AllP.max hP ?_ ?_ | with_reducible refine AllP.slice ?_ _ _ _ | with_reducible exact e0 | exact e0
  have h_r_221 : AllP P (bodyRun.sl.r_221 i c M4 M5 f4 f5) := by
    have e0 : AllP P (bodyRun.sl.r_218 i c M4 M5 f4 f5) := by first | exact hs 9
    unfold bodyRun.sl.r_221 k0_pay264
    dsimp only
    repeat' first | with_reducible exact h_r_219 | with_reducible exact h_r_220 | with_reducible refine AllP.max hP ?_ ?_ | with_reducible refine AllP.slice ?_ _ _ _ | with_reducible exact e0 | exact e0
  have h_r_222 : AllP P (bodyRun.sl.r_222 i c M4 M5 f4 f5) := by
    have e0 : AllP P (bodyRun.sl.r_218 i c M4 M5 f4 f5) := by first | exact hs 9
    unfold bodyRun.sl.r_222 k0_pay265
    dsimp only
    repeat' first | with_reducible refine AllP.max hP ?_ ?_ | with_reducible refine AllP.slice ?_ _ _ _ | with_reducible exact e0 | exact e0
  have h_r_223 : AllP P (bodyRun.sl.r_223 i c M4 M5 f4 f5) := by
    have e0 : AllP P (bodyRun.sl.r_218 i c M4 M5 f4 f5) := by first | exact hs 9
    unfold bodyRun.sl.r_223 k0_pay266
    dsimp only
    repeat' first | with_reducible exact h_r_221 | with_reducible exact h_r_222 | with_reducible refine AllP.max hP ?_ ?_ | with_reducible refine AllP.slice ?_ _ _ _ | with_reducible exact e0 | exact e0
  have h_r_224 : AllP P (bodyRun.sl.r_224 i c M4 M5 f4 f5) := by
    have e0 : AllP P (bodyRun.sl.r_218 i c M4 M5 f4 f5) := by first | exact hs 9
    unfold bodyRun.sl.r_224 k0_pay267
    dsimp only
    repeat' first | with_reducible refine AllP.max hP ?_ ?_ | with_reducible refine AllP.slice ?_ _ _ _ | with_reducible exact e0 | exact e0
  have h_r_225 : AllP P (bodyRun.sl.r_225 i c M4 M5 f4 f5) := by
    have e0 : AllP P (bodyRun.sl.r_218 i c M4 M5 f4 f5) := by first | exact hs 9
    unfold bodyRun.sl.r_225 k0_pay268
    dsimp only
    repeat' first | with_reducible exact h_r_223 | with_reducible exact h_r_224 | with_reducible refine AllP.max hP ?_ ?_ | with_reducible refine AllP.slice ?_ _ _ _ | with_reducible exact e0 | exact e0
  have h_r_229 : AllP P (bodyRun.sl.r_229 i c M4 M5 f4 f5) := by
    have e0 : AllP P (bodyRun.sl.r_228 i c M4 M5 f4 f5) := by first | exact hs 10
    unfold bodyRun.sl.r_229 k0_pay274
    dsimp only
    repeat' first | with_reducible exact h_r_225 | with_reducible refine AllP.max hP ?_ ?_ | with_reducible refine AllP.slice ?_ _ _ _ | with_reducible exact e0 | exact e0
  have h_r_230 : AllP P (bodyRun.sl.r_230 i c M4 M5 f4 f5) := by
    have e0 : AllP P (bodyRun.sl.r_228 i c M4 M5 f4 f5) := by first | exact hs 10
    unfold bodyRun.sl.r_230 k0_pay275
    dsimp only
    repeat' first | with_reducible refine AllP.max hP ?_ ?_ | with_reducible refine AllP.slice ?_ _ _ _ | with_reducible exact e0 | exact e0
  have h_r_231 : AllP P (bodyRun.sl.r_231 i c M4 M5 f4 f5) := by
    have e0 : AllP P (bodyRun.sl.r_228 i c M4 M5 f4 f5) := by first | exact hs 10
    unfold bodyRun.sl.r_231 k0_pay276
    dsimp only
    repeat' first | with_reducible exact h_r_229 | with_reducible exact h_r_230 | with_reducible refine AllP.max hP ?_ ?_ | with_reducible refine AllP.slice ?_ _ _ _ | with_reducible exact e0 | exact e0
  have h_r_232 : AllP P (bodyRun.sl.r_232 i c M4 M5 f4 f5) := by
    have e0 : AllP P (bodyRun.sl.r_228 i c M4 M5 f4 f5) := by first | exact hs 10
    unfold bodyRun.sl.r_232 k0_pay277
    dsimp only
    repeat' first | with_reducible refine AllP.max hP ?_ ?_ | with_reducible refine AllP.slice ?_ _ _ _ | with_reducible exact e0 | exact e0
  have h_r_233 : AllP P (bodyRun.sl.r_233 i c M4 M5 f4 f5) := by
    have e0 : AllP P (bodyRun.sl.r_228 i c M4 M5 f4 f5) := by first | exact hs 10
    unfold bodyRun.sl.r_233 k0_pay278
    dsimp only
    repeat' first | with_reducible exact h_r_231 | with_reducible exact h_r_232 | with_reducible refine AllP.max hP ?_ ?_ | with_reducible refine AllP.slice ?_ _ _ _ | with_reducible exact e0 | exact e0
  have h_r_234 : AllP P (bodyRun.sl.r_234 i c M4 M5 f4 f5) := by
    have e0 : AllP P (bodyRun.sl.r_228 i c M4 M5 f4 f5) := by first | exact hs 10
    unfold bodyRun.sl.r_234 k0_pay279
    dsimp only
    repeat' first | with_reducible refine AllP.max hP ?_ ?_ | with_reducible refine AllP.slice ?_ _ _ _ | with_reducible exact e0 | exact e0
  repeat' first | with_reducible exact h_r_233 | with_reducible exact h_r_234 | with_reducible refine AllP.max hP ?_ ?_ | with_reducible refine AllP.slice ?_ _ _ _ | exact hs 10

end Scores

end Cert.KernelIdeal.Att

end
-- ==== Proof.Point.lean ====
/-
  What one grid point leaves, said of what its buffers read: the second half's scores and maximum in the scratch, and
  the output block with a tile of rows written by each half.
-/
module

public import proofs.«01_k».proof.Proof.Scores
public import Idealize.ShloMosaic.Lib.WritesUnit
public import Idealize.ShloMosaic.Lib.Pipeline.Value

@[expose] public section

set_option maxRecDepth 16384

noncomputable section

namespace Cert.KernelIdeal.Att

open Cert.KernelIdeal Cert.KernelIdeal.Gen

open Idealize.ShloMosaic
open Idealize.ShloMosaic.TcCoe

variable {F : FTy → Type} [FloatOps F] [Named F]

/-- The part of `X` a rectangle shows. -/
abbrev cut {α : Type} {s : Shape} (X : s.Idx → α) (r : Rect s) : r.shape.Idx → α := fun x => X (r.idx x)

theorem cut_off {α : Type} {s : Shape} (X : s.Idx → α) {off off' size : Fin s.rank → ℕ} (h : off = off')
    (i1 : ∀ a, off a + size a ≤ s.size a) (i2 : ∀ a, off' a + size a ≤ s.size a) :
    cut X (Rect.unit off size i1) = cut X (Rect.unit off' size i2) := by subst h; rfl

/-- The rows of tile `τ` of a query or output block. -/
abbrev rcT (τ : Fin 64) : Rect S1x8192x128 :=
  Rect.unit ![0, 128 * τ.val, 0] S1x128x128.size (by intro a; fin_cases a <;> simp [S1x128x128, S1x8192x128]; omega)

/-- The row the maximum of half `1` keeps. -/
abbrev rcM1 : Rect S2x8x256 := Rect.unit ![1, 0, 0] S1x8x256.size inb_S2x8x256_S1x8x256_1_0_0

theorem pieces_read {sp : Space} (v : View sig .tc sp S8448x256 .f32) (f : v.ty.Contents (Elt F)) (G : Fin 11 → Vec F S768x256 .f32)
    (k : Fin 11) : v.readAt (Elt F) (rcS k).toLoadRect (v.writes (Elt F) f (pieces G)) = G k := by
  funext x
  have hu : ∀ q ∈ (pieces G : List (View.Piece (Elt F) S8448x256 .f32)), ∃ k', q = ⟨rcS k', G k'⟩ := by
    intro q hq
    simp only [pieces, List.mem_cons, List.not_mem_nil, or_false] at hq
    rcases hq with h | h | h | h | h | h | h | h | h | h | h <;> exact ⟨_, h⟩
  refine View.read_writes_of_unique v f (⟨rcS k, G k⟩ : View.Piece (Elt F) S8448x256 .f32) x (pieces G) ?_ ?_
  · unfold pieces; fin_cases k <;> simp
  · intro q hq hm
    obtain ⟨k', rfl⟩ := hu q hq
    have hm' : (rcS k).emb x ∈ (rcS k').set := hm
    have h0 := Rect.mem_set_unit.mp hm' (0 : Fin 2)
    have e : (((rcS k).emb x) 0).val = 768 * k.val + (x 0).val := by
      change 768 * k.val + 1 * (x 0).val = _; omega
    have hx : (x 0).val < 768 := (x 0).isLt
    change 768 * k'.val ≤ (((rcS k).emb x) 0).val ∧ (((rcS k).emb x) 0).val < 768 * k'.val + 768 at h0
    rw [e] at h0
    have : k' = k := Fin.ext (by omega)
    subst this; rfl

section Point

variable (i : grid0.Coords) (c : Dev nD)
    (M3 : Memref sig .tc .vmem S4x64 .f32) (h3 : M3.IsWhole) (M4 : Memref sig .tc .vmem S1x8192x128 .f32) (h4 : M4.IsWhole)
    (M5 : Memref sig .tc .vmem S1x8448x128 .bf16) (h5 : M5.IsWhole) (M6 : Memref sig .tc .vmem S1x128x8448 .bf16) (h6 : M6.IsWhole)
    (M7 : Memref sig .tc .vmem S128x1 .f32) (h7 : M7.IsWhole) (M8 : Memref sig .tc .vmem S1x8192x128 .bf16) (h8 : M8.IsWhole)
    (M9 : Memref sig .tc .vmem S8448x256 .f32) (h9 : M9.IsWhole) (M10 : Memref sig .tc .vmem S8448x256 .f32) (h10 : M10.IsWhole)
    (M11 : Memref sig .tc .vmem S2x8x256 .f32) (h11 : M11.IsWhole)
    (f3 : Bf (F := F) c M3) (f4 : Bf (F := F) c M4) (f5 : Bf (F := F) c M5) (f6 : Bf (F := F) c M6) (f7 : Bf (F := F) c M7)
    (f8 : Bf (F := F) c M8) (f10 : Bf (F := F) c M10) (f11 : Bf (F := F) c M11)

/-- The second output rows, from the scores the point's first half wrote. -/
theorem link_out1 :
    k0_pay1 (bodyRun.sl.r_239 i c M3 M4 M5 M6 M7 M9 M11 f3 f4 f5 f6 f7)
      = outF (k0_pay4 (View.readAt (Elt F) M3.view (Rect.unit ![0, 0] S4x64.size inb_S4x64_S4x64_0_0).toLoadRect f3))
          (M11.view.readCov (bodyRun.sl.H11_1 i c M4 M5 f4 f5) (Rect.unit (s := S2x8x256) ![0, 0, 0] S1x8x256.size inb_S2x8x256_S1x8x256_0_0_0).toLoadRect)
          (fun k => M9.view.readCov (bodyRun.sl.H9_11 i c M4 M5 f4 f5) (rcS k).toLoadRect)
          (fun k => View.readAt (Elt F) M6.view (rcV k).toLoadRect f6)
          (View.readAt (Elt F) M7.view (Rect.unit ![0, 0] S128x1.size inb_S128x1_S128x1_0_0).toLoadRect f7) := by
  rfl

/-- What the point leaves. -/
abbrev W := (bodyRun (F := F) i c M3 h3 M4 h4 M5 h5 M6 h6 M7 h7 M8 h8 M9 h9 M10 h10 M11 h11 f3 f4 f5 f6 f7 f8 f10 f11).1

set_option maxHeartbeats 4000000 in
theorem W_eq : W i c M3 h3 M4 h4 M5 h5 M6 h6 M7 h7 M8 h8 M9 h9 M10 h10 M11 h11 f3 f4 f5 f6 f7 f8 f10 f11
    = ⟨M8.view.writes (Elt F) f8 (⟨Rect.unit (s := S1x8192x128) (k0_off2 i 1#32) S1x128x128.size (k0_off2_inb i 1),
          k0_pay1 (bodyRun.sl.r_239 i c M3 M4 M5 M6 M7 M9 M11 f3 f4 f5 f6 f7)⟩ :: bodyRun.sl.H8_1 i c M3 M6 M7 M10 M11 f3 f6 f7 f10 f11),
        M9.view.writes (Elt F) M9.view.junk (bodyRun.sl.H9_11 i c M4 M5 f4 f5),
        M10.view.writes (Elt F) M10.view.junk (bodyRun.sl.H10_11 i c M4 M5 f4 f5),
        M11.view.writes (Elt F) M11.view.junk (bodyRun.sl.H11_2 i c M4 M5 f4 f5)⟩ := by
  unfold W bodyRun
  with_reducible rfl

theorem point_scores (k : Fin 11) : View.readAt (Elt F) M10.view (rcS k).toLoadRect
      (W i c M3 h3 M4 h4 M5 h5 M6 h6 M7 h7 M8 h8 M9 h9 M10 h10 M11 h11 f3 f4 f5 f6 f7 f8 f10 f11).2.2.1
    = scF (q1 i c M4 f4) (kk c M5 f5 k) := by
  rw [W_eq]
  dsimp only
  rw [link_H10]
  exact pieces_read M10.view _ _ k

theorem point_max : IsMax (fun k => scF (q1 i c M4 f4) (kk c M5 f5 k)) (View.readAt (Elt F) M11.view rcM1.toLoadRect
      (W i c M3 h3 M4 h4 M5 h5 M6 h6 M7 h7 M8 h8 M9 h9 M10 h10 M11 h11 f3 f4 f5 f6 f7 f8 f10 f11).2.2.2) := by
  have e : View.readAt (Elt F) M11.view rcM1.toLoadRect
      (W i c M3 h3 M4 h4 M5 h5 M6 h6 M7 h7 M8 h8 M9 h9 M10 h10 M11 h11 f3 f4 f5 f6 f7 f8 f10 f11).2.2.2
      = k0_pay282 (bodyRun.sl.r_228 i c M4 M5 f4 f5) (bodyRun.sl.r_233 i c M4 M5 f4 f5) (bodyRun.sl.r_234 i c M4 M5 f4 f5) := by
    rw [W_eq]
    dsimp only
    funext x
    exact View.read_writes_cons_emb M11.view M11.view.junk rcM1 _ _ x
  rw [e]
  exact link_m1 i c M4 M5 f4 f5

/-- The rows the first half's scores and values make. -/
theorem point_out1 : ∃ m, IsMax (fun k => scF (q0 i c M4 f4) (kk c M5 f5 k)) m ∧
    k0_pay1 (bodyRun.sl.r_239 i c M3 M4 M5 M6 M7 M9 M11 f3 f4 f5 f6 f7)
      = outF (k0_pay4 (View.readAt (Elt F) M3.view (Rect.unit ![0, 0] S4x64.size inb_S4x64_S4x64_0_0).toLoadRect f3)) m
          (fun k => scF (q0 i c M4 f4) (kk c M5 f5 k)) (fun k => View.readAt (Elt F) M6.view (rcV k).toLoadRect f6)
          (View.readAt (Elt F) M7.view (Rect.unit ![0, 0] S128x1.size inb_S128x1_S128x1_0_0).toLoadRect f7) := by
  refine ⟨_, link_m0 i c M4 M5 f4 f5, ?_⟩
  rw [link_out1]
  congr 1
  · funext x
    exact View.read_writes_cons_emb M11.view M11.view.junk (Rect.unit (s := S2x8x256) ![0, 0, 0] S1x8x256.size inb_S2x8x256_S1x8x256_0_0_0) _ _ x
  · funext k
    rw [link_H9]
    exact pieces_read M9.view _ _ k

/-- The output block: the second half's tile over the first half's over what was there. -/
theorem point_block_hit (x : S1x128x128.Idx) (y : S1x8192x128.Idx) (off : Fin 3 → ℕ) (ho : k0_off2 i 1#32 = off)
    (hy : ∀ a, (y a).val = off a + (x a).val) : M8.view.read (Elt F)
      (W i c M3 h3 M4 h4 M5 h5 M6 h6 M7 h7 M8 h8 M9 h9 M10 h10 M11 h11 f3 f4 f5 f6 f7 f8 f10 f11).1 y
    = k0_pay1 (bodyRun.sl.r_239 i c M3 M4 M5 M6 M7 M9 M11 f3 f4 f5 f6 f7) x := by
  rw [W_eq]
  dsimp only
  generalize k0_pay1 (bodyRun.sl.r_239 i c M3 M4 M5 M6 M7 M9 M11 f3 f4 f5 f6 f7) = P
  exact View.read_writes_cons_unit_of_mem M8.view f8 (k0_off2_inb i 1) P _ y x ho hy

theorem point_block_hit0 (x : S1x128x128.Idx) (y : S1x8192x128.Idx) (off off1 : Fin 3 → ℕ) (ho : k0_off2 i 0#32 = off)
    (hy : ∀ a, (y a).val = off a + (x a).val) (ho1 : k0_off2 i 1#32 = off1) (hm : (y 1).val < off1 1 ∨ off1 1 + 128 ≤ (y 1).val) :
    M8.view.read (Elt F) (W i c M3 h3 M4 h4 M5 h5 M6 h6 M7 h7 M8 h8 M9 h9 M10 h10 M11 h11 f3 f4 f5 f6 f7 f8 f10 f11).1 y
    = k0_pay145 (bodyRun.sl.r_118 i c M3 M6 M10 M11 f3 f6 f10 f11)
        (View.readAt (Elt F) M7.view (Rect.unit ![0, 0] S128x1.size inb_S128x1_S128x1_0_0).toLoadRect f7) x := by
  rw [W_eq]
  refine (View.read_writes_cons_miss_of_axis M8.view f8 (⟨Rect.unit (s := S1x8192x128) (k0_off2 i 1#32) S1x128x128.size (k0_off2_inb i 1), _⟩ : View.Piece (Elt F) S1x8192x128 .bf16) _ y 1
    (off1 1) 128 (by rw [← ho1]; rfl) rfl rfl hm).trans ?_
  exact View.read_writes_cons_unit_of_mem M8.view f8 (k0_off2_inb i 0) _ _ y x ho hy

theorem point_block_miss (y : S1x8192x128.Idx) (off0 off1 : Fin 3 → ℕ) (ho0 : k0_off2 i 0#32 = off0)
    (hm0 : (y 1).val < off0 1 ∨ off0 1 + 128 ≤ (y 1).val) (ho1 : k0_off2 i 1#32 = off1)
    (hm1 : (y 1).val < off1 1 ∨ off1 1 + 128 ≤ (y 1).val) :
    M8.view.read (Elt F) (W i c M3 h3 M4 h4 M5 h5 M6 h6 M7 h7 M8 h8 M9 h9 M10 h10 M11 h11 f3 f4 f5 f6 f7 f8 f10 f11).1 y
    = M8.view.read (Elt F) f8 y := by
  rw [W_eq]
  refine (View.read_writes_cons_miss_of_axis M8.view f8 (⟨Rect.unit (s := S1x8192x128) (k0_off2 i 1#32) S1x128x128.size (k0_off2_inb i 1), _⟩ : View.Piece (Elt F) S1x8192x128 .bf16) _ y 1
    (off1 1) 128 (by rw [← ho1]; rfl) rfl rfl hm1).trans ?_
  exact View.read_writes_cons_miss_of_axis M8.view f8 (⟨Rect.unit (s := S1x8192x128) (k0_off2 i 0#32) S1x128x128.size (k0_off2_inb i 0), _⟩ : View.Piece (Elt F) S1x8192x128 .bf16) _ y 1
    (off0 1) 128 (by rw [← ho0]; rfl) rfl rfl hm0

/-- Past a block's first point, the first half's rows are made of the scratch as found. -/
theorem point_out0 (hj : bodyRun.sl.v2 i ≠ 1#1) (g : Vec F S128x1 .f32) :
    k0_pay145 (bodyRun.sl.r_118 i c M3 M6 M10 M11 f3 f6 f10 f11) g
      = outF (k0_pay4 (View.readAt (Elt F) M3.view (Rect.unit ![0, 0] S4x64.size inb_S4x64_S4x64_0_0).toLoadRect f3))
          (View.readAt (Elt F) M11.view rcM1.toLoadRect f11) (fun k => View.readAt (Elt F) M10.view (rcS k).toLoadRect f10)
          (fun k => View.readAt (Elt F) M6.view (rcV k).toLoadRect f6) g := by
  rw [link_out0, dif_neg hj]
  unfold bodyRun.sl.v42
  rw [dif_neg hj]

end Point

end Cert.KernelIdeal.Att

end
-- ==== Proof.Frame.lean ====
/-
  The launch of the differential attention: its body meets a point's obligation whatever its scratch buffers
  hold, so a run ends with the arguments as launched and every semaphore counter at zero.
-/
module

public import proofs.«01_k».proof.Proof.Body
public import Idealize.ShloMosaic.Lib.Pipeline.DatRel

@[expose] public section

set_option maxRecDepth 16384

noncomputable section

namespace Cert.KernelIdeal.Att

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F] [Named F]

local notation "𝕄" => MT nD τ sig Unit (Elt F) ℕ (UR sig nD τ) ℕ

/-- A whole memref owned at `X` is its buffer held at contents that read `X`. -/
theorem owns_open (c : Dev nD) {sp : Space} {S : Shape} {e : EltTy} (M : Memref sig .tc sp S e) (h : M.IsWhole) (X : S.Idx → Elt F e) :
    (owns c.tc M fullShare X : sProp 𝕄) ⊢ iprop(∃ f : Bf (F := F) c M, ⌜M.view.read (Elt F) f = X⌝ ∗ pt c M f) := by
  unfold owns; rw [h.set_eq_univ]

/-- And the buffer held at `f` is the memref owned at what it reads of `f`. -/
theorem owns_close (c : Dev nD) {sp : Space} {S : Shape} {e : EltTy} (M : Memref sig .tc sp S e) (h : M.IsWhole) (f : Bf (F := F) c M) :
    (pt c M f : sProp 𝕄) ⊢ owns c.tc M fullShare (M.view.read (Elt F) f) := by
  refine BIBase.Entails.trans ?_ (owns_intro c.tc M fullShare f); rw [h.set_eq_univ]

/-- Read existentially, at contents that meet a predicate. -/
theorem owns_some (c : Dev nD) {sp : Space} {S : Shape} {e : EltTy} (M : Memref sig .tc sp S e) (h : M.IsWhole) (f : Bf (F := F) c M)
    {P : (S.Idx → Elt F e) → Prop} (hP : P (M.view.read (Elt F) f)) :
    (pt c M f : sProp 𝕄) ⊢ iprop(∃ X, ⌜P X⌝ ∗ owns c.tc M fullShare X) := by
  iintro H
  iexists M.view.read (Elt F) f
  isplitr; · ipureintro; exact hP
  iapply (owns_close c M h f); iexact H

theorem defs₀_row (t : Fin cfg0.N) :
    defs₀ (F := F) .tc cfg0.body (cfg0.bodyArgs t (cfg0.slots t)) = Gen.bodyAt0 t := by
  unfold defs₀; rw [Defs.onTc_tc]

variable (m : (ℓ : Loc nD τ sig) → Buf (Elt F) ℓ) (ρ : Dev nD → PrngReg)

/-- The proof data: the inputs' blocks stay, the output block is spoken of only through the relation. -/
def dats (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
  Φ _ := Pipeline.ΦA spec0 c
  q _ := fullShare
  owed _ := 0

/-- The output window is the one held to the relation. -/
abbrev marked : Fin cfg0.W → Bool := fun w => decide (w = 5)

/-- The relation that holds of everything. -/
abbrev RlT : (w : Fin cfg0.W) → Fin cfg0.N → ((cfg0.win w).block.Idx → Elt F (cfg0.win w).elt) → Prop := fun _ _ _ => True

set_option maxHeartbeats 2000000 in
theorem obligation (c : Dev nD) : BodyObligationRel (dats m c) (defs₀ (F := F)) Variants.none () Set.univ marked RlT := fun t => by
  rw [defs₀_row]
  change iprop(_ ∗ _ ∗ bigSep (Finset.univ : Finset (Fin 6)) _) ⊢ wp _ _ _ _ fun _ => iprop(_ ∗ _ ∗ bigSep (Finset.univ : Finset (Fin 6)) _)
  rw [Gen.bigSep_W0, Gen.bigSep_W0]
  change iprop(Pipeline.ΦA spec0 c ∗ (dats m c).owesAt () t.castSucc
      ∗ (∃ d, owns c.tc (st0_0 t) fullShare ((dats m c).before 0 t d)) ∗ (∃ d, owns c.tc (st0_1 t) fullShare ((dats m c).before 1 t d))
      ∗ (∃ d, owns c.tc (st0_2 t) fullShare ((dats m c).before 2 t d)) ∗ (∃ d, owns c.tc (st0_3 t) fullShare ((dats m c).before 3 t d))
      ∗ (∃ d, owns c.tc (st0_4 t) fullShare ((dats m c).before 4 t d))
      ∗ (∃ Y, ⌜((dats m c).toRRel marked RlT).Finds 5 t Y⌝ ∗ owns c.tc (st0_5 t) fullShare Y))
    ⊢ wp _ _ _ _ fun _ => iprop(Pipeline.ΦA spec0 c ∗ (dats m c).owesAt () t.succ
      ∗ owns c.tc (st0_0 t) fullShare (Gen.iblk m c 0 t) ∗ owns c.tc (st0_1 t) fullShare (Gen.iblk m c 1 t)
      ∗ owns c.tc (st0_2 t) fullShare (Gen.iblk m c 2 t) ∗ owns c.tc (st0_3 t) fullShare (Gen.iblk m c 3 t)
      ∗ owns c.tc (st0_4 t) fullShare (Gen.iblk m c 4 t)
      ∗ (∃ X, ⌜RlT 5 t X⌝ ∗ owns c.tc (st0_5 t) fullShare X))
  simp only [Gen.before0_0_of m (dats m c) rfl (fun _ => rfl) t, Gen.before0_1_of m (dats m c) rfl (fun _ => rfl) t,
    Gen.before0_2_of m (dats m c) rfl (fun _ => rfl) t, Gen.before0_3_of m (dats m c) rfl (fun _ => rfl) t,
    Gen.before0_4_of m (dats m c) rfl (fun _ => rfl) t]
  unfold Pipeline.ΦA
  rw [Gen.scopedRest0_eq]
  iintro ⟨⟨⟨⟨%g9, S9⟩, ⟨%g10, S10⟩, ⟨%g11, S11⟩⟩, Hr⟩, Ho, ⟨%d0, B0⟩, ⟨%d1, B1⟩, ⟨%d2, B2⟩, ⟨%d3, B3⟩, ⟨%d4, B4⟩, ⟨%Y, %hY, B5⟩⟩
  ihave B0 := owns_open c (st0_0 t) (hstage0_0 ((cfg0.slots t 0).cast nbuf0_0)) (Gen.iblk m c 0 t) $$ B0
  ihave B1 := owns_open c (st0_1 t) (hstage0_1 ((cfg0.slots t 1).cast nbuf0_1)) (Gen.iblk m c 1 t) $$ B1
  ihave B2 := owns_open c (st0_2 t) (hstage0_2 ((cfg0.slots t 2).cast nbuf0_2)) (Gen.iblk m c 2 t) $$ B2
  ihave B3 := owns_open c (st0_3 t) (hstage0_3 ((cfg0.slots t 3).cast nbuf0_3)) (Gen.iblk m c 3 t) $$ B3
  ihave B4 := owns_open c (st0_4 t) (hstage0_4 ((cfg0.slots t 4).cast nbuf0_4)) (Gen.iblk m c 4 t) $$ B4
  ihave B5 := owns_open c (st0_5 t) (hstage0_5 ((cfg0.slots t 5).cast nbuf0_5)) Y $$ B5
  icases B0 with ⟨%f0, %e0, B0⟩
  icases B1 with ⟨%f1, %e1, B1⟩
  icases B2 with ⟨%f2, %e2, B2⟩
  icases B3 with ⟨%f3, %e3, B3⟩
  icases B4 with ⟨%f4, %e4, B4⟩
  icases B5 with ⟨%f5, %e5, B5⟩
  rw [← e0, ← e1, ← e2, ← e3, ← e4]
  iapply ((bodyRun (F := F) (grid0.coords t) c (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _)
    (Memref.whole cc0_scratch2) (Memref.isWhole_whole _) f0 f1 f2 f3 f4 f5 g10 g11).2 g9 Set.univ _)
  isplitl [B0]; · iexact B0
  isplitl [B1]; · iexact B1
  isplitl [B2]; · iexact B2
  isplitl [B3]; · iexact B3
  isplitl [B4]; · iexact B4
  isplitl [B5]; · iexact B5
  isplitl [S9]; · iexact S9
  isplitl [S10]; · iexact S10
  isplitl [S11]; · iexact S11
  iintro ⟨B0, B1, B2, B3, B4, B5, S9, S10, S11⟩
  isplitl [S9 S10 S11 Hr]
  · isplitl [S9 S10 S11]
    · isplitl [S9]; · iexists _; iexact S9
      isplitl [S10]; · iexists _; iexact S10
      iexists _; iexact S11
    · iexact Hr
  isplitl [Ho]; · iexact Ho
  isplitl [B0]; · iapply (owns_close c (st0_0 t) (hstage0_0 ((cfg0.slots t 0).cast nbuf0_0)) f0); iexact B0
  isplitl [B1]; · iapply (owns_close c (st0_1 t) (hstage0_1 ((cfg0.slots t 1).cast nbuf0_1)) f1); iexact B1
  isplitl [B2]; · iapply (owns_close c (st0_2 t) (hstage0_2 ((cfg0.slots t 2).cast nbuf0_2)) f2); iexact B2
  isplitl [B3]; · iapply (owns_close c (st0_3 t) (hstage0_3 ((cfg0.slots t 3).cast nbuf0_3)) f3); iexact B3
  isplitl [B4]; · iapply (owns_close c (st0_4 t) (hstage0_4 ((cfg0.slots t 4).cast nbuf0_4)) f4); iexact B4
  iapply (owns_some c (st0_5 t) (hstage0_5 ((cfg0.slots t 5).cast nbuf0_5)) _ (P := fun X => RlT 5 t X) trivial); iexact B5

/-- The run: the arguments end as launched and every counter at zero. -/
theorem run_main : θ_run defs (onTc (τ := τ) (main (F := F))) (s₀ m ρ) fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  RDat.θ_run_frame_track cfgs 0 Gen.launch0 defs₀ Variants.none (fun c => (dats m c).toRRel marked RlT) m ρ main
    (fun c => (obligation m c).toRRel) (fun _ w => match w with | 0 => rfl | 1 => rfl | 2 => rfl | 3 => rfl | 4 => rfl | 5 => rfl) (fun _ _ => rfl) (Gen.V m) (Gen.hmain m Variants.none)
    (fun _ _ => rfl) (fun _ => Entails.refl _) (fun _ => Entails.refl _) _
    (fun r h => ⟨fun c => ⟨(h.1.arr_in c 1 rfl).trans (Gen.V_main_arg0 m c),
      ((h.1 c).2 main_arg1 (Pipeline.mem_restRefs_of main_arg1 (by decide) (by decide))).trans (Gen.V_main_arg1 m c),
      ((h.1 c).2 main_arg2 (Pipeline.mem_restRefs_of main_arg2 (by decide) (by decide))).trans (Gen.V_main_arg2 m c),
      ((h.1 c).2 main_arg3 (Pipeline.mem_restRefs_of main_arg3 (by decide) (by decide))).trans (Gen.V_main_arg3 m c),
      ((h.1 c).2 main_arg4 (Pipeline.mem_restRefs_of main_arg4 (by decide) (by decide))).trans (Gen.V_main_arg4 m c),
      (h.1.arr_in c 0 rfl).trans (Gen.V_main_arg5 m c),
      ((h.1 c).2 main_arg6 (Pipeline.mem_restRefs_of main_arg6 (by decide) (by decide))).trans (Gen.V_main_arg6 m c)⟩, h.2⟩)

end Cert.KernelIdeal.Att

end
-- ==== Proof.Track.lean ====
/-
  The tracked run: past a block's first point the scratch holds the last tile's scores and their maximum, and the
  output block holds every tile up to twice the point's number. A block is written back with all its tiles made.
-/
module

public import proofs.«01_k».proof.Proof.Point
public import proofs.«01_k».proof.Proof.Frame
public import Idealize.ShloMosaic.Lib.Pipeline.ArrRel

@[expose] public section

set_option maxRecDepth 16384

noncomputable section

namespace Cert.KernelIdeal.Att

open Cert.KernelIdeal Cert.KernelIdeal.Gen

open Idealize.ShloMosaic
open Idealize.ShloMosaic.TcCoe

variable {F : FTy → Type} [FloatOps F] [Named F]

variable (m : (ℓ : Loc nD τ sig) → Buf (Elt F) ℓ) (c : Dev nD)

/-! ## A point's blocks -/

/-- The difference's parameters, the queries, keys, values and gains of a point. -/
def lamB (t : Fin cfg0.N) : S4x64.Idx → Elt F .f32 := Gen.iblk m c 0 t
def qB (t : Fin cfg0.N) : S1x8192x128.Idx → Elt F .f32 := Gen.iblk m c 1 t
def kB (t : Fin cfg0.N) : S1x8448x128.Idx → Elt F .bf16 := Gen.iblk m c 2 t
def vB (t : Fin cfg0.N) : S1x128x8448.Idx → Elt F .bf16 := Gen.iblk m c 3 t
def gB (t : Fin cfg0.N) : S128x1.Idx → Elt F .f32 := Gen.iblk m c 4 t

/-- The scores of tile `τ` at a point's blocks. -/
def Sc (t : Fin cfg0.N) (τ : Fin 64) (k : Fin 11) : Vec F S768x256 .f32 :=
  scF (cut (qB m c t) (rcT τ)) (cut (kB m c t) (rcK k))

/-- The output rows of tile `τ` at a point's blocks, at a maximum `M`. -/
def tileOut (t : Fin cfg0.N) (τ : Fin 64) (M : Vec F S1x8x256 .f32) : FVec F S1x128x128 .bf16 :=
  outF (k0_pay4 (cut (lamB m c t) (Rect.unit (s := S4x64) ![0, 0] S4x64.size inb_S4x64_S4x64_0_0))) M (Sc m c t τ)
    (fun k => cut (vB m c t) (rcV k)) (cut (gB m c t) (Rect.unit (s := S128x1) ![0, 0] S128x1.size inb_S128x1_S128x1_0_0))

/-- Tile `τ` of `X` is made. -/
def TileOk (t : Fin cfg0.N) (τ : Fin 64) (X : S1x8192x128.Idx → Elt F .bf16) : Prop :=
  ∃ M, IsMax (Sc m c t τ) M ∧ ∀ (x : S1x128x128.Idx) (y : S1x8192x128.Idx),
    (∀ a, (y a).val = (![0, 128 * τ.val, 0] : Fin 3 → ℕ) a + (x a).val) → X y = tileOut m c t τ M x

/-- The tiles the two halves of a point take. -/
def ta0 (t : Fin cfg0.N) : Fin 64 := ⟨min (2 * (t.val % 33)) 63, by omega⟩
def ta1 (t : Fin cfg0.N) : Fin 64 := ⟨min (2 * (t.val % 33) + 1) 63, by omega⟩

/-- The scratch past a point. -/
def ScOk (t : Fin cfg0.N) (f10 : Bf (F := F) c (Memref.whole cc0_scratch1)) (f11 : Bf (F := F) c (Memref.whole cc0_scratch2)) : Prop :=
  (∀ k, View.readAt (Elt F) (Memref.whole cc0_scratch1).view (rcS k).toLoadRect f10 = Sc m c t (ta1 t) k)
    ∧ IsMax (Sc m c t (ta1 t)) (View.readAt (Elt F) (Memref.whole cc0_scratch2).view rcM1.toLoadRect f11)

/-- The output block past a point. -/
def BlkOk (t : Fin cfg0.N) (X : S1x8192x128.Idx → Elt F .bf16) : Prop :=
  ∀ τ : Fin 64, τ.val ≤ 2 * (t.val % 33) → TileOk m c t τ X

theorem off1_0 : ∀ t : Fin grid0.N, k0_off1 (grid0.coords t) 0#32 = ![0, 128 * min (2 * (t.val % 33)) 63, 0] := by decide +kernel
theorem off1_1 : ∀ t : Fin grid0.N, k0_off1 (grid0.coords t) 1#32 = ![0, 128 * min (2 * (t.val % 33) + 1) 63, 0] := by decide +kernel
theorem off2_0 : ∀ t : Fin grid0.N, k0_off2 (grid0.coords t) 0#32 = ![0, 128 * (2 * (t.val % 33) - 1), 0] := by decide +kernel
theorem off2_1 : ∀ t : Fin grid0.N, k0_off2 (grid0.coords t) 1#32 = ![0, 128 * min (2 * (t.val % 33)) 63, 0] := by decide +kernel
theorem first_iff : ∀ t : Fin grid0.N, t.val % 33 ≠ 0 → bodyRun.sl.v2 (grid0.coords t) ≠ 1#1 := by decide +kernel

/-! ## Within a block the inputs stay -/

theorem iblk_prev (w : Fin cfg0.W) (hw : (cfg0.win w).isOut = false) (t s : Fin cfg0.N) (hs : s.val + 1 = t.val)
    (hf : (cfg0.win w).fetch t = false) (h : ∀ t d, (dats m c).fetched w t d = (dats m c).after w t) :
    (dats m c).after w t = (dats m c).after w s := by
  obtain ⟨ht, hix⟩ := (cfg0.win w).index_eq_of_fetch hw t hf
  have e : (⟨t.val - 1, Nat.lt_of_le_of_lt (Nat.sub_le _ _) t.isLt⟩ : Fin cfg0.N) = s := Fin.ext (by simp only; omega)
  rw [e] at hix
  have d : (cfg0.win w).block.Idx → Elt F (cfg0.win w).elt := (dats m c).after w t
  rw [← h t d, ← h s d]
  exact (dats m c).fetched_congr w (by first | exact hix.symm | exact hix) (by
    match w with | 0 => rfl | 1 => rfl | 2 => rfl | 3 => rfl | 4 => rfl | 5 => rfl) d

theorem fetch_false (w : Fin cfg0.W) (t : Fin cfg0.N) {p : Prop} (h : (cfg0.win w).fetch t = true ↔ p) (hp : ¬ p) :
    (cfg0.win w).fetch t = false := eq_false_of_ne_true fun e => hp (h.mp e)

theorem lamB_prev (t s : Fin cfg0.N) (hs : s.val + 1 = t.val) (h : t.val % 33 ≠ 0) : lamB m c t = lamB m c s :=
  iblk_prev m c 0 rfl t s hs (fetch_false 0 t (Gen.fetch0_0 t) (by omega)) (fun t d => by unfold Pipeline.Dat.fetched Pipeline.Dat.blockOf; rfl)
theorem qB_prev (t s : Fin cfg0.N) (hs : s.val + 1 = t.val) (h : t.val % 33 ≠ 0) : qB m c t = qB m c s :=
  iblk_prev m c 1 rfl t s hs (fetch_false 1 t (Gen.fetch0_1 t) (by omega)) (fun t d => by unfold Pipeline.Dat.fetched Pipeline.Dat.blockOf; rfl)
theorem kB_prev (t s : Fin cfg0.N) (hs : s.val + 1 = t.val) (h : t.val % 33 ≠ 0) : kB m c t = kB m c s :=
  iblk_prev m c 2 rfl t s hs (fetch_false 2 t (Gen.fetch0_2 t) (by omega)) (fun t d => by unfold Pipeline.Dat.fetched Pipeline.Dat.blockOf; rfl)
theorem vB_prev (t s : Fin cfg0.N) (hs : s.val + 1 = t.val) (h : t.val % 33 ≠ 0) : vB m c t = vB m c s :=
  iblk_prev m c 3 rfl t s hs (fetch_false 3 t (Gen.fetch0_3 t) (by omega)) (fun t d => by unfold Pipeline.Dat.fetched Pipeline.Dat.blockOf; rfl)
theorem gB_prev (t s : Fin cfg0.N) (hs : s.val + 1 = t.val) (h : t.val % 33 ≠ 0) : gB m c t = gB m c s :=
  iblk_prev m c 4 rfl t s hs (fetch_false 4 t (Gen.fetch0_4 t) (by omega)) (fun t d => by unfold Pipeline.Dat.fetched Pipeline.Dat.blockOf; rfl)

theorem Sc_prev (t s : Fin cfg0.N) (hs : s.val + 1 = t.val) (h : t.val % 33 ≠ 0) (τ : Fin 64) : Sc m c t τ = Sc m c s τ := by
  unfold Sc; rw [qB_prev m c t s hs h, kB_prev m c t s hs h]

theorem tileOut_prev (t s : Fin cfg0.N) (hs : s.val + 1 = t.val) (h : t.val % 33 ≠ 0) (τ : Fin 64) (M) :
    tileOut m c t τ M = tileOut m c s τ M := by
  unfold tileOut; rw [lamB_prev m c t s hs h, vB_prev m c t s hs h, gB_prev m c t s hs h, Sc_prev m c t s hs h]

theorem TileOk_prev (t s : Fin cfg0.N) (hs : s.val + 1 = t.val) (h : t.val % 33 ≠ 0) (τ : Fin 64) (X) :
    TileOk m c s τ X → TileOk m c t τ X := by
  rintro ⟨M, h1, h2⟩
  refine ⟨M, by rw [Sc_prev m c t s hs h]; exact h1, fun x y hy => ?_⟩
  rw [tileOut_prev m c t s hs h]; exact h2 x y hy

/-! ## A point -/

section Step

variable (t : Fin cfg0.N)
    (M3 : Memref sig .tc .vmem S4x64 .f32) (h3 : M3.IsWhole) (M4 : Memref sig .tc .vmem S1x8192x128 .f32) (h4 : M4.IsWhole)
    (M5 : Memref sig .tc .vmem S1x8448x128 .bf16) (h5 : M5.IsWhole) (M6 : Memref sig .tc .vmem S1x128x8448 .bf16) (h6 : M6.IsWhole)
    (M7 : Memref sig .tc .vmem S128x1 .f32) (h7 : M7.IsWhole) (M8 : Memref sig .tc .vmem S1x8192x128 .bf16) (h8 : M8.IsWhole)
    (f3 : Bf (F := F) c M3) (f4 : Bf (F := F) c M4) (f5 : Bf (F := F) c M5) (f6 : Bf (F := F) c M6) (f7 : Bf (F := F) c M7)
    (f8 : Bf (F := F) c M8) (f10 : Bf (F := F) c (Memref.whole cc0_scratch1)) (f11 : Bf (F := F) c (Memref.whole cc0_scratch2))
    (e3 : M3.view.read (Elt F) f3 = lamB m c t) (e4 : M4.view.read (Elt F) f4 = qB m c t)
    (e5 : M5.view.read (Elt F) f5 = kB m c t) (e6 : M6.view.read (Elt F) f6 = vB m c t)
    (e7 : M7.view.read (Elt F) f7 = gB m c t)

include e4 e5 in
theorem scores0 : (fun k => scF (q0 (grid0.coords t) c M4 f4) (kk c M5 f5 k)) = Sc m c t (ta0 t) := by
  funext k
  unfold Sc
  rw [← e4, ← e5]
  exact congrArg (fun q => scF q (kk c M5 f5 k)) (cut_off (M4.view.read (Elt F) f4) (off1_0 t) _ _)

include e4 e5 in
theorem scores1 : (fun k => scF (q1 (grid0.coords t) c M4 f4) (kk c M5 f5 k)) = Sc m c t (ta1 t) := by
  funext k
  unfold Sc
  rw [← e4, ← e5]
  exact congrArg (fun q => scF q (kk c M5 f5 k)) (cut_off (M4.view.read (Elt F) f4) (off1_1 t) _ _)

/-- What the point leaves. -/
abbrev Wt := W (grid0.coords t) c M3 h3 M4 h4 M5 h5 M6 h6 M7 h7 M8 h8 (Memref.whole cc0_scratch0) (Memref.isWhole_whole _)
  (Memref.whole cc0_scratch1) (Memref.isWhole_whole _) (Memref.whole cc0_scratch2) (Memref.isWhole_whole _) f3 f4 f5 f6 f7 f8 f10 f11

include e4 e5 in
theorem step_scratch : ScOk m c t (Wt c t M3 h3 M4 h4 M5 h5 M6 h6 M7 h7 M8 h8 f3 f4 f5 f6 f7 f8 f10 f11).2.2.1
    (Wt c t M3 h3 M4 h4 M5 h5 M6 h6 M7 h7 M8 h8 f3 f4 f5 f6 f7 f8 f10 f11).2.2.2 := by
  have e := scores1 m c t M4 M5 f4 f5 e4 e5
  constructor
  · intro k
    rw [point_scores]
    exact congrFun e k
  · have := point_max (F := F) (grid0.coords t) c M3 h3 M4 h4 M5 h5 M6 h6 M7 h7 M8 h8 (Memref.whole cc0_scratch0) (Memref.isWhole_whole _)
      (Memref.whole cc0_scratch1) (Memref.isWhole_whole _) (Memref.whole cc0_scratch2) (Memref.isWhole_whole _) f3 f4 f5 f6 f7 f8 f10 f11
    rw [e] at this
    exact this

include e3 e4 e5 e6 e7 in
theorem step_block
    (hprev : t.val % 33 ≠ 0 → ∀ s : Fin cfg0.N, s.val + 1 = t.val → ScOk m c s f10 f11 ∧ BlkOk m c s (M8.view.read (Elt F) f8)) :
    BlkOk m c t (M8.view.read (Elt F) (Wt c t M3 h3 M4 h4 M5 h5 M6 h6 M7 h7 M8 h8 f3 f4 f5 f6 f7 f8 f10 f11).1) := by
  intro τ hτ
  have hN : t.val < 528 := t.isLt
  by_cases h1 : τ = ta0 t
  · -- the tile the second half writes
    subst h1
    obtain ⟨M, hM, hO⟩ := point_out1 (F := F) (grid0.coords t) c M3 M4 M5 M6 M7 (Memref.whole cc0_scratch0) (Memref.whole cc0_scratch2) f3 f4 f5 f6 f7
    rw [scores0 m c t M4 M5 f4 f5 e4 e5] at hM hO
    refine ⟨M, hM, fun x y hy => ?_⟩
    rw [point_block_hit (x := x) (off := ![0, 128 * (ta0 t).val, 0]) (ho := off2_1 t) (hy := hy), hO]
    unfold tileOut
    rw [← e3, ← e6, ← e7]
    rfl
  · have h1' : τ.val ≠ min (2 * (t.val % 33)) 63 := fun e => h1 (Fin.ext e)
    have hj : t.val % 33 ≠ 0 := fun e => h1' (by rw [e] at hτ ⊢; simp at hτ ⊢; omega)
    have hτ63 := τ.isLt
    let s : Fin cfg0.N := ⟨t.val - 1, Nat.lt_of_le_of_lt (Nat.sub_le _ _) t.isLt⟩
    have hs : s.val + 1 = t.val := by show t.val - 1 + 1 = t.val; omega
    have hsm : s.val % 33 = t.val % 33 - 1 := by show (t.val - 1) % 33 = _; omega
    obtain ⟨⟨hS, hX⟩, hB⟩ := hprev hj s hs
    have miss1 : ∀ (x : S1x128x128.Idx) (y : S1x8192x128.Idx), (∀ a, (y a).val = (![0, 128 * τ.val, 0] : Fin 3 → ℕ) a + (x a).val) →
        (y 1).val < (![0, 128 * min (2 * (t.val % 33)) 63, 0] : Fin 3 → ℕ) 1 ∨ (![0, 128 * min (2 * (t.val % 33)) 63, 0] : Fin 3 → ℕ) 1 + 128 ≤ (y 1).val := by
      intro x y hy
      have hx : (x 1).val < 128 := (x 1).isLt
      have h := hy 1
      change (y 1).val = 128 * τ.val + (x 1).val at h
      change (y 1).val < 128 * min (2 * (t.val % 33)) 63 ∨ 128 * min (2 * (t.val % 33)) 63 + 128 ≤ (y 1).val
      omega
    by_cases h0 : τ.val = 2 * (t.val % 33) - 1
    · -- the tile the first half writes, from the scratch
      have ht : ta1 s = τ := Fin.ext (by show min (2 * (s.val % 33) + 1) 63 = τ.val; omega)
      rw [ht] at hS hX
      have hS' : (fun k => View.readAt (Elt F) (Memref.whole cc0_scratch1).view (rcS k).toLoadRect f10) = Sc m c t τ := by
        funext k; rw [hS k, Sc_prev m c t s hs hj]
      refine ⟨_, by rw [Sc_prev m c t s hs hj]; exact hX, fun x y hy => ?_⟩
      rw [point_block_hit0 (x := x) (off := ![0, 128 * (2 * (t.val % 33) - 1), 0]) (off1 := ![0, 128 * min (2 * (t.val % 33)) 63, 0])
        (ho := off2_0 t) (hy := by rw [← h0]; exact hy) (ho1 := off2_1 t) (hm := miss1 x y hy),
        point_out0 _ _ _ _ _ _ _ _ _ _ (first_iff t hj), hS']
      unfold tileOut
      rw [← e3, ← e6, ← e7]
      rfl
    · -- a tile an earlier point made
      refine TileOk_prev m c t s hs hj τ _ ?_
      obtain ⟨M, hM, hO⟩ := hB τ (by omega)
      refine ⟨M, hM, fun x y hy => ?_⟩
      rw [point_block_miss (off0 := ![0, 128 * (2 * (t.val % 33) - 1), 0]) (off1 := ![0, 128 * min (2 * (t.val % 33)) 63, 0])
        (ho0 := off2_0 t) (ho1 := off2_1 t) (hm1 := miss1 x y hy) (hm0 := ?_)]
      · exact hO x y hy
      · have hx : (x 1).val < 128 := (x 1).isLt
        have h := hy 1
        change (y 1).val = 128 * τ.val + (x 1).val at h
        change (y 1).val < 128 * (2 * (t.val % 33) - 1) ∨ 128 * (2 * (t.val % 33) - 1) + 128 ≤ (y 1).val
        omega

end Step

/-! ## The run -/

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt F) ℕ (UR sig nD τ) ℕ

/-- The scratch between points: within a block, as the point before left it. -/
def ΦV (t : Fin (cfg0.N + 1)) : sProp 𝕄 :=
  iprop(∃ (f9 : Bf (F := F) c (Memref.whole cc0_scratch0)) (f10 : Bf (F := F) c (Memref.whole cc0_scratch1))
      (f11 : Bf (F := F) c (Memref.whole cc0_scratch2)),
    ⌜∀ s : Fin cfg0.N, s.val + 1 = t.val → t.val % 33 ≠ 0 → ScOk m c s f10 f11⌝
      ∗ pt c (Memref.whole cc0_scratch0) f9 ∗ pt c (Memref.whole cc0_scratch1) f10 ∗ pt c (Memref.whole cc0_scratch2) f11
      ∗ ∃ r, prngReg c r)

/-- The proof data: the inputs' blocks stay, the scratch is tracked. -/
def datsV : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
  Φ := ΦV m c
  q _ := fullShare
  owed _ := 0

/-- The relation of the output window: the tiles so far are made. -/
def RlV : (w : Fin cfg0.W) → (t : Fin cfg0.N) → ((cfg0.win w).block.Idx → Elt F (cfg0.win w).elt) → Prop := fun w t =>
  match w with
  | ⟨5, _⟩ => fun X => BlkOk m c t X
  | ⟨0, _⟩ => fun _ => True
  | ⟨1, _⟩ => fun _ => True
  | ⟨2, _⟩ => fun _ => True
  | ⟨3, _⟩ => fun _ => True
  | ⟨4, _⟩ => fun _ => True

set_option maxHeartbeats 2000000 in
theorem obligationV (c : Dev nD) : BodyObligationRel (datsV m c) (defs₀ (F := F)) Variants.none () Set.univ marked (RlV m c) := fun t => by
  rw [defs₀_row]
  change iprop(_ ∗ _ ∗ bigSep (Finset.univ : Finset (Fin 6)) _) ⊢ wp _ _ _ _ fun _ => iprop(_ ∗ _ ∗ bigSep (Finset.univ : Finset (Fin 6)) _)
  rw [Gen.bigSep_W0, Gen.bigSep_W0]
  change iprop(ΦV m c t.castSucc ∗ (datsV m c).owesAt () t.castSucc
      ∗ (∃ d, owns c.tc (st0_0 t) fullShare ((datsV m c).before 0 t d)) ∗ (∃ d, owns c.tc (st0_1 t) fullShare ((datsV m c).before 1 t d))
      ∗ (∃ d, owns c.tc (st0_2 t) fullShare ((datsV m c).before 2 t d)) ∗ (∃ d, owns c.tc (st0_3 t) fullShare ((datsV m c).before 3 t d))
      ∗ (∃ d, owns c.tc (st0_4 t) fullShare ((datsV m c).before 4 t d))
      ∗ (∃ Y, ⌜((datsV m c).toRRel marked (RlV m c)).Finds 5 t Y⌝ ∗ owns c.tc (st0_5 t) fullShare Y))
    ⊢ wp _ _ _ _ fun _ => iprop(ΦV m c t.succ ∗ (datsV m c).owesAt () t.succ
      ∗ owns c.tc (st0_0 t) fullShare (Gen.iblk m c 0 t) ∗ owns c.tc (st0_1 t) fullShare (Gen.iblk m c 1 t)
      ∗ owns c.tc (st0_2 t) fullShare (Gen.iblk m c 2 t) ∗ owns c.tc (st0_3 t) fullShare (Gen.iblk m c 3 t)
      ∗ owns c.tc (st0_4 t) fullShare (Gen.iblk m c 4 t)
      ∗ (∃ X, ⌜(RlV m c) 5 t X⌝ ∗ owns c.tc (st0_5 t) fullShare X))
  simp only [Gen.before0_0_of m (datsV m c) rfl (fun _ => rfl) t, Gen.before0_1_of m (datsV m c) rfl (fun _ => rfl) t,
    Gen.before0_2_of m (datsV m c) rfl (fun _ => rfl) t, Gen.before0_3_of m (datsV m c) rfl (fun _ => rfl) t,
    Gen.before0_4_of m (datsV m c) rfl (fun _ => rfl) t]
  unfold ΦV
  iintro ⟨⟨%g9, %g10, %g11, %hΦ, S9, S10, S11, Hr⟩, Ho, ⟨%d0, B0⟩, ⟨%d1, B1⟩, ⟨%d2, B2⟩, ⟨%d3, B3⟩, ⟨%d4, B4⟩, ⟨%Y, %hY, B5⟩⟩
  ihave B0 := owns_open c (st0_0 t) (hstage0_0 ((cfg0.slots t 0).cast nbuf0_0)) (Gen.iblk m c 0 t) $$ B0
  ihave B1 := owns_open c (st0_1 t) (hstage0_1 ((cfg0.slots t 1).cast nbuf0_1)) (Gen.iblk m c 1 t) $$ B1
  ihave B2 := owns_open c (st0_2 t) (hstage0_2 ((cfg0.slots t 2).cast nbuf0_2)) (Gen.iblk m c 2 t) $$ B2
  ihave B3 := owns_open c (st0_3 t) (hstage0_3 ((cfg0.slots t 3).cast nbuf0_3)) (Gen.iblk m c 3 t) $$ B3
  ihave B4 := owns_open c (st0_4 t) (hstage0_4 ((cfg0.slots t 4).cast nbuf0_4)) (Gen.iblk m c 4 t) $$ B4
  ihave B5 := owns_open c (st0_5 t) (hstage0_5 ((cfg0.slots t 5).cast nbuf0_5)) Y $$ B5
  icases B0 with ⟨%f0, %e0, B0⟩
  icases B1 with ⟨%f1, %e1, B1⟩
  icases B2 with ⟨%f2, %e2, B2⟩
  icases B3 with ⟨%f3, %e3, B3⟩
  icases B4 with ⟨%f4, %e4, B4⟩
  icases B5 with ⟨%f5, %e5, B5⟩
  have hprev : t.val % 33 ≠ 0 → ∀ s : Fin cfg0.N, s.val + 1 = t.val → ScOk m c s g10 g11 ∧ BlkOk m c s ((st0_5 t).view.read (Elt F) f5) := by
    intro h s hs
    refine ⟨hΦ s hs h, ?_⟩
    rw [e5]
    have hf : (cfg0.win 5).fetch t = false := (cfg0.win 5).fetch_out rfl t
    have e : (⟨t.val - 1, Nat.lt_of_le_of_lt (Nat.sub_le _ _) t.isLt⟩ : Fin cfg0.N) = s := Fin.ext (by simp only; omega)
    have hY' := (((datsV m c).toRRel marked (RlV m c)).finds_of_pos (w := 5) hf (by omega) Y).mp hY
    rw [e] at hY'
    rcases hY' with hfl | hL
    · exact absurd ((Gen.flush0_5 s).mp hfl) (by omega)
    · exact (datsV m c).toRRel_leaves (fgt := marked) (Rl := RlV m c) (w := 5) rfl hL
  have hsc := step_scratch m c t (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5)) f0 f1 f2 f3 f4 f5 g10 g11 e1 e2
  have hbk := step_block m c t (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5)) f0 f1 f2 f3 f4 f5 g10 g11 e0 e1 e2 e3 e4 hprev
  rw [← e0, ← e1, ← e2, ← e3, ← e4]
  iapply ((bodyRun (F := F) (grid0.coords t) c (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _)
    (Memref.whole cc0_scratch2) (Memref.isWhole_whole _) f0 f1 f2 f3 f4 f5 g10 g11).2 g9 Set.univ _)
  isplitl [B0]; · iexact B0
  isplitl [B1]; · iexact B1
  isplitl [B2]; · iexact B2
  isplitl [B3]; · iexact B3
  isplitl [B4]; · iexact B4
  isplitl [B5]; · iexact B5
  isplitl [S9]; · iexact S9
  isplitl [S10]; · iexact S10
  isplitl [S11]; · iexact S11
  iintro ⟨B0, B1, B2, B3, B4, B5, S9, S10, S11⟩
  isplitl [S9 S10 S11 Hr]
  · iexists _; iexists _; iexists _
    isplitr
    · ipureintro
      intro s hs _
      have e : s = t := Fin.ext (by have : s.val + 1 = t.val + 1 := hs; omega)
      rw [e]; exact hsc
    isplitl [S9]; · iexact S9
    isplitl [S10]; · iexact S10
    isplitl [S11]; · iexact S11
    iexact Hr
  isplitl [Ho]; · iexact Ho
  isplitl [B0]; · iapply (owns_close c (st0_0 t) (hstage0_0 ((cfg0.slots t 0).cast nbuf0_0)) f0); iexact B0
  isplitl [B1]; · iapply (owns_close c (st0_1 t) (hstage0_1 ((cfg0.slots t 1).cast nbuf0_1)) f1); iexact B1
  isplitl [B2]; · iapply (owns_close c (st0_2 t) (hstage0_2 ((cfg0.slots t 2).cast nbuf0_2)) f2); iexact B2
  isplitl [B3]; · iapply (owns_close c (st0_3 t) (hstage0_3 ((cfg0.slots t 3).cast nbuf0_3)) f3); iexact B3
  isplitl [B4]; · iapply (owns_close c (st0_4 t) (hstage0_4 ((cfg0.slots t 4).cast nbuf0_4)) f4); iexact B4
  iapply (owns_some c (st0_5 t) (hstage0_5 ((cfg0.slots t 5).cast nbuf0_5)) _ (P := fun X => (RlV m c) 5 t X) hbk); iexact B5

theorem ΦV_in : Pipeline.ΦA spec0 c ⊢ ΦV (F := F) m c 0 := by
  unfold Pipeline.ΦA ΦV
  rw [Gen.scopedRest0_eq]
  iintro ⟨⟨⟨%g9, S9⟩, ⟨%g10, S10⟩, ⟨%g11, S11⟩⟩, Hr⟩
  iexists g9; iexists g10; iexists g11
  isplitr
  · ipureintro
    intro s hs; exact absurd hs (by show ¬ s.val + 1 = 0; omega)
  isplitl [S9]; · iexact S9
  isplitl [S10]; · iexact S10
  isplitl [S11]; · iexact S11
  iexact Hr

theorem ΦV_out : ΦV (F := F) m c (Fin.last cfg0.N) ⊢ Pipeline.ΦA spec0 c := by
  unfold Pipeline.ΦA ΦV
  rw [Gen.scopedRest0_eq]
  iintro ⟨%g9, %g10, %g11, %h, S9, S10, S11, Hr⟩
  isplitl [S9 S10 S11]
  · isplitl [S9]; · iexists g9; iexact S9
    isplitl [S10]; · iexists g10; iexact S10
    iexists g11; iexact S11
  iexact Hr

/-- The run, with a property of the result's elements: one that every finished block has, at the array's element. -/
theorem run_value (ρ : Dev nD → PrngReg) (P : (c : Dev nD) → S4x8192x512.Idx → Elt F .bf16 → Prop)
    (hP : ∀ c t, (cfg0.win 5).flush t = true → ∀ X, BlkOk m c t X → ∀ y, P c ((cfg0.win 5).blk t |>.view.emb y) (X y)) :
    θ_run defs (onTc (τ := τ) (main (F := F))) (s₀ m ρ) fun r =>
    (∀ c : Dev nD, (∀ i, P c i (r.2.mem ((c.tc : Thread nD τ).loc main_v8) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  RDat.θ_run_frame_track cfgs 0 Gen.launch0 defs₀ Variants.none (fun c => (datsV m c).toRRel marked (RlV m c)) m ρ main
    (fun c => (obligationV m c).toRRel) (fun _ w => match w with | 0 => rfl | 1 => rfl | 2 => rfl | 3 => rfl | 4 => rfl | 5 => rfl) (fun _ _ => rfl) (Gen.V m) (Gen.hmain m Variants.none)
    (fun _ _ => rfl) (fun c => ΦV_in m c) (fun c => ΦV_out m c) _
    (fun r h => ⟨fun c => ⟨fun i => by
        obtain ⟨after, hL, hA⟩ := RDat.FramePost.exists_exact h.1 c
        have e := hA 5
        have e' : r.2.mem ((c.tc : Thread nD τ).loc main_v8) i = (((datsV m c).toRRel marked (RlV m c)).withAfter after).arrAt 5 cfg0.N i := congrFun e i
        rw [e']
        exact (((datsV m c).toRRel marked (RlV m c)).withAfter after).arrAt_forall_of_covers 5 (fun i v => P c i v) (by decide +kernel)
          (fun t hf y => hP c t hf _ ((datsV m c).toRRel_leaves (fgt := marked) (Rl := RlV m c) (w := 5) rfl (hL 5 t hf)) y) i,
      (h.1.arr_in c 1 rfl).trans (Gen.V_main_arg0 m c),
      ((h.1 c).2 main_arg1 (Pipeline.mem_restRefs_of main_arg1 (by decide) (by decide))).trans (Gen.V_main_arg1 m c),
      ((h.1 c).2 main_arg2 (Pipeline.mem_restRefs_of main_arg2 (by decide) (by decide))).trans (Gen.V_main_arg2 m c),
      ((h.1 c).2 main_arg3 (Pipeline.mem_restRefs_of main_arg3 (by decide) (by decide))).trans (Gen.V_main_arg3 m c),
      ((h.1 c).2 main_arg4 (Pipeline.mem_restRefs_of main_arg4 (by decide) (by decide))).trans (Gen.V_main_arg4 m c),
      (h.1.arr_in c 0 rfl).trans (Gen.V_main_arg5 m c),
      ((h.1 c).2 main_arg6 (Pipeline.mem_restRefs_of main_arg6 (by decide) (by decide))).trans (Gen.V_main_arg6 m c)⟩, h.2⟩)

end Cert.KernelIdeal.Att

end
-- ==== Proof.Val.lean ====
/-
  What a tile's output rows are over the extended reals, when the queries, keys, values and lambda are numbers: the
  normalized difference of the two softmax maps against the values, whatever number the maximum is.
-/
module

public import proofs.«01_k».proof.Proof.Scores
public import Idealize.ShloMosaic.Lib.Pointwise
public import Idealize.ShloMosaic.Lib.ValueIdx

@[expose] public section

set_option maxRecDepth 16384

noncomputable section

/-! ## The mathematics -/

namespace Cert.Att

open Idealize.ShloMosaic

/-- A row's weight before normalization, in half `μ` of the lanes. -/
def wt (q k : Fin 128 → ℝ) (μ : Fin 2) : ℝ :=
  Real.exp ((∑ d : Fin 64, q ⟨64 * μ.val + d.val, by omega⟩ * k ⟨64 * μ.val + d.val, by omega⟩) * (1 / 8))

/-- One entry of the attention before its normalization. -/
def att (lam : ℝ) (q : Fin 128 → ℝ) (k : Fin 8448 → Fin 128 → ℝ) (v : Fin 8448 → ℝ) : ℝ :=
  ∑ r, v r * (wt q (k r) 0 / (∑ r, wt q (k r) 0) - lam * (wt q (k r) 1 / (∑ r, wt q (k r) 1)))

/-- The normalization of a row. -/
def nrm (o : Fin 128 → EReal) (g : EReal) (e : Fin 128) : EReal :=
  o e * Ideal.rsqrt (Ideal.div (∑ x, o x * o x) (Ideal.ofBits FTy.f32 0x43000000#32) + Ideal.ofBits FTy.f32 0x358637BD#32) * g
    * Ideal.ofBits FTy.f32 0x3F4CCCCD#32

/-- The context's rows first, then the sequence's. -/
def catA (xc : (⟨3, ![4, 256, 512]⟩ : Shape).Idx → EReal) (x : (⟨3, ![4, 8192, 512]⟩ : Shape).Idx → EReal) (b : Fin 4) (r : Fin 8448) (d : Fin 512) : EReal :=
  if h : r.val < 256 then xc (ix3 b (⟨r.val, h⟩ : Fin 256) d) else x (ix3 b (⟨r.val - 256, by omega⟩ : Fin 8192) d)

theorem wt_pos (q k : Fin 128 → ℝ) (μ : Fin 2) : 0 < wt q k μ := Real.exp_pos _

theorem wt_sum_pos (q : Fin 128 → ℝ) (k : Fin 8448 → Fin 128 → ℝ) (μ : Fin 2) : 0 < ∑ r, wt q (k r) μ :=
  Finset.sum_pos (fun _ _ => wt_pos _ _ _) ⟨0, Finset.mem_univ _⟩

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_real (x : ℝ) {y : ℝ} (h : y ≠ 0) : Ideal.div (x : EReal) (y : EReal) = ((x / y : ℝ) : EReal) := by
  rw [Ideal.div_coe h, ← EReal.coe_mul, mul_one_div]

/-- A maximum of numbers, over a set that is not empty, is a number. -/
theorem fold_real {ι : Type} (s : Finset ι) (hs : s.Nonempty) (f : ι → EReal) (hf : ∀ i, ∃ r : ℝ, f i = r) (b : EReal) (hb : b = ⊥) :
    ∃ r : ℝ, Finset.fold max b f s = r := by
  subst hb
  have h : ∀ s : Finset ι, (Finset.fold max ⊥ f s = ⊥ ∧ s = ∅) ∨ ∃ r : ℝ, Finset.fold max ⊥ f s = r := by
    classical
    intro s
    induction s using Finset.induction_on with
    | empty => exact .inl ⟨Finset.fold_empty, rfl⟩
    | insert a s ha ih =>
      right
      rw [Finset.fold_insert ha]
      obtain ⟨r, hr⟩ := hf a
      rcases ih with ⟨e, -⟩ | ⟨q, e⟩
      · exact ⟨r, by rw [e, hr]; exact max_bot_right _⟩
      · exact ⟨max r q, by rw [e, hr]; exact (EReal.coe_strictMono.monotone.map_max).symm⟩
  rcases h s with ⟨-, e⟩ | h
  · exact absurd e hs.ne_empty
  · exact h

theorem ninf : Ideal.ofBits FTy.f32 0xFF800000#32 = ⊥ := by simp [Ideal.ofBits, Ideal.ieee]

/-- Rows as chunks. -/
theorem sum_rows (f : Fin 8448 → ℝ) : ∑ c : Fin 11, ∑ κ : Fin 768, f ⟨768 * c.val + κ.val, by omega⟩ = ∑ r, f r := by
  rw [← Fintype.sum_prod_type' (f := fun (c : Fin 11) (κ : Fin 768) => f ⟨768 * c.val + κ.val, by omega⟩)]
  refine Fintype.sum_equiv (finProdFinEquiv (m := 11) (n := 768)) _ _ fun x => ?_
  congr 1
  apply Fin.ext
  show 768 * x.1.val + x.2.val = x.2.val + 768 * x.1.val
  omega

/-- A chunk's rows as sublanes. -/
theorem sum_chunk (f : Fin 768 → ℝ) : ∑ u : Fin 8, ∑ a : Fin 96, f ⟨a.val * 8 + u.val, by omega⟩ = ∑ κ, f κ := by
  rw [Finset.sum_comm, ← Fintype.sum_prod_type' (f := fun (a : Fin 96) (u : Fin 8) => f ⟨a.val * 8 + u.val, by omega⟩)]
  refine Fintype.sum_equiv (finProdFinEquiv (m := 96) (n := 8)) _ _ fun x => ?_
  congr 1
  apply Fin.ext
  show x.1.val * 8 + x.2.val = x.2.val + 8 * x.1.val
  omega

theorem sum_halves (f : Fin 128 → ℝ) : ∑ d, f d = (∑ d : Fin 64, f ⟨d.val, by omega⟩) + ∑ d : Fin 64, f ⟨64 + d.val, by omega⟩ :=
  Fin.sum_univ_add (a := 64) (b := 64) f

/-- The kernel's weights: a row's score in powers of two, less any number. -/
theorem pow_score (S M : ℝ) : Real.rpow 2 (S * ((1 / 8) * (Real.log 2)⁻¹) - M) = Real.exp (S * (1 / 8)) * Real.exp (-(M * Real.log 2)) := by
  have hl : Real.log 2 ≠ 0 := ne_of_gt (Real.log_pos (by norm_num))
  rw [show ∀ y : ℝ, Real.rpow 2 y = (2 : ℝ) ^ y from fun _ => rfl, Real.rpow_def_of_pos (by norm_num), ← Real.exp_add]
  congr 1
  field_simp
  ring

/-- The two maps' difference, each map's weights scaled by a number. -/
theorem att_eq (lam : ℝ) (q : Fin 128 → ℝ) (k : Fin 8448 → Fin 128 → ℝ) (v : Fin 8448 → ℝ) (c0 c1 : ℝ) (h0 : c0 ≠ 0) (h1 : c1 ≠ 0) :
    (∑ r, v r * (wt q (k r) 0 * c0)) / (∑ r, wt q (k r) 0 * c0)
      - (∑ r, v r * (wt q (k r) 1 * c1)) * (lam / (∑ r, wt q (k r) 1 * c1)) = att lam q k v := by
  have z0 := (wt_sum_pos q k 0).ne'
  have z1 := (wt_sum_pos q k 1).ne'
  unfold att
  simp only [mul_sub, Finset.sum_sub_distrib, ← mul_assoc, ← Finset.sum_mul]
  congr 1
  · rw [mul_div_mul_right _ _ h0, Finset.sum_div]
    exact Finset.sum_congr rfl fun r _ => by rw [mul_div_assoc]
  · have : ∀ r, v r * lam * (wt q (k r) 1 / ∑ r, wt q (k r) 1) = v r * wt q (k r) 1 * (lam / ∑ r, wt q (k r) 1) := fun r => by ring
    rw [Finset.sum_congr rfl fun r _ => this r, ← Finset.sum_mul]
    field_simp

end Cert.Att

/-! ## The kernel's terms -/

namespace Cert.KernelIdeal.Att

open Cert.KernelIdeal Cert.KernelIdeal.Gen
open Idealize.ShloMosaic
open Idealize.ShloMosaic.TcCoe
open Idealize.ShloMosaic.Pointwise
open Cert.Att

theorem mask_lo : ∀ (x d : Fin 128), k0_pay7 (ix2 x d) = if d.val < 64 then 1#1 else 0#1 := by
  intro x d
  pointwise [k0_pay7]
  revert d; decide

theorem mask_hi : ∀ (d : Fin 128), IntOp.cmpi CmpIPredicate.sge (BitVec.ofNat 32 d.val) 64#32 = if d.val < 64 then 0#1 else 1#1 := by
  decide

theorem zero_apply (x d : Fin 128) : k0_pay6 (F := Ideal) (ix2 x d) = 0 := by
  pointwise [k0_pay6]
  try simp [Ideal.ofBits, Ideal.ieee]

theorem q_apply (q : Vec Ideal S1x128x128 .f32) (x d : Fin 128) :
    k0_pay5 q (ix2 x d) = q (ix3 0 x d) * (((1 / 8) * (Real.log 2)⁻¹ : ℝ) : EReal) := by
  pointwise [k0_pay5]
  try rfl

/-- A score: the products over half of the lanes, in powers of two. -/
theorem scF_real (q : Vec Ideal S1x128x128 .f32) (k : Vec Ideal S1x768x128 .bf16) (qr kr : Fin 128 → ℝ) (κ : Fin 768) (μ : Fin 2) (x : Fin 128)
    (hq : ∀ d, q (ix3 0 x d) = qr d) (hk : ∀ d, k (ix3 0 κ d) = kr d) :
    scF q k (ix2 κ (⟨128 * μ.val + x.val, by omega⟩ : Fin 256))
      = (((∑ d : Fin 64, qr ⟨64 * μ.val + d.val, by omega⟩ * kr ⟨64 * μ.val + d.val, by omega⟩) * ((1 / 8) * (Real.log 2)⁻¹) : ℝ) : EReal) := by
  generalize hc : (1 / 8) * (Real.log 2)⁻¹ = cq
  pointwise [scF, k0_pay10, k0_pay8]
  have e : ∀ d : Fin 128, (k (ix3 0 κ d) * if h : 128 * μ.val + x.val < 128 then
          Scalar.select (k0_pay7 (ix2 ⟨128 * μ.val + x.val, h⟩ d)) (k0_pay5 q (ix2 ⟨128 * μ.val + x.val, h⟩ d)) (k0_pay6 (ix2 ⟨128 * μ.val + x.val, h⟩ d))
        else
          Scalar.select (IntOp.cmpi CmpIPredicate.sge (BitVec.ofNat 32 ↑d) 64#32) (k0_pay5 q (ix2 ⟨128 * μ.val + x.val - 128, by omega⟩ d))
            (k0_pay6 (ix2 ⟨128 * μ.val + x.val - 128, by omega⟩ d)))
      = ((if d.val / 64 = μ.val then qr d * kr d * cq else 0 : ℝ) : EReal) := by
    intro d
    have hd := d.isLt
    rw [hk d, mask_hi]
    match μ with
    | ⟨0, _⟩ =>
      rw [dif_pos (by show 128 * 0 + x.val < 128; omega), mask_lo, zero_apply, q_apply, hc]
      have ex : (⟨128 * 0 + x.val, by omega⟩ : Fin 128) = x := Fin.ext (by simp)
      rw [show (⟨128 * (⟨0, by omega⟩ : Fin 2).val + x.val, _⟩ : Fin 128) = x from ex, hq d]
      by_cases h : d.val < 64
      · rw [if_pos h, if_pos (by show d.val / 64 = 0; omega)]
        show (kr d : EReal) * (qr d * cq) = _
        rw [← EReal.coe_mul, ← EReal.coe_mul]; congr 1; ring
      · rw [if_neg h, if_neg (by show ¬ d.val / 64 = 0; omega)]
        show (kr d : EReal) * 0 = _
        simp
    | ⟨1, _⟩ =>
      rw [dif_neg (by show ¬ 128 * 1 + x.val < 128; omega), zero_apply, q_apply, hc]
      have ex : (⟨128 * 1 + x.val - 128, by omega⟩ : Fin 128) = x := Fin.ext (by simp)
      rw [show (⟨128 * (⟨1, by omega⟩ : Fin 2).val + x.val - 128, _⟩ : Fin 128) = x from ex, hq d]
      by_cases h : d.val < 64
      · rw [if_pos h, if_neg (by show ¬ d.val / 64 = 1; omega)]
        show (kr d : EReal) * 0 = _
        simp
      · rw [if_neg h, if_pos (by show d.val / 64 = 1; omega)]
        show (kr d : EReal) * (qr d * cq) = _
        rw [← EReal.coe_mul, ← EReal.coe_mul]; congr 1; ring
  refine (Finset.sum_congr rfl fun d _ => e d).trans ?_
  rw [coe_sum, sum_halves, Finset.sum_mul]
  congr 1
  match μ with
  | ⟨0, _⟩ =>
    rw [Finset.sum_eq_zero (s := Finset.univ) (f := fun d : Fin 64 => if (64 + d.val) / 64 = (⟨0, by omega⟩ : Fin 2).val then _ else (0 : ℝ))
      (fun d _ => if_neg (by show ¬ (64 + d.val) / 64 = 0; omega)), add_zero]
    refine Finset.sum_congr rfl fun d _ => ?_
    have ed : (⟨64 * 0 + d.val, by omega⟩ : Fin 128) = ⟨d.val, by omega⟩ := Fin.ext (by simp)
    rw [if_pos (by show d.val / 64 = 0; omega)]
    show _ = qr ⟨64 * 0 + d.val, _⟩ * kr ⟨64 * 0 + d.val, _⟩ * cq
    rw [ed]
  | ⟨1, _⟩ =>
    rw [Finset.sum_eq_zero (s := Finset.univ) (f := fun d : Fin 64 => if d.val / 64 = (⟨1, by omega⟩ : Fin 2).val then _ else (0 : ℝ))
      (fun d _ => if_neg (by show ¬ d.val / 64 = 1; omega)), zero_add]
    refine Finset.sum_congr rfl fun d _ => ?_
    rw [if_pos (by show (64 + d.val) / 64 = 1; omega)]
    rfl

/-- A chunk's weight. -/
theorem expF_real (m : FVec Ideal S8x256 .f32) (s : Vec Ideal S768x256 .f32) (a : Fin 96) (u : Fin 8) (col : Fin 256) (M : ℝ) (σ : Fin 768 → ℝ)
    (hm : ∀ u, m (ix2 u col) = M) (hs : ∀ κ, s (ix2 κ col) = σ κ) :
    expF m s (ix3 a u col) = ((Real.rpow 2 (σ ⟨a.val * 8 + u.val, by omega⟩ - M) : ℝ) : EReal) := by
  pointwise [expF]
  rw [hs, hm, ← EReal.coe_sub]
  rfl

theorem lcF_real (m : FVec Ideal S8x256 .f32) (s : Vec Ideal S768x256 .f32) (u : Fin 8) (col : Fin 256) (M : ℝ) (σ : Fin 768 → ℝ)
    (hm : ∀ u, m (ix2 u col) = M) (hs : ∀ κ, s (ix2 κ col) = σ κ) :
    lcF m s (ix2 u col) = ((∑ a : Fin 96, Real.rpow 2 (σ ⟨a.val * 8 + u.val, by omega⟩ - M) : ℝ) : EReal) := by
  pointwise [lcF]
  rw [← coe_sum]
  exact Finset.sum_congr rfl fun a _ => expF_real m s a u col M σ hm hs

theorem pvF_real (m : FVec Ideal S8x256 .f32) (s : Vec Ideal S768x256 .f32) (v : Vec Ideal S1x128x768 .bf16) (e : Fin 128) (col : Fin 256)
    (M : ℝ) (σ vr : Fin 768 → ℝ) (hm : ∀ u, m (ix2 u col) = M) (hs : ∀ κ, s (ix2 κ col) = σ κ) (hv : ∀ κ, v (ix3 0 e κ) = vr κ) :
    pvF m s v (ix2 e col) = ((∑ κ : Fin 768, vr κ * Real.rpow 2 (σ κ - M) : ℝ) : EReal) := by
  pointwise [pvF]
  rw [← coe_sum]
  refine Finset.sum_congr rfl fun κ _ => ?_
  rw [hv, expF_real m s _ _ col M σ hm hs, ← EReal.coe_mul]
  congr 5
  apply Fin.ext
  show κ.val / 8 * 8 + κ.val % 8 = κ.val
  omega

theorem sum11 (f : Fin 11 → ℝ) : ((f 0 : EReal) + f 1 + f 2 + f 3 + f 4 + f 5 + f 6 + f 7 + f 8 + f 9 + f 10) = ((∑ c, f c : ℝ) : EReal) := by
  simp only [← EReal.coe_add]
  congr 1
  simp only [Fin.sum_univ_succ, Fin.sum_univ_zero]
  simp only [Fin.succ_zero_eq_one]
  ring_nf
  rfl

theorem lF_real (m : FVec Ideal S8x256 .f32) (s : Fin 11 → Vec Ideal S768x256 .f32) (u : Fin 8) (col : Fin 256) (M : ℝ) (σ : Fin 8448 → ℝ)
    (hm : ∀ u, m (ix2 u col) = M) (hs : ∀ (c : Fin 11) (κ : Fin 768), s c (ix2 κ col) = σ ⟨768 * c.val + κ.val, by omega⟩) :
    lF m s (ix2 u col) = ((∑ c : Fin 11, ∑ a : Fin 96, Real.rpow 2 (σ ⟨768 * c.val + (a.val * 8 + u.val), by omega⟩ - M) : ℝ) : EReal) := by
  rw [← sum11]
  unfold lF
  simp only [ValueIdx.addf_apply]
  simp only [fun c => lcF_real m (s c) u col M (fun κ => σ ⟨768 * c.val + κ.val, by omega⟩) hm (hs c)]

theorem accF_real (m : FVec Ideal S8x256 .f32) (s : Fin 11 → Vec Ideal S768x256 .f32) (v : Fin 11 → Vec Ideal S1x128x768 .bf16) (e : Fin 128) (col : Fin 256)
    (M : ℝ) (σ vr : Fin 8448 → ℝ)
    (hm : ∀ u, m (ix2 u col) = M) (hs : ∀ (c : Fin 11) (κ : Fin 768), s c (ix2 κ col) = σ ⟨768 * c.val + κ.val, by omega⟩)
    (hv : ∀ (c : Fin 11) (κ : Fin 768), v c (ix3 0 e κ) = vr ⟨768 * c.val + κ.val, by omega⟩) :
    accF m s v (ix2 e col) = ((∑ r, vr r * Real.rpow 2 (σ r - M) : ℝ) : EReal) := by
  rw [← sum_rows fun r => vr r * Real.rpow 2 (σ r - M), ← sum11]
  unfold accF
  simp only [ValueIdx.addf_apply]
  simp only [fun c => pvF_real m (s c) (v c) e col M (fun κ => σ ⟨768 * c.val + κ.val, by omega⟩) (fun κ => vr ⟨768 * c.val + κ.val, by omega⟩) hm (hs c) (hv c)]

/-- The weights' sum over a column, all sublanes together. -/
theorem l_real (m : FVec Ideal S8x256 .f32) (s : Fin 11 → Vec Ideal S768x256 .f32) (col : Fin 256) (M : ℝ) (σ : Fin 8448 → ℝ)
    (hm : ∀ u, m (ix2 u col) = M) (hs : ∀ (c : Fin 11) (κ : Fin 768), s c (ix2 κ col) = σ ⟨768 * c.val + κ.val, by omega⟩) :
    ∑ u, lF m s (ix2 u col) = ((∑ r, Real.rpow 2 (σ r - M) : ℝ) : EReal) := by
  rw [Finset.sum_congr rfl fun u _ => lF_real m s u col M σ hm hs, coe_sum, Finset.sum_comm,
    ← sum_rows fun r => Real.rpow 2 (σ r - M)]
  congr 1
  exact Finset.sum_congr rfl fun c _ => sum_chunk fun κ => Real.rpow 2 (σ ⟨768 * c.val + κ.val, by omega⟩ - M)

/-- A tile's maximum is a number, the same in every sublane. -/
theorem isMax_real (s : Fin 11 → Vec Ideal S768x256 .f32) (M : Vec Ideal S1x8x256 .f32) (h : IsMax s M)
    (hs : ∀ k i, ∃ r : ℝ, s k i = r) (col : Fin 256) : ∃ r : ℝ, ∀ u, k0_pay9 M (ix2 u col) = r := by
  obtain ⟨p, rfl, hp⟩ := h
  have hpr : AllP (fun a : Ideal .f32 => ∃ r : ℝ, (a : EReal) = r) p := hp _
    (fun a b ⟨r, hr⟩ ⟨q, hq⟩ => ⟨max r q, by
      show max (a : EReal) b = _
      rw [hr, hq]; exact (EReal.coe_strictMono.monotone.map_max).symm⟩) hs
  obtain ⟨r, hr⟩ := fold_real Finset.univ ⟨(0 : Fin 8), Finset.mem_univ _⟩ (fun x => p (ix2 x col)) (fun x => hpr _) _ ninf
  refine ⟨r, fun u => ?_⟩
  pointwise [k0_pay9, mF]
  exact hr

/-- The two maps' difference at an entry. -/
theorem diff_real (lam : FVec Ideal S1x1 .f32) (M : Vec Ideal S1x8x256 .f32) (q : Vec Ideal S1x128x128 .f32) (k : Fin 11 → Vec Ideal S1x768x128 .bf16)
    (v : Fin 11 → Vec Ideal S1x128x768 .bf16) (lamr : ℝ) (qr : Fin 128 → Fin 128 → ℝ) (kr : Fin 8448 → Fin 128 → ℝ) (vr : Fin 8448 → ℝ) (e x : Fin 128)
    (hl : lam (ix2 0 0) = lamr) (hq : ∀ x d, q (ix3 0 x d) = qr x d)
    (hk : ∀ (c : Fin 11) (κ : Fin 768) (d : Fin 128), k c (ix3 0 κ d) = kr ⟨768 * c.val + κ.val, by omega⟩ d)
    (hv : ∀ (c : Fin 11) (κ : Fin 768), v c (ix3 0 e κ) = vr ⟨768 * c.val + κ.val, by omega⟩)
    (hM : IsMax (fun c => scF q (k c)) M) :
    diffF lam (lF (k0_pay9 M) fun c => scF q (k c)) (accF (k0_pay9 M) (fun c => scF q (k c)) v) (ix2 e x) = (att lamr (qr x) kr vr : ℝ) := by
  have hsc : ∀ (c : Fin 11) (κ : Fin 768) (μ : Fin 2) (x : Fin 128), scF q (k c) (ix2 κ (⟨128 * μ.val + x.val, by omega⟩ : Fin 256))
      = (((∑ d : Fin 64, qr x ⟨64 * μ.val + d.val, by omega⟩ * kr ⟨768 * c.val + κ.val, by omega⟩ ⟨64 * μ.val + d.val, by omega⟩) * ((1 / 8) * (Real.log 2)⁻¹) : ℝ) : EReal) :=
    fun c κ μ x => scF_real q (k c) (qr x) (kr ⟨768 * c.val + κ.val, by omega⟩) κ μ x (hq x) (hk c κ)
  have hreal : ∀ (c : Fin 11) i, ∃ r : ℝ, scF q (k c) i = r := by
    intro c i
    have ei : i = ix2 (i 0) (⟨128 * (⟨(i 1).val / 128, by have : (i 1).val < 256 := (i 1).isLt; omega⟩ : Fin 2).val + (⟨(i 1).val % 128, by omega⟩ : Fin 128).val, by
        have : (i 1).val < 256 := (i 1).isLt
        show 128 * ((i 1).val / 128) + (i 1).val % 128 < 256; omega⟩ : Fin 256) := by
      funext a
      match a with
      | ⟨0, _⟩ => rfl
      | ⟨1, _⟩ => exact Fin.ext (show (i 1).val = 128 * ((i 1).val / 128) + (i 1).val % 128 by omega)
    rw [ei]
    exact ⟨_, hsc c (i 0) _ _⟩
  obtain ⟨M0, hM0⟩ := isMax_real _ M hM hreal (⟨128 * (0 : Fin 2).val + x.val, by simp; omega⟩ : Fin 256)
  obtain ⟨M1, hM1⟩ := isMax_real _ M hM hreal (⟨128 * (1 : Fin 2).val + x.val, by simp; omega⟩ : Fin 256)
  have hw : ∀ (μ : Fin 2) (r : Fin 8448) (m : ℝ), Real.rpow 2 ((∑ d : Fin 64, qr x ⟨64 * μ.val + d.val, by omega⟩ * kr r ⟨64 * μ.val + d.val, by omega⟩) * ((1 / 8) * (Real.log 2)⁻¹) - m)
      = wt (qr x) (kr r) μ * Real.exp (-(m * Real.log 2)) := fun μ r m => pow_score _ _
  pointwise [diffF]
  have e0 : (⟨x.val, by omega⟩ : Fin 256) = ⟨128 * (0 : Fin 2).val + x.val, by simp; omega⟩ := Fin.ext (by simp)
  have e1 : (⟨128 + x.val, by omega⟩ : Fin 256) = ⟨128 * (1 : Fin 2).val + x.val, by simp; omega⟩ := Fin.ext (by simp)
  rw [e0, e1,
    accF_real _ _ v e _ M0 (fun r => (∑ d : Fin 64, qr x ⟨64 * (0 : Fin 2).val + d.val, by omega⟩ * kr r ⟨64 * (0 : Fin 2).val + d.val, by omega⟩) * ((1 / 8) * (Real.log 2)⁻¹)) vr hM0 (fun c κ => hsc c κ 0 x) hv,
    accF_real _ _ v e _ M1 (fun r => (∑ d : Fin 64, qr x ⟨64 * (1 : Fin 2).val + d.val, by omega⟩ * kr r ⟨64 * (1 : Fin 2).val + d.val, by omega⟩) * ((1 / 8) * (Real.log 2)⁻¹)) vr hM1 (fun c κ => hsc c κ 1 x) hv,
    l_real _ _ _ M0 (fun r => (∑ d : Fin 64, qr x ⟨64 * (0 : Fin 2).val + d.val, by omega⟩ * kr r ⟨64 * (0 : Fin 2).val + d.val, by omega⟩) * ((1 / 8) * (Real.log 2)⁻¹)) hM0 (fun c κ => hsc c κ 0 x),
    l_real _ _ _ M1 (fun r => (∑ d : Fin 64, qr x ⟨64 * (1 : Fin 2).val + d.val, by omega⟩ * kr r ⟨64 * (1 : Fin 2).val + d.val, by omega⟩) * ((1 / 8) * (Real.log 2)⁻¹)) hM1 (fun c κ => hsc c κ 1 x), hl]
  simp only [hw]
  have c0 : Real.exp (-(M0 * Real.log 2)) ≠ 0 := Real.exp_ne_zero _
  have c1 : Real.exp (-(M1 * Real.log 2)) ≠ 0 := Real.exp_ne_zero _
  rw [div_real, div_real, ← EReal.coe_mul, ← EReal.coe_sub, att_eq lamr (qr x) kr vr _ _ c0 c1]
  · rw [← Finset.sum_mul]; exact mul_ne_zero (wt_sum_pos _ _ _).ne' c1
  · rw [← Finset.sum_mul]; exact mul_ne_zero (wt_sum_pos _ _ _).ne' c0

/-- A tile's output rows: each the normalized attention of its query. -/
theorem out_real (lam : FVec Ideal S1x1 .f32) (M : Vec Ideal S1x8x256 .f32) (q : Vec Ideal S1x128x128 .f32) (k : Fin 11 → Vec Ideal S1x768x128 .bf16)
    (v : Fin 11 → Vec Ideal S1x128x768 .bf16) (g : Vec Ideal S128x1 .f32)
    (lamr : ℝ) (qr : Fin 128 → Fin 128 → ℝ) (kr : Fin 8448 → Fin 128 → ℝ) (vr : Fin 128 → Fin 8448 → ℝ) (x e : Fin 128)
    (hl : lam (ix2 0 0) = lamr) (hq : ∀ x d, q (ix3 0 x d) = qr x d)
    (hk : ∀ (c : Fin 11) (κ : Fin 768) (d : Fin 128), k c (ix3 0 κ d) = kr ⟨768 * c.val + κ.val, by omega⟩ d)
    (hv : ∀ e (c : Fin 11) (κ : Fin 768), v c (ix3 0 e κ) = vr e ⟨768 * c.val + κ.val, by omega⟩)
    (hM : IsMax (fun c => scF q (k c)) M) :
    outF lam M (fun c => scF q (k c)) v g (ix3 0 x e) = nrm (fun e => (att lamr (qr x) kr (vr e) : ℝ)) (g (ix2 e 0)) e := by
  unfold outF nrm
  pointwise [k0_pay145]
  simp only [fun e => diff_real lam M q k v lamr qr kr (vr e) e x hl hq hk (hv e) hM]

/-- Lambda is a number. -/
theorem lam_apply (lq : Vec Ideal S4x64 .f32) :
    k0_pay4 lq (ix2 0 0) = Ideal.exp (∑ x, lq (ix2 0 x) * lq (ix2 1 x)) - Ideal.exp (∑ x, lq (ix2 2 x) * lq (ix2 3 x)) +
      Ideal.ofBits FTy.f32 0x3E4CCCCD#32 := by
  pointwise [k0_pay4]

end Cert.KernelIdeal.Att
-- ==== Proof.Arr.lean ====
/-
  The arrays the region finds, and a point's blocks as parts of them.
-/
module

public import proofs.«01_k».proof.Proof.Track
public import proofs.«01_k».proof.Proof.Val

@[expose] public section

set_option maxRecDepth 16384

noncomputable section

namespace Cert.KernelIdeal.Att

open Cert.KernelIdeal Cert.KernelIdeal.Gen
open Idealize.ShloMosaic
open Idealize.ShloMosaic.TcCoe
open Idealize.ShloMosaic.Pointwise
open Idealize.ShloMosaic.Pipeline (Window)

section Any

variable {F : FTy → Type} [FloatOps F] [Named F]
variable (m : (ℓ : Loc nD τ sig) → Buf (Elt F) ℓ) (c : Dev nD)

theorem V_v6 : Gen.V m c main_v6 = concatenate S4x8448x512 1
    [⟨S4x256x512, truncf .bf16 (m ((c.tc : Thread nD τ).loc main_arg3) : FVec F S4x256x512 .f32) bitsLt_bf16_f32⟩,
     ⟨S4x8192x512, truncf .bf16 (m ((c.tc : Thread nD τ).loc main_arg1) : FVec F S4x8192x512 .f32) bitsLt_bf16_f32⟩]
    concatenates_S4x256x512_S4x8192x512_S4x8448x512_d1 := by
  rfl

theorem V_v5 : Gen.V m c main_v5 = transpose S4x512x8448 [0, 2, 1] (concatenate S4x8448x512 1
    [⟨S4x256x512, truncf .bf16 (m ((c.tc : Thread nD τ).loc main_arg4) : FVec F S4x256x512 .f32) bitsLt_bf16_f32⟩,
     ⟨S4x8192x512, truncf .bf16 (m ((c.tc : Thread nD τ).loc main_arg2) : FVec F S4x8192x512 .f32) bitsLt_bf16_f32⟩]
    concatenates_S4x256x512_S4x8192x512_S4x8448x512_d1) transposes_S4x8448x512_S4x512x8448_0_2_1 := by
  rfl

theorem V_v7 : Gen.V m c main_v7 = shapeCast S128x1 (m ((c.tc : Thread nD τ).loc main_arg6) : FVec F S128 .f32) shapeCasts_S128_S128x1 := by
  rfl

/-- A point's batch and head. -/
def bT (t : Fin cfg0.N) : Fin 4 := ⟨t.val / 132, by have : t.val < 528 := t.isLt; omega⟩
def hT (t : Fin cfg0.N) : Fin 4 := ⟨t.val / 33 % 4, by omega⟩

theorem index1 : ∀ t : Fin grid0.N, (cfg0.win 1).index t 0 = t.val / 132 ∧ (cfg0.win 1).index t 1 = 0 ∧ (cfg0.win 1).index t 2 = t.val / 33 % 4 := by decide +kernel
theorem index2 : ∀ t : Fin grid0.N, (cfg0.win 2).index t 0 = t.val / 132 ∧ (cfg0.win 2).index t 1 = 0 ∧ (cfg0.win 2).index t 2 = t.val / 33 % 4 := by decide +kernel
theorem index3 : ∀ t : Fin grid0.N, (cfg0.win 3).index t 0 = t.val / 132 ∧ (cfg0.win 3).index t 1 = t.val / 33 % 4 ∧ (cfg0.win 3).index t 2 = 0 := by decide +kernel
theorem index5 : ∀ t : Fin grid0.N, (cfg0.win 5).index t 0 = t.val / 132 ∧ (cfg0.win 5).index t 1 = 0 ∧ (cfg0.win 5).index t 2 = t.val / 33 % 4 := by decide +kernel
theorem index0 : ∀ t : Fin grid0.N, (cfg0.win 0).index t 0 = 0 ∧ (cfg0.win 0).index t 1 = 0 := by decide +kernel
theorem index4 : ∀ t : Fin grid0.N, (cfg0.win 4).index t 0 = 0 ∧ (cfg0.win 4).index t 1 = 0 := by decide +kernel

theorem qB_apply (t : Fin cfg0.N) (n : Fin 8192) (d : Fin 128) :
    qB m c t (ix3 0 n d) = (m ((c.tc : Thread nD τ).loc main_arg0) : FVec F S4x8192x512 .f32) (ix3 (bT t) n (⟨128 * (hT t).val + d.val, by omega⟩ : Fin 512)) := by
  rw [← Gen.V_main_arg0 m c]
  show Gen.V m c main_arg0 (((cfg0.win 1).rect t).emb (ix3 0 n d)) = _
  congr 1
  obtain ⟨h0, h1, h2⟩ := index1 t
  funext a
  apply Fin.ext
  refine ((cfg0.win 1).rect_emb_val t (ix3 0 n d) a).trans ?_
  match a with
  | ⟨0, _⟩ => show (cfg0.win 1).index t 0 * 1 + 0 = t.val / 132; rw [h0]; omega
  | ⟨1, _⟩ => show (cfg0.win 1).index t 1 * 8192 + n.val = n.val; rw [h1]; omega
  | ⟨2, _⟩ => show (cfg0.win 1).index t 2 * 128 + d.val = 128 * (t.val / 33 % 4) + d.val; rw [h2]; omega

theorem kB_apply (t : Fin cfg0.N) (r : Fin 8448) (d : Fin 128) :
    kB m c t (ix3 0 r d) = (Gen.V m c main_v6 : FVec F S4x8448x512 .bf16) (ix3 (bT t) r (⟨128 * (hT t).val + d.val, by omega⟩ : Fin 512)) := by
  show Gen.V m c main_v6 (((cfg0.win 2).rect t).emb (ix3 0 r d)) = _
  congr 1
  obtain ⟨h0, h1, h2⟩ := index2 t
  funext a
  apply Fin.ext
  refine ((cfg0.win 2).rect_emb_val t (ix3 0 r d) a).trans ?_
  match a with
  | ⟨0, _⟩ => show (cfg0.win 2).index t 0 * 1 + 0 = t.val / 132; rw [h0]; omega
  | ⟨1, _⟩ => show (cfg0.win 2).index t 1 * 8448 + r.val = r.val; rw [h1]; omega
  | ⟨2, _⟩ => show (cfg0.win 2).index t 2 * 128 + d.val = 128 * (t.val / 33 % 4) + d.val; rw [h2]; omega

theorem vB_apply (t : Fin cfg0.N) (e : Fin 128) (r : Fin 8448) :
    vB m c t (ix3 0 e r) = (Gen.V m c main_v5 : FVec F S4x512x8448 .bf16) (ix3 (bT t) (⟨128 * (hT t).val + e.val, by omega⟩ : Fin 512) r) := by
  show Gen.V m c main_v5 (((cfg0.win 3).rect t).emb (ix3 0 e r)) = _
  congr 1
  obtain ⟨h0, h1, h2⟩ := index3 t
  funext a
  apply Fin.ext
  refine ((cfg0.win 3).rect_emb_val t (ix3 0 e r) a).trans ?_
  match a with
  | ⟨0, _⟩ => show (cfg0.win 3).index t 0 * 1 + 0 = t.val / 132; rw [h0]; omega
  | ⟨1, _⟩ => show (cfg0.win 3).index t 1 * 128 + e.val = 128 * (t.val / 33 % 4) + e.val; rw [h1]; omega
  | ⟨2, _⟩ => show (cfg0.win 3).index t 2 * 8448 + r.val = r.val; rw [h2]; omega

theorem lamB_apply (t : Fin cfg0.N) (i : Fin 4) (d : Fin 64) :
    lamB m c t (ix2 i d) = (m ((c.tc : Thread nD τ).loc main_arg5) : FVec F S4x64 .f32) (ix2 i d) := by
  rw [← Gen.V_main_arg5 m c]
  show Gen.V m c main_arg5 (((cfg0.win 0).rect t).emb (ix2 i d)) = _
  congr 1
  obtain ⟨h0, h1⟩ := index0 t
  funext a
  apply Fin.ext
  refine ((cfg0.win 0).rect_emb_val t (ix2 i d) a).trans ?_
  match a with
  | ⟨0, _⟩ => show (cfg0.win 0).index t 0 * 4 + i.val = i.val; rw [h0]; omega
  | ⟨1, _⟩ => show (cfg0.win 0).index t 1 * 64 + d.val = d.val; rw [h1]; omega

theorem gB_apply (t : Fin cfg0.N) (e : Fin 128) :
    gB m c t (ix2 e 0) = (Gen.V m c main_v7 : FVec F S128x1 .f32) (ix2 e 0) := by
  show Gen.V m c main_v7 (((cfg0.win 4).rect t).emb (ix2 e 0)) = _
  congr 1
  obtain ⟨h0, h1⟩ := index4 t
  funext a
  apply Fin.ext
  refine ((cfg0.win 4).rect_emb_val t (ix2 e 0) a).trans ?_
  match a with
  | ⟨0, _⟩ => show (cfg0.win 4).index t 0 * 128 + e.val = e.val; rw [h0]; omega
  | ⟨1, _⟩ => show (cfg0.win 4).index t 1 * 1 + 0 = 0; rw [h1]

end Any

variable (m : (ℓ : Loc nD τ sig) → Buf (Elt Ideal) ℓ) (c : Dev nD)

/-- The keys, and the values. -/
abbrev keyA : Fin 4 → Fin 8448 → Fin 512 → EReal := Cert.Att.catA (m ((c.tc : Thread nD τ).loc main_arg3)) (m ((c.tc : Thread nD τ).loc main_arg1))
abbrev valA : Fin 4 → Fin 8448 → Fin 512 → EReal := Cert.Att.catA (m ((c.tc : Thread nD τ).loc main_arg4)) (m ((c.tc : Thread nD τ).loc main_arg2))

theorem V_v6_apply (b : Fin 4) (r : Fin 8448) (d : Fin 512) : (Gen.V m c main_v6 : FVec Ideal S4x8448x512 .bf16) (ix3 b r d) = keyA m c b r d := by
  rw [V_v6]
  unfold keyA Cert.Att.catA
  pointwise

theorem V_v5_apply (b : Fin 4) (r : Fin 8448) (d : Fin 512) : (Gen.V m c main_v5 : FVec Ideal S4x512x8448 .bf16) (ix3 b d r) = valA m c b r d := by
  rw [V_v5]
  unfold valA Cert.Att.catA
  pointwise

theorem V_v7_apply (e : Fin 128) : (Gen.V m c main_v7 : FVec Ideal S128x1 .f32) (ix2 e 0) = (m ((c.tc : Thread nD τ).loc main_arg6) : FVec Ideal S128 .f32) (ix1 e) := by
  rw [V_v7]
  pointwise

end Cert.KernelIdeal.Att
-- ==== Proof.Ref.lean ====
/-
  The reference's result at an index, over the extended reals, when the queries, keys, values and lambda are numbers.
-/
module

public import proofs.«01_k».proof.Proof.Gen.ReferenceIdeal.Read
public import proofs.«01_k».proof.Proof.Val
public import Idealize.ShloMosaic.Lib.ValueIdxRank1

@[expose] public section

set_option maxRecDepth 16384

noncomputable section

namespace Cert.ReferenceIdeal.Att

open Cert.ReferenceIdeal Cert.ReferenceIdeal.Facts Cert.ReferenceIdeal.Read Cert.Att
open Idealize.ShloMosaic
open Idealize.ShloMosaic.TcCoe

abbrev Seq : Type := (⟨S4x8192x512, .f32⟩ : BufTy).Contents (Elt Ideal)
abbrev Ctx : Type := (⟨S4x256x512, .f32⟩ : BufTy).Contents (Elt Ideal)

section Layout

variable (x0 x1 x2 : Seq) (x3 x4 : Ctx) (b : Fin 4) (n : Fin 8192) (r : Fin 8448) (h : Fin 4) (μ : Fin 2) (d : Fin 64) (e : Fin 128)

theorem v16_at : val_main_v16 (F := Ideal) x0 (ix5 b n h μ d) = x0 (ix3 b n (⟨128 * h.val + (64 * μ.val + d.val), by omega⟩ : Fin 512)) := by
  rw [val_main_v16_apply]
  congr 1
  funext a
  apply Fin.ext
  have hb := b.isLt; have hn := n.isLt; have hh := h.isLt; have hμ := μ.isLt; have hd := d.isLt
  match a with
  | ⟨0, _⟩ => show ((((b.val * 8192 + n.val) * 4 + h.val) * 2 + μ.val) * 64 + d.val) / 4194304 = b.val; omega
  | ⟨1, _⟩ => show ((((b.val * 8192 + n.val) * 4 + h.val) * 2 + μ.val) * 64 + d.val) / 512 % 8192 = n.val; omega
  | ⟨2, _⟩ => show ((((b.val * 8192 + n.val) * 4 + h.val) * 2 + μ.val) * 64 + d.val) % 512 = 128 * h.val + (64 * μ.val + d.val); omega

theorem v17_at (z : Fin 512) : val_main_v17 (F := Ideal) x1 x3 (ix3 b r z) = catA x3 x1 b r z := by
  unfold val_main_v17 catA
  pointwise

theorem v19_at (z : Fin 512) : val_main_v19 (F := Ideal) x2 x4 (ix3 b r z) = catA x4 x2 b r z := by
  unfold val_main_v19 catA
  pointwise

theorem v18_at : val_main_v18 (F := Ideal) x1 x3 (ix5 b r h μ d) = catA x3 x1 b r (⟨128 * h.val + (64 * μ.val + d.val), by omega⟩ : Fin 512) := by
  rw [val_main_v18_apply, ← v17_at]
  congr 1
  funext a
  apply Fin.ext
  have hb := b.isLt; have hn := r.isLt; have hh := h.isLt; have hμ := μ.isLt; have hd := d.isLt
  match a with
  | ⟨0, _⟩ => show ((((b.val * 8448 + r.val) * 4 + h.val) * 2 + μ.val) * 64 + d.val) / 4325376 = b.val; omega
  | ⟨1, _⟩ => show ((((b.val * 8448 + r.val) * 4 + h.val) * 2 + μ.val) * 64 + d.val) / 512 % 8448 = r.val; omega
  | ⟨2, _⟩ => show ((((b.val * 8448 + r.val) * 4 + h.val) * 2 + μ.val) * 64 + d.val) % 512 = 128 * h.val + (64 * μ.val + d.val); omega

theorem v20_at : val_main_v20 (F := Ideal) x2 x4 (ix4 b r h e) = catA x4 x2 b r (⟨128 * h.val + e.val, by omega⟩ : Fin 512) := by
  rw [val_main_v20_apply, ← v19_at]
  congr 1
  funext a
  apply Fin.ext
  have hb := b.isLt; have hn := r.isLt; have hh := h.isLt; have he := e.isLt
  match a with
  | ⟨0, _⟩ => show (((b.val * 8448 + r.val) * 4 + h.val) * 128 + e.val) / 4325376 = b.val; omega
  | ⟨1, _⟩ => show (((b.val * 8448 + r.val) * 4 + h.val) * 128 + e.val) / 512 % 8448 = r.val; omega
  | ⟨2, _⟩ => show (((b.val * 8448 + r.val) * 4 + h.val) * 128 + e.val) % 512 = 128 * h.val + e.val; omega

end Layout

theorem eighth : (FloatOps.ofBits .f32 0x3E000000#32 : Ideal .f32) = ((1 / 8 : ℝ) : EReal) := by
  show Ideal.ofBits .f32 0x3E000000#32 = _
  simp [Ideal.ofBits, Ideal.ieee]
  norm_cast
  norm_num

section Softmax

variable (x0 x1 : Seq) (x3 : Ctx) (b : Fin 4) (n : Fin 8192) (h : Fin 4) (q : Fin 128 → ℝ) (k : Fin 8448 → Fin 128 → ℝ)
variable (hq : ∀ d : Fin 128, x0 (ix3 b n (⟨128 * h.val + d.val, by omega⟩ : Fin 512)) = (q d : EReal))
variable (hk : ∀ r (d : Fin 128), catA x3 x1 b r (⟨128 * h.val + d.val, by omega⟩ : Fin 512) = (k r d : EReal))

/-- A score. -/
def sc (μ : Fin 2) (r : Fin 8448) : ℝ := (∑ d : Fin 64, q ⟨64 * μ.val + d.val, by omega⟩ * k r ⟨64 * μ.val + d.val, by omega⟩) * (1 / 8)

include hq hk in
theorem v23_at (μ : Fin 2) (r : Fin 8448) : val_main_v23 (F := Ideal) x0 x1 x3 (ix5 b h μ n r) = (sc q k μ r : EReal) := by
  rw [val_main_v23_apply, val_main_v22_apply, val_main_cst_2_apply, eighth, val_main_v21_apply]
  unfold sc
  rw [EReal.coe_mul, ← coe_sum]
  show (∑ _, _) * _ = _
  congr 1
  refine Finset.sum_congr rfl fun d _ => ?_
  have e1 : lidx_main_v21 (ix5 b h μ n r) d = ix5 b n h μ d := funext fun a => by
    match a with | ⟨0, _⟩ => rfl | ⟨1, _⟩ => rfl | ⟨2, _⟩ => rfl | ⟨3, _⟩ => rfl | ⟨4, _⟩ => rfl
  have e2 : ridx_main_v21 (ix5 b h μ n r) d = ix5 b r h μ d := funext fun a => by
    match a with | ⟨0, _⟩ => rfl | ⟨1, _⟩ => rfl | ⟨2, _⟩ => rfl | ⟨3, _⟩ => rfl | ⟨4, _⟩ => rfl
  rw [e1, e2, v16_at, v18_at, hq ⟨64 * μ.val + d.val, by omega⟩, hk r ⟨64 * μ.val + d.val, by omega⟩, EReal.coe_mul]

include hq hk in
theorem v24_at (μ : Fin 2) : ∃ M : ℝ, val_main_v24 (F := Ideal) x0 x1 x3 (ix4 b h μ n) = (M : EReal) := by
  have hv := v23_at x0 x1 x3 b n h q k hq hk μ
  unfold val_main_v24 val_main_cst_3
  generalize val_main_v23 (F := Ideal) x0 x1 x3 = y at hv
  pointwise
  exact fold_real _ ⟨0, Finset.mem_univ _⟩ _ (fun r => ⟨_, hv r⟩) _ ninf

include hq hk in
theorem v28_at (μ : Fin 2) : ∃ M : ℝ, ∀ r, val_main_v28 (F := Ideal) x0 x1 x3 (ix5 b h μ n r) = (M : EReal) := by
  obtain ⟨M, hM⟩ := v24_at x0 x1 x3 b n h q k hq hk μ
  refine ⟨M, fun r => ?_⟩
  rw [val_main_v28_apply, val_main_v27_apply, val_main_v26_apply, val_main_v25_apply, val_main_cst_4_apply]
  have e : idx_main_v27 (idx_main_v28 (ix5 b h μ n r)) = ix4 b h μ n := funext fun a => by
    match a with | ⟨0, _⟩ => rfl | ⟨1, _⟩ => rfl | ⟨2, _⟩ => rfl | ⟨3, _⟩ => rfl
  rw [e, hM]
  show max (Ideal.ofBits FTy.f32 0xFF800000#32) (M : EReal) = M
  rw [ninf]
  exact max_eq_right bot_le

theorem exp_sc (μ : Fin 2) (r : Fin 8448) : Real.exp (sc q k μ r) = wt q (k r) μ := rfl

include hq hk in
/-- A row's two softmax maps. -/
theorem v34_at (μ : Fin 2) (r : Fin 8448) :
    val_main_v34 (F := Ideal) x0 x1 x3 (ix5 b h μ n r) = ((wt q (k r) μ / ∑ r, wt q (k r) μ : ℝ) : EReal) := by
  obtain ⟨M, hM⟩ := v28_at x0 x1 x3 b n h q k hq hk μ
  have h30 : ∀ r, val_main_v30 (F := Ideal) x0 x1 x3 (ix5 b h μ n r) = ((wt q (k r) μ * Real.exp (-M) : ℝ) : EReal) := fun r => by
    rw [val_main_v30_apply, val_main_v29_apply, hM, v23_at x0 x1 x3 b n h q k hq hk]
    show Ideal.exp ((sc q k μ r : EReal) - (M : EReal)) = _
    rw [← EReal.coe_sub, Ideal.exp_coe, sub_eq_add_neg, Real.exp_add, exp_sc]
  have h33 : val_main_v33 (F := Ideal) x0 x1 x3 (ix5 b h μ n r) = ((∑ r, wt q (k r) μ * Real.exp (-M) : ℝ) : EReal) := by
    rw [val_main_v33_apply, val_main_v32_apply, val_main_v31_apply, val_main_cst_5_apply, ← coe_sum]
    show Ideal.ofBits FTy.f32 0x00000000#32 + _ = _
    rw [Ideal.ofBits_zero_f32, zero_add]
    refine Finset.sum_congr rfl fun r' _ => ?_
    have e : idx_main_v31 (idx_main_v32 (idx_main_v33 (ix5 b h μ n r))) r' = ix5 b h μ n r' := funext fun a => by
      match a with | ⟨0, _⟩ => rfl | ⟨1, _⟩ => rfl | ⟨2, _⟩ => rfl | ⟨3, _⟩ => rfl | ⟨4, _⟩ => rfl
    rw [e, h30]
  rw [val_main_v34_apply, h30, h33, ← Finset.sum_mul]
  show Ideal.div _ _ = _
  have hz := (wt_sum_pos q k μ).ne'
  have hx := Real.exp_ne_zero (-M)
  rw [div_real _ (mul_ne_zero hz hx), mul_div_mul_right _ _ hx]

include hq hk in
theorem v36_at (r : Fin 8448) : val_main_v36 (F := Ideal) x0 x1 x3 (ix4 b h n r) = ((wt q (k r) 0 / ∑ r, wt q (k r) 0 : ℝ) : EReal) := by
  rw [val_main_v36_apply, val_main_v35_apply, ← v34_at x0 x1 x3 b n h q k hq hk]
  congr 1
  funext a
  apply Fin.ext
  have hb := b.isLt; have hn := n.isLt; have hh := h.isLt; have hr := r.isLt
  match a with
  | ⟨0, _⟩ => show (((b.val * 4 + h.val) * 8192 + n.val) * 8448 + r.val) / 276824064 = b.val; omega
  | ⟨1, _⟩ => show (((b.val * 4 + h.val) * 8192 + n.val) * 8448 + r.val) / 69206016 % 4 = h.val; omega
  | ⟨2, _⟩ => rfl
  | ⟨3, _⟩ => show (((b.val * 4 + h.val) * 8192 + n.val) * 8448 + r.val) / 8448 % 8192 = n.val; omega
  | ⟨4, _⟩ => show (((b.val * 4 + h.val) * 8192 + n.val) * 8448 + r.val) % 8448 = r.val; omega

include hq hk in
theorem v38_at (r : Fin 8448) : val_main_v38 (F := Ideal) x0 x1 x3 (ix4 b h n r) = ((wt q (k r) 1 / ∑ r, wt q (k r) 1 : ℝ) : EReal) := by
  rw [val_main_v38_apply, val_main_v37_apply, ← v34_at x0 x1 x3 b n h q k hq hk]
  congr 1
  funext a
  apply Fin.ext
  have hb := b.isLt; have hn := n.isLt; have hh := h.isLt; have hr := r.isLt
  match a with
  | ⟨0, _⟩ => show (((b.val * 4 + h.val) * 8192 + n.val) * 8448 + r.val) / 276824064 = b.val; omega
  | ⟨1, _⟩ => show (((b.val * 4 + h.val) * 8192 + n.val) * 8448 + r.val) / 69206016 % 4 = h.val; omega
  | ⟨2, _⟩ => rfl
  | ⟨3, _⟩ => show (((b.val * 4 + h.val) * 8192 + n.val) * 8448 + r.val) / 8448 % 8192 = n.val; omega
  | ⟨4, _⟩ => show (((b.val * 4 + h.val) * 8192 + n.val) * 8448 + r.val) % 8448 = r.val; omega

end Softmax

/-! ## Lambda -/

/-- The reference's lambda. -/
def lamE (x5 : S4x64.Idx → EReal) : EReal :=
  Ideal.exp (∑ x : Fin 64, x5 (ix2 0 x) * x5 (ix2 1 x)) - Ideal.exp (∑ x : Fin 64, x5 (ix2 2 x) * x5 (ix2 3 x)) + Ideal.ofBits .f32 0x3E4CCCCD#32

theorem lam_row (x5 : (⟨S4x64, .f32⟩ : BufTy).Contents (Elt Ideal)) (j : S64.Idx) :
    val_main_v1 (F := Ideal) x5 j = x5 (ix2 0 (j 0)) ∧ val_main_v3 (F := Ideal) x5 j = x5 (ix2 1 (j 0))
      ∧ val_main_v8 (F := Ideal) x5 j = x5 (ix2 2 (j 0)) ∧ val_main_v10 (F := Ideal) x5 j = x5 (ix2 3 (j 0)) := by
  have hj : (j 0).val < 64 := (j 0).isLt
  refine ⟨?_, ?_, ?_, ?_⟩
  · rw [val_main_v1_apply, val_main_v0_apply]
    congr 1; funext a; apply Fin.ext
    match a with
    | ⟨0, _⟩ => first | rfl | (show 0 + _ = 0; omega)
    | ⟨1, _⟩ => show (j 0).val % 64 = (j 0).val; omega
  · rw [val_main_v3_apply, val_main_v2_apply]
    congr 1; funext a; apply Fin.ext
    match a with
    | ⟨0, _⟩ => rfl
    | ⟨1, _⟩ => show (j 0).val % 64 = (j 0).val; omega
  · rw [val_main_v8_apply, val_main_v7_apply]
    congr 1; funext a; apply Fin.ext
    match a with
    | ⟨0, _⟩ => rfl
    | ⟨1, _⟩ => show (j 0).val % 64 = (j 0).val; omega
  · rw [val_main_v10_apply, val_main_v9_apply]
    congr 1; funext a; apply Fin.ext
    match a with
    | ⟨0, _⟩ => rfl
    | ⟨1, _⟩ => show (j 0).val % 64 = (j 0).val; omega

theorem lam_at (x5 : (⟨S4x64, .f32⟩ : BufTy).Contents (Elt Ideal)) (i : S_.Idx) : val_main_v15 (F := Ideal) x5 i = lamE x5 := by
  rw [val_main_v15_apply, val_main_v14_apply, val_main_v13_apply, val_main_v12_apply, val_main_v6_apply, val_main_v5_apply,
    val_main_cst_apply, val_main_cst_0_apply, val_main_cst_1_apply]
  unfold lamE
  show Ideal.exp (Ideal.ofBits FTy.f32 0x00000000#32 + _) - Ideal.exp (Ideal.ofBits FTy.f32 0x00000000#32 + _) + _ = _
  rw [Ideal.ofBits_zero_f32, zero_add, zero_add]
  have e1 : ∑ j : S64.Idx, val_main_v4 (F := Ideal) x5 j = ∑ x : Fin 64, x5 (ix2 0 x) * x5 (ix2 1 x) :=
    Fintype.sum_equiv ValueIdx.idxEquiv1 _ _ fun j => by
      obtain ⟨h1, h2, -, -⟩ := lam_row x5 j
      rw [val_main_v4_apply, h1, h2]; rfl
  have e2 : ∑ j : S64.Idx, val_main_v11 (F := Ideal) x5 j = ∑ x : Fin 64, x5 (ix2 2 x) * x5 (ix2 3 x) :=
    Fintype.sum_equiv ValueIdx.idxEquiv1 _ _ fun j => by
      obtain ⟨-, -, h1, h2⟩ := lam_row x5 j
      rw [val_main_v11_apply, h1, h2]; rfl
  rw [e1, e2]
  rfl

theorem fifth : ∃ r : ℝ, Ideal.ofBits .f32 0x3E4CCCCD#32 = (r : EReal) := by
  simp [Ideal.ofBits, Ideal.ieee]
  norm_cast
  exact ⟨_, rfl⟩

/-- Lambda is a number when its parameters are. -/
theorem lam_real (x5 : S4x64.Idx → EReal) (h : ∀ i, ∃ r : ℝ, x5 i = r) : ∃ r : ℝ, lamE x5 = (r : EReal) := by
  choose y hy using h
  obtain ⟨r, hr⟩ := fifth
  unfold lamE
  simp only [hy, hr, ← EReal.coe_mul]
  rw [coe_sum, coe_sum, Ideal.exp_coe, Ideal.exp_coe, ← EReal.coe_sub, ← EReal.coe_add]
  exact ⟨_, rfl⟩

section Result

variable (x0 x1 x2 : Seq) (x3 x4 : Ctx) (x5 : (⟨S4x64, .f32⟩ : BufTy).Contents (Elt Ideal)) (x6 : (⟨S128, .f32⟩ : BufTy).Contents (Elt Ideal))
variable (b : Fin 4) (n : Fin 8192) (h : Fin 4) (q : Fin 128 → ℝ) (k : Fin 8448 → Fin 128 → ℝ) (v : Fin 128 → Fin 8448 → ℝ) (lam : ℝ)
variable (hq : ∀ d : Fin 128, x0 (ix3 b n (⟨128 * h.val + d.val, by omega⟩ : Fin 512)) = (q d : EReal))
variable (hk : ∀ r (d : Fin 128), catA x3 x1 b r (⟨128 * h.val + d.val, by omega⟩ : Fin 512) = (k r d : EReal))
variable (hv : ∀ (e : Fin 128) r, catA x4 x2 b r (⟨128 * h.val + e.val, by omega⟩ : Fin 512) = (v e r : EReal))
variable (hl : lamE x5 = (lam : EReal))

include hq hk hl in
theorem v41_at (r : Fin 8448) : val_main_v41 (F := Ideal) x0 x1 x3 x5 (ix4 b h n r)
    = ((wt q (k r) 0 / (∑ r, wt q (k r) 0) - lam * (wt q (k r) 1 / (∑ r, wt q (k r) 1)) : ℝ) : EReal) := by
  rw [val_main_v41_apply, val_main_v40_apply, val_main_v39_apply, lam_at, hl, v36_at x0 x1 x3 b n h q k hq hk, v38_at x0 x1 x3 b n h q k hq hk,
    EReal.coe_sub, EReal.coe_mul]
  rfl

include hq hk hv hl in
theorem v43_at (e : Fin 128) : val_main_v43 (F := Ideal) x0 x1 x2 x3 x4 x5 (ix4 b n h e) = (att lam q k (v e) : EReal) := by
  rw [val_main_v43_apply, val_main_v42_apply]
  unfold att
  rw [← coe_sum]
  refine Finset.sum_congr rfl fun r _ => ?_
  have e1 : lidx_main_v42 (idx_main_v43 (ix4 b n h e)) r = ix4 b r h e := funext fun a => by
    match a with | ⟨0, _⟩ => rfl | ⟨1, _⟩ => rfl | ⟨2, _⟩ => rfl | ⟨3, _⟩ => rfl
  have e2 : ridx_main_v42 (idx_main_v43 (ix4 b n h e)) r = ix4 b h n r := funext fun a => by
    match a with | ⟨0, _⟩ => rfl | ⟨1, _⟩ => rfl | ⟨2, _⟩ => rfl | ⟨3, _⟩ => rfl
  rw [e1, e2, v20_at, hv, v41_at x0 x1 x3 x5 b n h q k lam hq hk hl, EReal.coe_mul]

include hq hk hv hl in
theorem v58_at (e : Fin 128) : val_main_v58 (F := Ideal) x0 x1 x2 x3 x4 x5 x6 (ix4 b n h e)
    = nrm (fun e => (att lam q k (v e) : EReal)) (x6 (ix1 e)) e := by
  have h43 := v43_at x0 x1 x2 x3 x4 x5 b n h q k v lam hq hk hv hl
  rw [val_main_v58_apply, val_main_v57_apply, val_main_cst_9_apply, val_main_v56_apply, val_main_v55_apply, val_main_v54_apply, val_main_v53_apply,
    val_main_v52_apply, val_main_v51_apply, val_main_v50_apply, val_main_v49_apply, val_main_cst_8_apply, val_main_v48_apply,
    val_main_v47_apply, val_main_cst_7_apply, val_main_v46_apply, val_main_v45_apply, val_main_cst_6_apply, h43]
  have es : ∑ x, val_main_v44 (F := Ideal) x0 x1 x2 x3 x4 x5 (idx_main_v45 (idx_main_v46 (idx_main_v52 (ix4 b n h e))) x)
      = ∑ x, (att lam q k (v x) : EReal) * (att lam q k (v x) : EReal) := Finset.sum_congr rfl fun x _ => by
    have e1 : idx_main_v45 (idx_main_v46 (idx_main_v52 (ix4 b n h e))) x = ix4 b n h x := funext fun a => by
      match a with | ⟨0, _⟩ => rfl | ⟨1, _⟩ => rfl | ⟨2, _⟩ => rfl | ⟨3, _⟩ => rfl
    rw [e1, val_main_v44_apply, h43]
    rfl
  have e6 : idx_main_v54 (idx_main_v55 (ix4 b n h e)) = ix1 e := funext fun a => by
    match a with | ⟨0, _⟩ => rfl
  rw [es, e6]
  unfold nrm
  show _ * Ideal.rsqrt (Ideal.div (Ideal.ofBits FTy.f32 0x00000000#32 + _) _ + _) * _ * _ = _
  rw [Ideal.ofBits_zero_f32, zero_add]
  rfl

include hq hk hv hl in
/-- The reference's result at an index. -/
theorem v60_at (e : Fin 128) : val_main_v60 (F := Ideal) x0 x1 x2 x3 x4 x5 x6 (ix3 b n (⟨128 * h.val + e.val, by omega⟩ : Fin 512))
    = nrm (fun e => (att lam q k (v e) : EReal)) (x6 (ix1 e)) e := by
  rw [val_main_v60_apply, val_main_v59_apply]
  have hb := b.isLt; have hn := n.isLt; have hh := h.isLt; have he := e.isLt
  have e1 : idx_main_v59 (ix3 b n (⟨128 * h.val + e.val, by omega⟩ : Fin 512)) = ix4 b n h e := funext fun a => Fin.ext (by
    match a with
    | ⟨0, _⟩ => show ((b.val * 8192 + n.val) * 512 + (128 * h.val + e.val)) / 4194304 = b.val; omega
    | ⟨1, _⟩ => show ((b.val * 8192 + n.val) * 512 + (128 * h.val + e.val)) / 512 % 8192 = n.val; omega
    | ⟨2, _⟩ => show ((b.val * 8192 + n.val) * 512 + (128 * h.val + e.val)) / 128 % 4 = h.val; omega
    | ⟨3, _⟩ => show ((b.val * 8192 + n.val) * 512 + (128 * h.val + e.val)) % 128 = e.val; omega)
  rw [e1, v58_at x0 x1 x2 x3 x4 x5 x6 b n h q k v lam hq hk hv hl]
  rfl

end Result

end Cert.ReferenceIdeal.Att
-- ==== Proof.Join.lean ====
/-
  A finished block's elements are the reference's, when every query, key, value and parameter of lambda is a number.
-/
module

public import proofs.«01_k».proof.Proof.Arr
public import proofs.«01_k».proof.Proof.Ref
public import proofs.«01_k».proof.Pre_finite

@[expose] public section

set_option maxRecDepth 16384

noncomputable section

namespace Cert.KernelIdeal.Att

open Cert.KernelIdeal Cert.KernelIdeal.Gen Cert.Att
open Idealize.ShloMosaic
open Idealize.ShloMosaic.TcCoe
open Idealize.ShloMosaic.Pointwise
open Idealize.ShloMosaic.Pipeline (Window)

/-! ## The precondition -/

/-- Every entry is a number. -/
def Fin' {s : Shape} (x : s.Idx → EReal) : Prop := ∀ i, ∃ r : ℝ, x i = r

theorem real_of_lt (a : EReal) (h' : max a (-a) < ⊤) : ∃ r : ℝ, a = r := by
  induction a using EReal.rec with
  | bot => simp at h'
  | top => simp at h'
  | coe r => exact ⟨r, rfl⟩

theorem real_of_bit (a : Ideal .f32) (h : BitVec.ofBool (decide ((FloatOps.absf a : Ideal .f32) < Ideal.ofBits FTy.f32 2139095040#32)) = 1#1) :
    ∃ r : ℝ, (a : EReal) = r := by
  have e : Ideal.ofBits FTy.f32 2139095040#32 = ⊤ := by simp [Ideal.ofBits, Ideal.ieee]
  refine real_of_lt a ?_
  rw [e] at h
  by_contra hn
  rw [decide_eq_false (show ¬ ((FloatOps.absf a : Ideal .f32) < ⊤) from hn)] at h
  exact absurd h (by decide)

theorem pre_real [Cert.Pre_finite.Facts] (x0 x1 x2 : FVec Ideal S4x8192x512 .f32) (x3 x4 : FVec Ideal S4x256x512 .f32) (x5 : FVec Ideal S4x64 .f32)
    (x6 : FVec Ideal S128 .f32)
    (h0 : (Cert.Pre_finite.fn (F := Ideal) x0 x1 x2 x3 x4 x5 x6).1 = fun _ => 1#1)
    (h1 : (Cert.Pre_finite.fn (F := Ideal) x0 x1 x2 x3 x4 x5 x6).2.1 = fun _ => 1#1)
    (h2 : (Cert.Pre_finite.fn (F := Ideal) x0 x1 x2 x3 x4 x5 x6).2.2.1 = fun _ => 1#1)
    (h3 : (Cert.Pre_finite.fn (F := Ideal) x0 x1 x2 x3 x4 x5 x6).2.2.2.1 = fun _ => 1#1)
    (h4 : (Cert.Pre_finite.fn (F := Ideal) x0 x1 x2 x3 x4 x5 x6).2.2.2.2.1 = fun _ => 1#1)
    (h5 : (Cert.Pre_finite.fn (F := Ideal) x0 x1 x2 x3 x4 x5 x6).2.2.2.2.2 = fun _ => 1#1) :
    Fin' (s := S4x8192x512) x0 ∧ Fin' (s := S4x8192x512) x1 ∧ Fin' (s := S4x8192x512) x2 ∧ Fin' (s := S4x256x512) x3 ∧ Fin' (s := S4x256x512) x4
      ∧ Fin' (s := S4x64) x5 := by
  refine ⟨fun i => ?_, fun i => ?_, fun i => ?_, fun i => ?_, fun i => ?_, fun i => ?_⟩
  · have h := congrFun h0 i
    pointwise [Cert.Pre_finite.fn] at h
    exact real_of_bit _ h
  · have h := congrFun h1 i
    pointwise [Cert.Pre_finite.fn] at h
    exact real_of_bit _ h
  · have h := congrFun h2 i
    pointwise [Cert.Pre_finite.fn] at h
    exact real_of_bit _ h
  · have h := congrFun h3 i
    pointwise [Cert.Pre_finite.fn] at h
    exact real_of_bit _ h
  · have h := congrFun h4 i
    pointwise [Cert.Pre_finite.fn] at h
    exact real_of_bit _ h
  · have h := congrFun h5 i
    pointwise [Cert.Pre_finite.fn] at h
    exact real_of_bit _ h

theorem pre_facts : Cert.Pre_finite.Facts := ⟨by decide, by decide, by decide⟩

theorem cat_real (xc : (⟨3, ![4, 256, 512]⟩ : Shape).Idx → EReal) (x : (⟨3, ![4, 8192, 512]⟩ : Shape).Idx → EReal) (hc : Fin' xc) (hx : Fin' x)
    (b : Fin 4) (r : Fin 8448) (d : Fin 512) : ∃ v : ℝ, catA xc x b r d = v := by
  unfold catA
  split
  · exact hc _
  · exact hx _

variable (m : (ℓ : Loc nD τ sig) → Buf (Elt Ideal) ℓ) (c : Dev nD)

/-- The reference's result of the kernel's arguments. -/
abbrev refOut : S4x8192x512.Idx → EReal :=
  Cert.ReferenceIdeal.Read.val_main_v60 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- The arguments the two softmax maps and the values are made of are numbers. -/
structure Real' : Prop where
  h0 : Fin' (s := S4x8192x512) (m ((c.tc : Thread nD τ).loc main_arg0))
  h1 : Fin' (s := S4x8192x512) (m ((c.tc : Thread nD τ).loc main_arg1))
  h2 : Fin' (s := S4x8192x512) (m ((c.tc : Thread nD τ).loc main_arg2))
  h3 : Fin' (s := S4x256x512) (m ((c.tc : Thread nD τ).loc main_arg3))
  h4 : Fin' (s := S4x256x512) (m ((c.tc : Thread nD τ).loc main_arg4))
  h5 : Fin' (s := S4x64) (m ((c.tc : Thread nD τ).loc main_arg5))

theorem tile_real (hr : Real' m c) (t : Fin cfg0.N) (τ' : Fin 64) (M : Vec Ideal S1x8x256 .f32) (hM : IsMax (Sc m c t τ') M) (x e : Fin 128) :
    tileOut m c t τ' M (ix3 0 x e)
      = refOut m c (ix3 (bT t) (⟨128 * τ'.val + x.val, by omega⟩ : Fin 8192) (⟨128 * (hT t).val + e.val, by omega⟩ : Fin 512)) := by
  choose Q hQ using hr.h0
  choose K hK using cat_real _ _ hr.h3 hr.h1
  choose W hW using cat_real _ _ hr.h4 hr.h2
  obtain ⟨lam, hlam⟩ := Cert.ReferenceIdeal.Att.lam_real _ hr.h5
  rw [refOut, Cert.ReferenceIdeal.Att.v60_at _ _ _ _ _ _ _ (bT t) ⟨128 * τ'.val + x.val, by omega⟩ (hT t)
    (fun d => Q (ix3 (bT t) (⟨128 * τ'.val + x.val, by omega⟩ : Fin 8192) (⟨128 * (hT t).val + d.val, by omega⟩ : Fin 512)))
    (fun r d => K (bT t) r ⟨128 * (hT t).val + d.val, by omega⟩) (fun e r => W (bT t) r ⟨128 * (hT t).val + e.val, by omega⟩) lam
    (fun d => hQ _) (fun r d => hK _ _ _) (fun e r => hW _ _ _) hlam e]
  unfold tileOut
  refine (out_real _ M (cut (qB m c t) (rcT τ')) (fun k => cut (kB m c t) (rcK k)) _ _ lam
    (fun x d => Q (ix3 (bT t) (⟨128 * τ'.val + x.val, by omega⟩ : Fin 8192) (⟨128 * (hT t).val + d.val, by omega⟩ : Fin 512)))
    (fun r d => K (bT t) r ⟨128 * (hT t).val + d.val, by omega⟩) (fun e r => W (bT t) r ⟨128 * (hT t).val + e.val, by omega⟩) x e ?_ ?_ ?_ ?_ hM).trans ?_
  · rw [lam_apply, ← hlam]
    unfold Cert.ReferenceIdeal.Att.lamE
    have e1 : ∀ (i : Fin 4) (d : Fin 64), cut (lamB m c t) (Rect.unit (s := S4x64) ![0, 0] S4x64.size inb_S4x64_S4x64_0_0) (ix2 i d)
        = (m ((c.tc : Thread nD τ).loc main_arg5) : FVec Ideal S4x64 .f32) (ix2 i d) := fun i d => by
      rw [← lamB_apply m c t i d]
      show lamB m c t _ = lamB m c t _
      congr 1
      funext a; apply Fin.ext
      match a with
      | ⟨0, _⟩ => show 0 + 1 * i.val = i.val; omega
      | ⟨1, _⟩ => show 0 + 1 * d.val = d.val; omega
    simp only [e1]
  · intro x d
    rw [← hQ, ← qB_apply m c t]
    show qB m c t _ = qB m c t _
    congr 1
    funext a; apply Fin.ext
    match a with
    | ⟨0, _⟩ => rfl
    | ⟨1, _⟩ => show 128 * τ'.val + 1 * x.val = 128 * τ'.val + x.val; omega
    | ⟨2, _⟩ => show 0 + 1 * d.val = d.val; omega
  · intro k κ d
    rw [← hK]
    refine Eq.trans ?_ (V_v6_apply m c _ _ _)
    rw [← kB_apply m c t]
    show kB m c t _ = kB m c t _
    congr 1
    funext a; apply Fin.ext
    match a with
    | ⟨0, _⟩ => rfl
    | ⟨1, _⟩ => show 768 * k.val + 1 * κ.val = 768 * k.val + κ.val; omega
    | ⟨2, _⟩ => show 0 + 1 * d.val = d.val; omega
  · intro e k κ
    rw [← hW]
    refine Eq.trans ?_ (V_v5_apply m c _ _ _)
    rw [← vB_apply m c t]
    show vB m c t _ = vB m c t _
    congr 1
    funext a; apply Fin.ext
    match a with
    | ⟨0, _⟩ => rfl
    | ⟨1, _⟩ => show 0 + 1 * e.val = e.val; omega
    | ⟨2, _⟩ => show 768 * k.val + 1 * κ.val = 768 * k.val + κ.val; omega
  · congr 1
    rw [← V_v7_apply m c, ← gB_apply m c t]
    show gB m c t _ = gB m c t _
    congr 1
    funext a; apply Fin.ext
    match a with
    | ⟨0, _⟩ => show 0 + 1 * e.val = e.val; omega
    | ⟨1, _⟩ => rfl

/-- A finished block's elements are the reference's. -/
theorem block_real (hr : Real' m c) (t : Fin cfg0.N) (ht : (cfg0.win 5).flush t = true) (X : S1x8192x128.Idx → Elt Ideal .bf16) (hX : BlkOk m c t X)
    (y : S1x8192x128.Idx) : X y = refOut m c ((cfg0.win 5).blk t |>.view.emb y) := by
  have ht' : t.val % 33 = 32 := (Gen.flush0_5 t).1 ht
  have hy0 : (y 0).val < 1 := (y 0).isLt
  have hy1 : (y 1).val < 8192 := (y 1).isLt
  have hy2 : (y 2).val < 128 := (y 2).isLt
  let τ' : Fin 64 := ⟨(y 1).val / 128, by omega⟩
  let x : Fin 128 := ⟨(y 1).val % 128, by omega⟩
  let e : Fin 128 := ⟨(y 2).val, hy2⟩
  obtain ⟨M, hM, hv⟩ := hX τ' (by show (y 1).val / 128 ≤ _; omega)
  rw [hv (ix3 0 x e) y (fun a => by
    match a with
    | ⟨0, _⟩ => show (y 0).val = 0 + 0; omega
    | ⟨1, _⟩ => show (y 1).val = 128 * ((y 1).val / 128) + (y 1).val % 128; omega
    | ⟨2, _⟩ => show (y 2).val = 0 + (y 2).val; omega), tile_real m c hr t τ' M hM x e]
  congr 1
  obtain ⟨i0, i1, i2⟩ := index5 t
  funext a
  apply Fin.ext
  refine Eq.trans ?_ ((cfg0.win 5).rect_emb_val t y a).symm
  match a with
  | ⟨0, _⟩ => show t.val / 132 = (cfg0.win 5).index t 0 * 1 + (y 0).val; rw [i0]; omega
  | ⟨1, _⟩ => show 128 * ((y 1).val / 128) + (y 1).val % 128 = (cfg0.win 5).index t 1 * 8192 + (y 1).val; rw [i1]; omega
  | ⟨2, _⟩ => show 128 * (t.val / 33 % 4) + (y 2).val = (cfg0.win 5).index t 2 * 128 + (y 2).val; rw [i2]; omega

/-- What the kernel leaves: the reference's result, and its arguments unchanged. -/
theorem run_ref (ρ : Dev nD → PrngReg) (hr : ∀ c, Real' m c) :
    θ_run defs (onTc (τ := τ) (main (F := Ideal))) (s₀ m ρ) fun r =>
    (∀ c : Dev nD, (∀ i, r.2.mem ((c.tc : Thread nD τ).loc main_v8) i = refOut m c i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  run_value m ρ (fun c i v => v = refOut m c i) fun c t ht X hX y => block_real m c (hr c) t ht X hX y

end Cert.KernelIdeal.Att
-- ==== Proof.Ffn.lean ====
/-
  One row of the feed-forward part of a layer, over the extended reals: the normalized and modulated row, its gated
  hidden units, the gated residual, and the last normalization.
-/
module

public import Idealize.ShloMosaic.PureOps.Ideal.Laws
public import Idealize.ShloMosaic.Lib.ValueIdx

@[expose] public section

noncomputable section

namespace Cert.Ffn

open Idealize.ShloMosaic

/-- A row over its root mean square, times a weight. -/
def rms (x g : Fin 1024 → EReal) (d : Fin 1024) : EReal :=
  x d * Ideal.rsqrt (Ideal.div (∑ k, x k * x k) (Ideal.ofBits FTy.f32 0x44800000#32) + Ideal.ofBits FTy.f32 0x358637BD#32) * g d

/-- The normalized row, scaled and shifted. -/
def modu (x g sh sc : Fin 1024 → EReal) (d : Fin 1024) : EReal :=
  rms x g d * (Ideal.ofBits FTy.f32 0x3F800000#32 + sc d) + sh d

/-- A row against a column of the first weights. -/
def dotw (a : Fin 1024 → EReal) (wi : Fin 1024 → Fin 5632 → EReal) (j : Fin 5632) : EReal := ∑ k, a k * wi k j

/-- A hidden unit: the gate half through its logistic, times the other half. -/
def hid (a : Fin 1024 → EReal) (wi : Fin 1024 → Fin 5632 → EReal) (j : Fin 2816) : EReal :=
  dotw a wi ⟨j.val, by omega⟩ * Ideal.logistic (dotw a wi ⟨j.val, by omega⟩) * dotw a wi ⟨2816 + j.val, by omega⟩

/-- The residual stream after the hidden units. -/
def res (x gate a : Fin 1024 → EReal) (wi : Fin 1024 → Fin 5632 → EReal) (wo : Fin 2816 → Fin 1024 → EReal) (d : Fin 1024) : EReal :=
  x d + gate d * ∑ j, hid a wi j * wo j d

/-- The whole row. -/
def row (x g sh sc gate : Fin 1024 → EReal) (wi : Fin 1024 → Fin 5632 → EReal) (wo : Fin 2816 → Fin 1024 → EReal) (fg : Fin 1024 → EReal) :
    Fin 1024 → EReal :=
  rms (res x gate (modu x g sh sc) wi wo) fg

/-- The hidden units in two halves. -/
theorem sum_split (f : Fin 2816 → EReal) :
    ∑ j, f j = (∑ j : Fin 1408, f ⟨j.val, by omega⟩) + ∑ j : Fin 1408, f ⟨1408 + j.val, by omega⟩ :=
  Fin.sum_univ_add (a := 1408) (b := 1408) f

/-- A hidden unit of the second half. -/
theorem hid_hi (a : Fin 1024 → EReal) (wi : Fin 1024 → Fin 5632 → EReal) (j : Fin 1408) :
    hid a wi ⟨1408 + j.val, by omega⟩
      = dotw a wi ⟨1408 + j.val, by omega⟩ * Ideal.logistic (dotw a wi ⟨1408 + j.val, by omega⟩) * dotw a wi ⟨4224 + j.val, by omega⟩ := by
  have e : (⟨2816 + (1408 + j.val), by omega⟩ : Fin 5632) = ⟨4224 + j.val, by omega⟩ := Fin.ext (by show 2816 + (1408 + j.val) = 4224 + j.val; omega)
  show _ * dotw a wi ⟨2816 + (1408 + j.val), _⟩ = _
  rw [e]

theorem one_bits : Ideal.ofBits FTy.f32 0x3F800000#32 = 1 := by
  simp [Ideal.ofBits, Ideal.ieee]
  try norm_cast
  try norm_num

end Cert.Ffn
end
-- ==== Proof.FfnRef.lean ====
/-
  The reference's result at an index is the row.
-/
module

public import proofs.«01_k».proof.Proof.Gen.Reference2Ideal.Read
public import proofs.«01_k».proof.Proof.Ffn
public import Idealize.ShloMosaic.Lib.Pointwise

@[expose] public section

set_option maxRecDepth 16384

noncomputable section

namespace Cert.Reference2Ideal.Ffn

open Cert.Reference2Ideal Cert.Reference2Ideal.Facts Cert.Reference2Ideal.Read Cert.Ffn
open Idealize.ShloMosaic
open Idealize.ShloMosaic.TcCoe
open Idealize.ShloMosaic.Pointwise

variable (x0 : (⟨S4x8192x1024, .f32⟩ : BufTy).Contents (Elt Ideal)) (x1 : (⟨S4x1x6144, .f32⟩ : BufTy).Contents (Elt Ideal))
variable (x2 : (⟨S1024, .f32⟩ : BufTy).Contents (Elt Ideal)) (x3 : (⟨S1024x5632, .f32⟩ : BufTy).Contents (Elt Ideal))
variable (x4 : (⟨S2816x1024, .f32⟩ : BufTy).Contents (Elt Ideal)) (x5 : (⟨S1024, .f32⟩ : BufTy).Contents (Elt Ideal))
variable (b : Fin 4) (n : Fin 8192) (d : Fin 1024)

/-- The normalized, modulated row. -/
abbrev aR : Fin 1024 → EReal :=
  modu (fun d => x0 (ix3 b n d)) (fun d => x2 (ix1 d)) (fun d => x1 (ix3 b 0 (⟨3072 + d.val, by omega⟩ : Fin 6144)))
    (fun d => x1 (ix3 b 0 (⟨4096 + d.val, by omega⟩ : Fin 6144)))

theorem v24_at : val_main_v24 (F := Ideal) x0 x1 x2 (ix3 b n d) = aR x0 x1 x2 b n d := by
  unfold val_main_v24 val_main_v22 val_main_v23 val_main_v18 val_main_v21 val_main_v15 val_main_v17 val_main_v16 val_main_v14 val_main_v13
    val_main_v12 val_main_v10 val_main_v11 val_main_v8 val_main_v9 val_main_v7 val_main_v6 val_main_v20 val_main_v19 val_main_v3 val_main_v4
    val_main_cst val_main_cst_0 val_main_cst_1 val_main_cst_2 aR modu rms
  pointwise
  try rfl

theorem v25_at (j : Fin 5632) : val_main_v25 (F := Ideal) x0 x1 x2 x3 (ix3 b n j) = dotw (aR x0 x1 x2 b n) (fun k j => x3 (ix2 k j)) j := by
  have h := fun d => v24_at x0 x1 x2 b n d
  unfold val_main_v25 dotw
  generalize val_main_v24 (F := Ideal) x0 x1 x2 = y at h
  pointwise
  simp only [h]
  try rfl

theorem v29_at (j : Fin 2816) : val_main_v29 (F := Ideal) x0 x1 x2 x3 (ix3 b n j) = hid (aR x0 x1 x2 b n) (fun k j => x3 (ix2 k j)) j := by
  have h := fun d => v25_at x0 x1 x2 x3 b n d
  unfold val_main_v29 val_main_v28 val_main_v27 val_main_call0_v5 val_main_call0_v4 val_main_call0_v3 val_main_call0_v2 val_main_call0_v1
    val_main_call0_v0 val_main_call0_cst val_main_call0_cst_0 val_main_v26 hid
  generalize val_main_v25 (F := Ideal) x0 x1 x2 x3 = y at h
  pointwise
  simp only [h, Ideal.logistic, one_bits]
  try rfl

theorem v33_at : val_main_v33 (F := Ideal) x0 x1 x2 x3 x4 (ix3 b n d)
    = res (fun d => x0 (ix3 b n d)) (fun d => x1 (ix3 b 0 (⟨5120 + d.val, by omega⟩ : Fin 6144))) (aR x0 x1 x2 b n) (fun k j => x3 (ix2 k j))
        (fun j d => x4 (ix2 j d)) d := by
  have h := fun d => v29_at x0 x1 x2 x3 b n d
  unfold val_main_v33 val_main_v32 val_main_v31 val_main_v30 val_main_v5 res
  generalize val_main_v29 (F := Ideal) x0 x1 x2 x3 = y at h
  pointwise
  simp only [h]
  try rfl

/-- The reference's result. -/
theorem v46_at : val_main_v46 (F := Ideal) x0 x1 x2 x3 x4 x5 (ix3 b n d)
    = row (fun d => x0 (ix3 b n d)) (fun d => x2 (ix1 d)) (fun d => x1 (ix3 b 0 (⟨3072 + d.val, by omega⟩ : Fin 6144)))
        (fun d => x1 (ix3 b 0 (⟨4096 + d.val, by omega⟩ : Fin 6144))) (fun d => x1 (ix3 b 0 (⟨5120 + d.val, by omega⟩ : Fin 6144)))
        (fun k j => x3 (ix2 k j)) (fun j d => x4 (ix2 j d)) (fun d => x5 (ix1 d)) d := by
  have h := fun d => v33_at x0 x1 x2 x3 x4 b n d
  unfold val_main_v46 val_main_v43 val_main_v45 val_main_v44 val_main_v42 val_main_v41 val_main_v40 val_main_v38 val_main_v39 val_main_v36
    val_main_v37 val_main_v35 val_main_v34 val_main_cst_3 val_main_cst_4 val_main_cst_5 row rms
  generalize val_main_v33 (F := Ideal) x0 x1 x2 x3 x4 = y at h
  pointwise
  simp only [h]
  try rfl

end Cert.Reference2Ideal.Ffn
end
-- ==== Proof.FfnJoin.lean ====
/-
  A block the feed-forward kernel leaves is the reference's result there, and so the whole array is.
-/
module

public import proofs.«01_k».proof.Proof.Gen.Kernel2Ideal.Value
public import proofs.«01_k».proof.Proof.FfnRef

@[expose] public section

set_option maxRecDepth 16384

noncomputable section

namespace Cert.Kernel2Ideal.Ffn

open Cert.Kernel2Ideal Cert.Kernel2Ideal.Gen Cert.Ffn
open Idealize.ShloMosaic
open Idealize.ShloMosaic.TcCoe
open Idealize.ShloMosaic.Pointwise
open Idealize.ShloMosaic.Pipeline (Window)

/-! ## The body's values at an index -/

section Body

variable (v0 : Vec Ideal S1x512x1024 .f32) (v2 : Vec Ideal S1x1024 .f32) (v4 v6 : Vec Ideal S1x1x1024 .f32) (r : Fin 512)

abbrev aK : Fin 1024 → EReal :=
  modu (fun d => v0 (ix3 0 r d)) (fun d => v2 (ix2 0 d)) (fun d => v4 (ix3 0 0 d)) (fun d => v6 (ix3 0 0 d))

theorem pay3_at (d : Fin 1024) : k0_pay3 v0 v2 v4 v6 (ix2 r d) = aK v0 v2 v4 v6 r d := by
  unfold aK modu rms
  rw [one_bits]
  pointwise [k0_pay3, k0_pay2]

theorem pay5_at (w : Vec Ideal S1024x1408 .bf16) (j : Fin 1408) :
    k0_pay5 v0 v2 v4 v6 w (ix2 r j) = ∑ k, aK v0 v2 v4 v6 r k * w (ix2 k j) := by
  have h := fun d => pay3_at v0 v2 v4 v6 r d
  unfold k0_pay5
  generalize k0_pay3 v0 v2 v4 v6 = a at h
  pointwise
  simp only [h]

theorem pay6_at (w : Vec Ideal S1024x1408 .bf16) (j : Fin 1408) :
    k0_pay6 v0 v2 v4 v6 w (ix2 r j)
      = (∑ k, aK v0 v2 v4 v6 r k * w (ix2 k j)) * Ideal.logistic (∑ k, aK v0 v2 v4 v6 r k * w (ix2 k j)) := by
  have h := fun d => pay3_at v0 v2 v4 v6 r d
  unfold k0_pay6
  generalize k0_pay3 v0 v2 v4 v6 = a at h
  pointwise
  simp only [h]

/-- The block's elements, when the parts of the weights the body reads are columns and rows of whole weights. -/
theorem body_at (w0 w1 w2 w3 : Vec Ideal S1024x1408 .bf16) (u0 u1 : Vec Ideal S1408x1024 .bf16) (v56 : Vec Ideal S1x1x1024 .f32)
    (v71 : Vec Ideal S1x1024 .f32) (wi : Fin 1024 → Fin 5632 → EReal) (wo : Fin 2816 → Fin 1024 → EReal)
    (h0 : ∀ k (j : Fin 1408), w0 (ix2 k j) = wi k ⟨j.val, by omega⟩)
    (h1 : ∀ k (j : Fin 1408), w1 (ix2 k j) = wi k ⟨2816 + j.val, by omega⟩)
    (h2 : ∀ k (j : Fin 1408), w2 (ix2 k j) = wi k ⟨1408 + j.val, by omega⟩)
    (h3 : ∀ k (j : Fin 1408), w3 (ix2 k j) = wi k ⟨4224 + j.val, by omega⟩)
    (g0 : ∀ (j : Fin 1408) d, u0 (ix2 j d) = wo ⟨j.val, by omega⟩ d)
    (g1 : ∀ (j : Fin 1408) d, u1 (ix2 j d) = wo ⟨1408 + j.val, by omega⟩ d) (d : Fin 1024) :
    k0_pay1 (k0_pay7 (k0_pay2 v0) (k0_pay3 v0 v2 v4 v6) (k0_pay4 (F := Ideal)) (k0_pay5 v0 v2 v4 v6 w1) (k0_pay6 v0 v2 v4 v6 w0) u0 w2 w3 u1 v56 v71)
        (ix3 0 r d)
      = row (fun d => v0 (ix3 0 r d)) (fun d => v2 (ix2 0 d)) (fun d => v4 (ix3 0 0 d)) (fun d => v6 (ix3 0 0 d)) (fun d => v56 (ix3 0 0 d)) wi wo
          (fun d => v71 (ix2 0 d)) d := by
  have e3 := fun d => pay3_at v0 v2 v4 v6 r d
  have e5 := fun j => pay5_at v0 v2 v4 v6 r w1 j
  have e6 := fun j => pay6_at v0 v2 v4 v6 r w0 j
  have e2 : ∀ d, k0_pay2 v0 (ix2 r d) = v0 (ix3 0 r d) := fun d => by pointwise [k0_pay2]
  have e4 : ∀ d, k0_pay4 (F := Ideal) (ix2 r d) = 0 := fun d => by
    pointwise [k0_pay4]
    try exact Ideal.ofBits_zero_f32
  generalize k0_pay3 v0 v2 v4 v6 = a at e3
  generalize k0_pay5 v0 v2 v4 v6 w1 = p5 at e5
  generalize k0_pay6 v0 v2 v4 v6 w0 = p6 at e6
  generalize k0_pay2 v0 = p2 at e2
  generalize k0_pay4 (F := Ideal) = p4 at e4
  have hy : ∀ d, res (fun d => v0 (ix3 0 r d)) (fun d => v56 (ix3 0 0 d)) (aK v0 v2 v4 v6 r) wi wo d
      = v0 (ix3 0 r d) + v56 (ix3 0 0 d) * (0 + ∑ j, p6 (ix2 r j) * p5 (ix2 r j) * u0 (ix2 j d)
          + ∑ j, (∑ k, a (ix2 r k) * w2 (ix2 k j)) * Ideal.logistic (∑ k, a (ix2 r k) * w2 (ix2 k j)) * (∑ k, a (ix2 r k) * w3 (ix2 k j))
              * u1 (ix2 j d)) := fun d => by
    have f0 : ∀ j : Fin 1408, hid (aK v0 v2 v4 v6 r) wi ⟨j.val, by omega⟩ = p6 (ix2 r j) * p5 (ix2 r j) := fun j => by
      rw [e5, e6]
      simp only [h0, h1]
      rfl
    have f1 : ∀ j : Fin 1408, hid (aK v0 v2 v4 v6 r) wi ⟨1408 + j.val, by omega⟩
        = (∑ k, a (ix2 r k) * w2 (ix2 k j)) * Ideal.logistic (∑ k, a (ix2 r k) * w2 (ix2 k j)) * (∑ k, a (ix2 r k) * w3 (ix2 k j)) := fun j => by
      rw [hid_hi]
      simp only [e3, h2, h3]
      rfl
    unfold res
    rw [sum_split, zero_add]
    simp only [f0, f1, g0, g1]
  unfold row rms
  simp only [hy]
  pointwise [k0_pay1, k0_pay7]
  simp only [e2, e4, zero_add]

end Body

/-! ## The arrays and their blocks -/

variable (m : (ℓ : Loc nD τ sig) → Buf (Elt Ideal) ℓ) (c : Dev nD)

theorem V_v0 : Gen.V m c main_v0 = shapeCast S1x1024 (m ((c.tc : Thread nD τ).loc main_arg2) : FVec Ideal S1024 .f32) shapeCasts_S1024_S1x1024 := by
  rfl

theorem V_v3 : Gen.V m c main_v3 = shapeCast S1x1024 (m ((c.tc : Thread nD τ).loc main_arg5) : FVec Ideal S1024 .f32) shapeCasts_S1024_S1x1024 := by
  rfl

theorem V_v1 : Gen.V m c main_v1 = (m ((c.tc : Thread nD τ).loc main_arg3) : FVec Ideal S1024x5632 .f32) := by
  rfl

theorem V_v2 : Gen.V m c main_v2 = (m ((c.tc : Thread nD τ).loc main_arg4) : FVec Ideal S2816x1024 .f32) := by
  rfl

/-- A point's batch. -/
def bT (t : Fin cfg0.N) : Fin 4 := ⟨t.val / 16, by have : t.val < 64 := t.isLt; omega⟩

/-- A block's row in the sequence. -/
def nT (t : Fin cfg0.N) (r : Fin 512) : Fin 8192 := ⟨512 * (t.val % 16) + r.val, by omega⟩

theorem index0 : ∀ t : Fin grid0.N, (cfg0.win 0).index t 0 = t.val / 16 ∧ (cfg0.win 0).index t 1 = t.val % 16 ∧ (cfg0.win 0).index t 2 = 0 := by decide +kernel
theorem index1 : ∀ t : Fin grid0.N, (cfg0.win 1).index t 0 = t.val / 16 ∧ (cfg0.win 1).index t 1 = 0 ∧ (cfg0.win 1).index t 2 = 3 := by decide +kernel
theorem index2 : ∀ t : Fin grid0.N, (cfg0.win 2).index t 0 = t.val / 16 ∧ (cfg0.win 2).index t 1 = 0 ∧ (cfg0.win 2).index t 2 = 4 := by decide +kernel
theorem index3 : ∀ t : Fin grid0.N, (cfg0.win 3).index t 0 = t.val / 16 ∧ (cfg0.win 3).index t 1 = 0 ∧ (cfg0.win 3).index t 2 = 5 := by decide +kernel
theorem index4 : ∀ t : Fin grid0.N, (cfg0.win 4).index t 0 = 0 ∧ (cfg0.win 4).index t 1 = 0 := by decide +kernel
theorem index5 : ∀ t : Fin grid0.N, (cfg0.win 5).index t 0 = 0 ∧ (cfg0.win 5).index t 1 = 0 := by decide +kernel
theorem index6 : ∀ t : Fin grid0.N, (cfg0.win 6).index t 0 = 0 ∧ (cfg0.win 6).index t 1 = 0 := by decide +kernel
theorem index7 : ∀ t : Fin grid0.N, (cfg0.win 7).index t 0 = 0 ∧ (cfg0.win 7).index t 1 = 0 := by decide +kernel
theorem index8 : ∀ t : Fin grid0.N, (cfg0.win 8).index t 0 = t.val / 16 ∧ (cfg0.win 8).index t 1 = t.val % 16 ∧ (cfg0.win 8).index t 2 = 0 := by decide +kernel
theorem flush8 : ∀ t : Fin grid0.N, (cfg0.win 8).flush t = true := by decide +kernel

variable (t : Fin cfg0.N)

theorem h_at (r : Fin 512) (d : Fin 1024) :
    (iblk m c 0 t : S1x512x1024.Idx → EReal) (ix3 0 r d) = (m ((c.tc : Thread nD τ).loc main_arg0) : FVec Ideal S4x8192x1024 .f32) (ix3 (bT t) (nT t r) d) := by
  rw [← Gen.V_main_arg0 m c]
  show Gen.V m c main_arg0 (((cfg0.win 0).rect t).emb (ix3 0 r d)) = _
  congr 1
  obtain ⟨h0, h1, h2⟩ := index0 t
  funext a
  apply Fin.ext
  refine ((cfg0.win 0).rect_emb_val t (ix3 0 r d) a).trans ?_
  match a with
  | ⟨0, _⟩ => show (cfg0.win 0).index t 0 * 1 + 0 = t.val / 16; rw [h0]; omega
  | ⟨1, _⟩ => show (cfg0.win 0).index t 1 * 512 + r.val = 512 * (t.val % 16) + r.val; rw [h1]; omega
  | ⟨2, _⟩ => show (cfg0.win 0).index t 2 * 1024 + d.val = d.val; rw [h2]; omega

theorem sh_at (d : Fin 1024) :
    (iblk m c 1 t : S1x1x1024.Idx → EReal) (ix3 0 0 d)
      = (m ((c.tc : Thread nD τ).loc main_arg1) : FVec Ideal S4x1x6144 .f32) (ix3 (bT t) 0 (⟨3072 + d.val, by omega⟩ : Fin 6144)) := by
  rw [← Gen.V_main_arg1 m c]
  show Gen.V m c main_arg1 (((cfg0.win 1).rect t).emb (ix3 0 0 d)) = _
  congr 1
  obtain ⟨h0, h1, h2⟩ := index1 t
  funext a
  apply Fin.ext
  refine ((cfg0.win 1).rect_emb_val t (ix3 0 0 d) a).trans ?_
  match a with
  | ⟨0, _⟩ => show (cfg0.win 1).index t 0 * 1 + 0 = t.val / 16; rw [h0]; omega
  | ⟨1, _⟩ => show (cfg0.win 1).index t 1 * 1 + 0 = 0; rw [h1]
  | ⟨2, _⟩ => show (cfg0.win 1).index t 2 * 1024 + d.val = 3072 + d.val; rw [h2]

theorem sc_at (d : Fin 1024) :
    (iblk m c 2 t : S1x1x1024.Idx → EReal) (ix3 0 0 d)
      = (m ((c.tc : Thread nD τ).loc main_arg1) : FVec Ideal S4x1x6144 .f32) (ix3 (bT t) 0 (⟨4096 + d.val, by omega⟩ : Fin 6144)) := by
  rw [← Gen.V_main_arg1 m c]
  show Gen.V m c main_arg1 (((cfg0.win 2).rect t).emb (ix3 0 0 d)) = _
  congr 1
  obtain ⟨h0, h1, h2⟩ := index2 t
  funext a
  apply Fin.ext
  refine ((cfg0.win 2).rect_emb_val t (ix3 0 0 d) a).trans ?_
  match a with
  | ⟨0, _⟩ => show (cfg0.win 2).index t 0 * 1 + 0 = t.val / 16; rw [h0]; omega
  | ⟨1, _⟩ => show (cfg0.win 2).index t 1 * 1 + 0 = 0; rw [h1]
  | ⟨2, _⟩ => show (cfg0.win 2).index t 2 * 1024 + d.val = 4096 + d.val; rw [h2]

theorem gate_at (d : Fin 1024) :
    (iblk m c 3 t : S1x1x1024.Idx → EReal) (ix3 0 0 d)
      = (m ((c.tc : Thread nD τ).loc main_arg1) : FVec Ideal S4x1x6144 .f32) (ix3 (bT t) 0 (⟨5120 + d.val, by omega⟩ : Fin 6144)) := by
  rw [← Gen.V_main_arg1 m c]
  show Gen.V m c main_arg1 (((cfg0.win 3).rect t).emb (ix3 0 0 d)) = _
  congr 1
  obtain ⟨h0, h1, h2⟩ := index3 t
  funext a
  apply Fin.ext
  refine ((cfg0.win 3).rect_emb_val t (ix3 0 0 d) a).trans ?_
  match a with
  | ⟨0, _⟩ => show (cfg0.win 3).index t 0 * 1 + 0 = t.val / 16; rw [h0]; omega
  | ⟨1, _⟩ => show (cfg0.win 3).index t 1 * 1 + 0 = 0; rw [h1]
  | ⟨2, _⟩ => show (cfg0.win 3).index t 2 * 1024 + d.val = 5120 + d.val; rw [h2]

theorem ng_at (d : Fin 1024) :
    (iblk m c 4 t : S1x1024.Idx → EReal) (ix2 0 d) = (m ((c.tc : Thread nD τ).loc main_arg2) : FVec Ideal S1024 .f32) (ix1 d) := by
  have e : (Gen.V m c main_v0 : FVec Ideal S1x1024 .f32) (ix2 0 d) = (m ((c.tc : Thread nD τ).loc main_arg2) : FVec Ideal S1024 .f32) (ix1 d) := by
    rw [V_v0]
    pointwise
  rw [← e]
  show Gen.V m c main_v0 (((cfg0.win 4).rect t).emb (ix2 0 d)) = _
  congr 1
  obtain ⟨h0, h1⟩ := index4 t
  funext a
  apply Fin.ext
  refine ((cfg0.win 4).rect_emb_val t (ix2 0 d) a).trans ?_
  match a with
  | ⟨0, _⟩ => show (cfg0.win 4).index t 0 * 1 + 0 = 0; rw [h0]
  | ⟨1, _⟩ => show (cfg0.win 4).index t 1 * 1024 + d.val = d.val; rw [h1]; omega

theorem fg_at (d : Fin 1024) :
    (iblk m c 7 t : S1x1024.Idx → EReal) (ix2 0 d) = (m ((c.tc : Thread nD τ).loc main_arg5) : FVec Ideal S1024 .f32) (ix1 d) := by
  have e : (Gen.V m c main_v3 : FVec Ideal S1x1024 .f32) (ix2 0 d) = (m ((c.tc : Thread nD τ).loc main_arg5) : FVec Ideal S1024 .f32) (ix1 d) := by
    rw [V_v3]
    pointwise
  rw [← e]
  show Gen.V m c main_v3 (((cfg0.win 7).rect t).emb (ix2 0 d)) = _
  congr 1
  obtain ⟨h0, h1⟩ := index7 t
  funext a
  apply Fin.ext
  refine ((cfg0.win 7).rect_emb_val t (ix2 0 d) a).trans ?_
  match a with
  | ⟨0, _⟩ => show (cfg0.win 7).index t 0 * 1 + 0 = 0; rw [h0]
  | ⟨1, _⟩ => show (cfg0.win 7).index t 1 * 1024 + d.val = d.val; rw [h1]; omega

theorem wi_at (i : S1024x5632.Idx) :
    (iblk m c 5 t : S1024x5632.Idx → EReal) i = (m ((c.tc : Thread nD τ).loc main_arg3) : FVec Ideal S1024x5632 .f32) i := by
  show Gen.V m c main_v1 (((cfg0.win 5).rect t).emb i) = _
  rw [V_v1]
  congr 1
  obtain ⟨h0, h1⟩ := index5 t
  funext a
  apply Fin.ext
  refine ((cfg0.win 5).rect_emb_val t i a).trans ?_
  match a with
  | ⟨0, _⟩ => show (cfg0.win 5).index t 0 * 1024 + (i 0).val = (i 0).val; rw [h0]; omega
  | ⟨1, _⟩ => show (cfg0.win 5).index t 1 * 5632 + (i 1).val = (i 1).val; rw [h1]; omega

theorem wo_at (i : S2816x1024.Idx) :
    (iblk m c 6 t : S2816x1024.Idx → EReal) i = (m ((c.tc : Thread nD τ).loc main_arg4) : FVec Ideal S2816x1024 .f32) i := by
  show Gen.V m c main_v2 (((cfg0.win 6).rect t).emb i) = _
  rw [V_v2]
  congr 1
  obtain ⟨h0, h1⟩ := index6 t
  funext a
  apply Fin.ext
  refine ((cfg0.win 6).rect_emb_val t i a).trans ?_
  match a with
  | ⟨0, _⟩ => show (cfg0.win 6).index t 0 * 2816 + (i 0).val = (i 0).val; rw [h0]; omega
  | ⟨1, _⟩ => show (cfg0.win 6).index t 1 * 1024 + (i 1).val = (i 1).val; rw [h1]; omega

/-! ## Whole loads -/

theorem ld0 (x : Vec Ideal S1x512x1024 .f32) : View.ld x r0_0 = x := by
  funext y
  show x _ = x _
  congr 1
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem ld1 (x : Vec Ideal S1x1024 .f32) : View.ld x r0_1 = x := by
  funext y
  show x _ = x _
  congr 1
  funext a; apply Fin.ext
  match a with
  | ⟨0, _⟩ => show 0 + 1 * (y 0).val = (y 0).val; omega
  | ⟨1, _⟩ => show 0 + 1 * (y 1).val = (y 1).val; omega

theorem ld2 (x : Vec Ideal S1x1x1024 .f32) : View.ld x r0_2 = x := by
  funext y
  show x _ = x _
  congr 1
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem canon_at (p : Vec Ideal S1x512x1024 .f32) (y : S1x512x1024.Idx) : View.canon [⟨r0_0, p⟩] y = p y := by
  refine View.canon_apply_of_pieces p _ ?_ y (cover0_8 _ y)
  intro pc hpc
  rcases List.mem_cons.mp hpc with rfl | hpc
  · exact fun x => congrFun (ld0 p).symm x
  nomatch hpc

/-- The reference's result of the kernel's arguments. -/
abbrev refOut : S4x8192x1024.Idx → EReal :=
  Cert.Reference2Ideal.Read.val_main_v46 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

/-- What a point leaves in its block. -/
theorem out_at (r : Fin 512) (d : Fin 1024) :
    out0_8 (iblk m c 0 t) (iblk m c 1 t) (iblk m c 2 t) (iblk m c 3 t) (iblk m c 4 t) (iblk m c 5 t) (iblk m c 6 t) (iblk m c 7 t) (ix3 0 r d)
      = refOut m c (ix3 (bT t) (nT t r) d) := by
  rw [refOut, Cert.Reference2Ideal.Ffn.v46_at]
  unfold out0_8
  rw [canon_at, ld0, ld1, ld1, ld2, ld2, ld2]
  refine (body_at _ _ _ _ r _ _ _ _ _ _ _ _
    (fun k j => (m ((c.tc : Thread nD τ).loc main_arg3) : FVec Ideal S1024x5632 .f32) (ix2 k j))
    (fun j d => (m ((c.tc : Thread nD τ).loc main_arg4) : FVec Ideal S2816x1024 .f32) (ix2 j d)) ?_ ?_ ?_ ?_ ?_ ?_ d).trans ?_
  · intro k j
    refine (wi_at m c t _).trans ?_
    congr 1; funext a; apply Fin.ext
    match a with
    | ⟨0, _⟩ => show 0 + 1 * k.val = k.val; omega
    | ⟨1, _⟩ => show 0 + 1 * j.val = j.val; omega
  · intro k j
    refine (wi_at m c t _).trans ?_
    congr 1; funext a; apply Fin.ext
    match a with
    | ⟨0, _⟩ => show 0 + 1 * k.val = k.val; omega
    | ⟨1, _⟩ => show 2816 + 1 * j.val = 2816 + j.val; omega
  · intro k j
    refine (wi_at m c t _).trans ?_
    congr 1; funext a; apply Fin.ext
    match a with
    | ⟨0, _⟩ => show 0 + 1 * k.val = k.val; omega
    | ⟨1, _⟩ => show 1408 + 1 * j.val = 1408 + j.val; omega
  · intro k j
    refine (wi_at m c t _).trans ?_
    congr 1; funext a; apply Fin.ext
    match a with
    | ⟨0, _⟩ => show 0 + 1 * k.val = k.val; omega
    | ⟨1, _⟩ => show 4224 + 1 * j.val = 4224 + j.val; omega
  · intro j d
    refine (wo_at m c t _).trans ?_
    congr 1; funext a; apply Fin.ext
    match a with
    | ⟨0, _⟩ => show 0 + 1 * j.val = j.val; omega
    | ⟨1, _⟩ => show 0 + 1 * d.val = d.val; omega
  · intro j d
    refine (wo_at m c t _).trans ?_
    congr 1; funext a; apply Fin.ext
    match a with
    | ⟨0, _⟩ => show 1408 + 1 * j.val = 1408 + j.val; omega
    | ⟨1, _⟩ => show 0 + 1 * d.val = d.val; omega
  · congr 1
    · exact funext fun d => h_at m c t r d
    · exact funext fun d => ng_at m c t d
    · exact funext fun d => sh_at m c t d
    · exact funext fun d => sc_at m c t d
    · exact funext fun d => gate_at m c t d
    · exact funext fun d => fg_at m c t d

/-- The point whose block an index lies in. -/
def ptOf (i : S4x8192x1024.Idx) : Fin cfg0.N :=
  ⟨16 * (i 0).val + (i 1).val / 512, by
    have h0 : (i 0).val < 4 := (i 0).isLt
    have h1 : (i 1).val < 8192 := (i 1).isLt
    show _ < 64
    omega⟩

/-- Where a block's index lies in the array. -/
theorem emb8 (r : Fin 512) (d : Fin 1024) : ((cfg0.win 8).blk t).view.emb (ix3 0 r d) = ix3 (bT t) (nT t r) d := by
  obtain ⟨h0, h1, h2⟩ := index8 t
  funext a
  apply Fin.ext
  refine ((cfg0.win 8).rect_emb_val t (ix3 0 r d) a).trans ?_
  match a with
  | ⟨0, _⟩ => show (cfg0.win 8).index t 0 * 1 + 0 = t.val / 16; rw [h0]; omega
  | ⟨1, _⟩ => show (cfg0.win 8).index t 1 * 512 + r.val = 512 * (t.val % 16) + r.val; rw [h1]; omega
  | ⟨2, _⟩ => show (cfg0.win 8).index t 2 * 1024 + d.val = d.val; rw [h2]; omega

/-- The array after the run is the reference's result. -/
theorem arr_eq : (dats m 0 c).arrAt 8 cfg0.N = refOut m c := by
  funext i
  have h0 : (i 0).val < 4 := (i 0).isLt
  have h1 : (i 1).val < 8192 := (i 1).isLt
  have h2 : (i 2).val < 1024 := (i 2).isLt
  let r : Fin 512 := ⟨(i 1).val % 512, by omega⟩
  let d : Fin 1024 := ⟨(i 2).val, h2⟩
  have hi : i = ix3 (bT (ptOf i)) (nT (ptOf i) r) d := by
    funext a
    apply Fin.ext
    match a with
    | ⟨0, _⟩ => show (i 0).val = (16 * (i 0).val + (i 1).val / 512) / 16; omega
    | ⟨1, _⟩ => show (i 1).val = 512 * ((16 * (i 0).val + (i 1).val / 512) % 16) + (i 1).val % 512; omega
    | ⟨2, _⟩ => rfl
  have hb := congrFun (Cert.Kernel2Ideal.Value.blocks8 m c (ptOf i) (flush8 (ptOf i))) (ix3 0 r d)
  rw [Cert.Kernel2Ideal.Value.flushed8] at hb
  have hb' : (dats m 0 c).arrAt 8 cfg0.N (((cfg0.win 8).blk (ptOf i)).view.emb (ix3 0 r d)) = refOut m c (ix3 (bT (ptOf i)) (nT (ptOf i) r) d) :=
    hb.trans (out_at m c (ptOf i) r d)
  rw [emb8] at hb'
  rw [hi]
  exact hb'

end Cert.Kernel2Ideal.Ffn
end
-- ==== Proof.Mix.lean ====
/-
  One row of the mixing of the branches, over the extended reals: each branch's projection times its gate, their sum
  through the output projection, and the gated residual.
-/
module

public import Idealize.ShloMosaic.PureOps.Ideal.Laws
public import Idealize.ShloMosaic.Lib.ValueIdx

@[expose] public section

noncomputable section

namespace Cert.Mix

open Idealize.ShloMosaic

/-- The three gated branches at a column. -/
def merged (o p y : Fin 512 → EReal) (g : Fin 3072 → EReal) (wa wp wh : Fin 512 → Fin 1024 → EReal) (k : Fin 1024) : EReal :=
  g ⟨k.val, by omega⟩ * (∑ j, o j * wa j k) + g ⟨1024 + k.val, by omega⟩ * (∑ j, p j * wp j k) + g ⟨2048 + k.val, by omega⟩ * (∑ j, y j * wh j k)

/-- The residual row after the mixing. -/
def mixed (x gate : Fin 1024 → EReal) (mg : Fin 1024 → EReal) (wo : Fin 1024 → Fin 1024 → EReal) (d : Fin 1024) : EReal :=
  x d + gate d * ∑ k, mg k * wo k d

end Cert.Mix
end
-- ==== Proof.MixRef.lean ====
/-
  The mixing's reference at an index.
-/
module

public import proofs.«01_k».proof.Proof.Gen.Reference3Ideal.Read
public import proofs.«01_k».proof.Proof.Mix
public import Idealize.ShloMosaic.Lib.Pointwise

@[expose] public section

set_option maxRecDepth 16384

noncomputable section

namespace Cert.Reference3Ideal.Mix

open Cert.Reference3Ideal Cert.Reference3Ideal.Facts Cert.Reference3Ideal.Read Cert.Mix
open Idealize.ShloMosaic
open Idealize.ShloMosaic.TcCoe
open Idealize.ShloMosaic.Pointwise

variable (x0 : (⟨S4x8192x1024, .f32⟩ : BufTy).Contents (Elt Ideal)) (x1 x2 x3 : (⟨S4x8192x512, .f32⟩ : BufTy).Contents (Elt Ideal))
variable (x4 : (⟨S4x8192x3072, .f32⟩ : BufTy).Contents (Elt Ideal)) (x5 : (⟨S4x1x6144, .f32⟩ : BufTy).Contents (Elt Ideal))
variable (x6 x7 x8 : (⟨S512x1024, .f32⟩ : BufTy).Contents (Elt Ideal)) (x9 : (⟨S1024x1024, .f32⟩ : BufTy).Contents (Elt Ideal))
variable (b : Fin 4) (n : Fin 8192) (d : Fin 1024)

/-- The gated branches of the arguments. -/
abbrev mR : Fin 1024 → EReal :=
  merged (fun j => x1 (ix3 b n j)) (fun j => x2 (ix3 b n j)) (fun j => x3 (ix3 b n j)) (fun j => x4 (ix3 b n j))
    (fun j k => x6 (ix2 j k)) (fun j k => x7 (ix2 j k)) (fun j k => x8 (ix2 j k))

theorem v6_at (k : Fin 3) : val_main_v6 (F := Ideal) x4 (ix4 b n k d) = x4 (ix3 b n (⟨1024 * k.val + d.val, by omega⟩ : Fin 3072)) := by
  unfold val_main_v6
  refine shapeCast_apply x4 _ (ix4 b n k d) (ix3 b n (⟨1024 * k.val + d.val, by omega⟩ : Fin 3072)) ?_
  rewrite [Shape.rowMajor_val_three, Shape.rowMajor_val_four]
  show (b.val * 8192 + n.val) * 3072 + (1024 * k.val + d.val) = ((b.val * 8192 + n.val) * 3 + k.val) * 1024 + d.val
  omega

theorem v8_at : val_main_v8 (F := Ideal) x4 (ix3 b n d) = x4 (ix3 b n (⟨d.val, by omega⟩ : Fin 3072)) := by
  unfold val_main_v8
  refine (shapeCast_apply (val_main_v7 (F := Ideal) x4) _ (ix3 b n d) (ix4 b n 0 d) ?_).trans ?_
  · rewrite [Shape.rowMajor_val_four, Shape.rowMajor_val_three]
    show ((b.val * 8192 + n.val) * 1 + 0) * 1024 + d.val = (b.val * 8192 + n.val) * 1024 + d.val
    omega
  · have h := v6_at x4 b n d 0
    unfold val_main_v7
    refine (extractStridedSlice_apply ![0, 0, 0, 0] (val_main_v6 (F := Ideal) x4) _ (ix4 b n 0 d) (ix4 b n 0 d) (fun a => match a with
      | ⟨0, _⟩ => by show b.val = 0 + b.val; omega
      | ⟨1, _⟩ => by show n.val = 0 + n.val; omega
      | ⟨2, _⟩ => rfl
      | ⟨3, _⟩ => by show d.val = 0 + d.val; omega)).trans (h.trans ?_)
    congr 2
    apply Fin.ext
    show 1024 * 0 + d.val = d.val
    omega

theorem v12_at : val_main_v12 (F := Ideal) x4 (ix3 b n d) = x4 (ix3 b n (⟨1024 + d.val, by omega⟩ : Fin 3072)) := by
  unfold val_main_v12
  refine (shapeCast_apply (val_main_v11 (F := Ideal) x4) _ (ix3 b n d) (ix4 b n 0 d) ?_).trans ?_
  · rewrite [Shape.rowMajor_val_four, Shape.rowMajor_val_three]
    show ((b.val * 8192 + n.val) * 1 + 0) * 1024 + d.val = (b.val * 8192 + n.val) * 1024 + d.val
    omega
  · have h := v6_at x4 b n d 1
    unfold val_main_v11
    refine (extractStridedSlice_apply ![0, 0, 1, 0] (val_main_v6 (F := Ideal) x4) _ (ix4 b n 0 d) (ix4 b n 1 d) (fun a => match a with
      | ⟨0, _⟩ => by show b.val = 0 + b.val; omega
      | ⟨1, _⟩ => by show n.val = 0 + n.val; omega
      | ⟨2, _⟩ => rfl
      | ⟨3, _⟩ => by show d.val = 0 + d.val; omega)).trans (h.trans ?_)
    congr 2

theorem v17_at : val_main_v17 (F := Ideal) x4 (ix3 b n d) = x4 (ix3 b n (⟨2048 + d.val, by omega⟩ : Fin 3072)) := by
  unfold val_main_v17
  refine (shapeCast_apply (val_main_v16 (F := Ideal) x4) _ (ix3 b n d) (ix4 b n 0 d) ?_).trans ?_
  · rewrite [Shape.rowMajor_val_four, Shape.rowMajor_val_three]
    show ((b.val * 8192 + n.val) * 1 + 0) * 1024 + d.val = (b.val * 8192 + n.val) * 1024 + d.val
    omega
  · have h := v6_at x4 b n d 2
    unfold val_main_v16
    refine (extractStridedSlice_apply ![0, 0, 2, 0] (val_main_v6 (F := Ideal) x4) _ (ix4 b n 0 d) (ix4 b n 2 d) (fun a => match a with
      | ⟨0, _⟩ => by show b.val = 0 + b.val; omega
      | ⟨1, _⟩ => by show n.val = 0 + n.val; omega
      | ⟨2, _⟩ => rfl
      | ⟨3, _⟩ => by show d.val = 0 + d.val; omega)).trans (h.trans ?_)
    congr 2

theorem v20_at : val_main_v20 (F := Ideal) x1 x2 x3 x4 x6 x7 x8 (ix3 b n d) = mR x1 x2 x3 x4 x6 x7 x8 b n d := by
  have h8 := fun d => v8_at x4 b n d
  have h12 := fun d => v12_at x4 b n d
  have h17 := fun d => v17_at x4 b n d
  unfold val_main_v20 val_main_v19 val_main_v18 val_main_v15 val_main_v14 val_main_v13 val_main_v10 val_main_v9 mR merged
  generalize val_main_v8 (F := Ideal) x4 = y8 at h8
  generalize val_main_v12 (F := Ideal) x4 = y12 at h12
  generalize val_main_v17 (F := Ideal) x4 = y17 at h17
  pointwise
  simp only [h8, h12, h17]
  try rfl

/-- The reference's result. -/
theorem v24_at : val_main_v24 (F := Ideal) x0 x1 x2 x3 x4 x5 x6 x7 x8 x9 (ix3 b n d)
    = mixed (fun d => x0 (ix3 b n d)) (fun d => x5 (ix3 b 0 (⟨2048 + d.val, by omega⟩ : Fin 6144))) (mR x1 x2 x3 x4 x6 x7 x8 b n)
        (fun k d => x9 (ix2 k d)) d := by
  have h := fun d => v20_at x1 x2 x3 x4 x6 x7 x8 b n d
  unfold val_main_v24 val_main_v23 val_main_v22 val_main_v21 val_main_v2 mixed
  generalize val_main_v20 (F := Ideal) x1 x2 x3 x4 x6 x7 x8 = y at h
  pointwise
  simp only [h]
  try rfl

end Cert.Reference3Ideal.Mix
end
-- ==== Proof.MixJoin.lean ====
/-
  A block the mixing kernel leaves is the reference's result there, and so the whole array is.
-/
module

public import proofs.«01_k».proof.Proof.Gen.Kernel3Ideal.Value
public import proofs.«01_k».proof.Proof.MixRef

@[expose] public section

set_option maxRecDepth 16384

noncomputable section

namespace Cert.Kernel3Ideal.Mix

open Cert.Kernel3Ideal Cert.Kernel3Ideal.Gen Cert.Mix
open Idealize.ShloMosaic
open Idealize.ShloMosaic.TcCoe
open Idealize.ShloMosaic.Pointwise
open Idealize.ShloMosaic.Pipeline (Window)

/-! ## The body's values at an index -/

/-- The gated branches of the block's loads. -/
theorem pay2_at (v0 v5 : Vec Ideal S1x512x512 .bf16) (v10 : Vec Ideal S1x512x512 .f32) (v2 v7 v13 : Vec Ideal S512x1024 .bf16)
    (v16 v20 v25 : Vec Ideal S1x512x1024 .bf16) (g : Fin 3072 → EReal) (r : Fin 512) (k : Fin 1024)
    (g0 : ∀ k : Fin 1024, v16 (ix3 0 r k) = g ⟨k.val, by omega⟩)
    (g1 : ∀ k : Fin 1024, v20 (ix3 0 r k) = g ⟨1024 + k.val, by omega⟩)
    (g2 : ∀ k : Fin 1024, v25 (ix3 0 r k) = g ⟨2048 + k.val, by omega⟩) :
    k0_pay2 v0 v2 v5 v7 v10 v13 v16 v20 v25 (ix2 r k)
      = merged (fun j => v0 (ix3 0 r j)) (fun j => v5 (ix3 0 r j)) (fun j => v10 (ix3 0 r j)) g (fun j k => v2 (ix2 j k))
          (fun j k => v7 (ix2 j k)) (fun j k => v13 (ix2 j k)) k := by
  unfold merged
  rw [← g0, ← g1, ← g2]
  pointwise [k0_pay2]

/-- The block's elements. -/
theorem body_at (v30 : FVec Ideal S512x1024 .bf16) (v31 : Vec Ideal S1024x1024 .bf16) (v34 : Vec Ideal S1x512x1024 .f32)
    (v36 : Vec Ideal S1x1x1024 .f32) (mg : Fin 1024 → EReal) (r : Fin 512) (h : ∀ k, v30 (ix2 r k) = mg k) (d : Fin 1024) :
    k0_pay1 v30 v31 v34 v36 (ix3 0 r d)
      = mixed (fun d => v34 (ix3 0 r d)) (fun d => v36 (ix3 0 0 d)) mg (fun k d => v31 (ix2 k d)) d := by
  unfold mixed
  simp only [← h]
  pointwise [k0_pay1]

/-! ## The arrays and their blocks -/

variable (m : (ℓ : Loc nD τ sig) → Buf (Elt Ideal) ℓ) (c : Dev nD)

theorem V_v0 : Gen.V m c main_v0 = (m ((c.tc : Thread nD τ).loc main_arg1) : FVec Ideal S4x8192x512 .f32) := by
  rfl

theorem V_v1 : Gen.V m c main_v1 = (m ((c.tc : Thread nD τ).loc main_arg2) : FVec Ideal S4x8192x512 .f32) := by
  rfl

theorem V_v2 : Gen.V m c main_v2 = (m ((c.tc : Thread nD τ).loc main_arg4) : FVec Ideal S4x8192x3072 .f32) := by
  rfl

theorem V_v3 : Gen.V m c main_v3 = (m ((c.tc : Thread nD τ).loc main_arg6) : FVec Ideal S512x1024 .f32) := by
  rfl

theorem V_v4 : Gen.V m c main_v4 = (m ((c.tc : Thread nD τ).loc main_arg7) : FVec Ideal S512x1024 .f32) := by
  rfl

theorem V_v5 : Gen.V m c main_v5 = (m ((c.tc : Thread nD τ).loc main_arg8) : FVec Ideal S512x1024 .f32) := by
  rfl

theorem V_v6 : Gen.V m c main_v6 = (m ((c.tc : Thread nD τ).loc main_arg9) : FVec Ideal S1024x1024 .f32) := by
  rfl

/-- A point's batch. -/
def bT (t : Fin cfg0.N) : Fin 4 := ⟨t.val / 16, by have : t.val < 64 := t.isLt; omega⟩

/-- A block's row in the sequence. -/
def nT (t : Fin cfg0.N) (r : Fin 512) : Fin 8192 := ⟨512 * (t.val % 16) + r.val, by omega⟩

theorem index0 : ∀ t : Fin grid0.N, (cfg0.win 0).index t 0 = t.val / 16 ∧ (cfg0.win 0).index t 1 = t.val % 16 ∧ (cfg0.win 0).index t 2 = 0 := by decide +kernel
theorem index1 : ∀ t : Fin grid0.N, (cfg0.win 1).index t 0 = t.val / 16 ∧ (cfg0.win 1).index t 1 = t.val % 16 ∧ (cfg0.win 1).index t 2 = 0 := by decide +kernel
theorem index2 : ∀ t : Fin grid0.N, (cfg0.win 2).index t 0 = t.val / 16 ∧ (cfg0.win 2).index t 1 = t.val % 16 ∧ (cfg0.win 2).index t 2 = 0 := by decide +kernel
theorem index3 : ∀ t : Fin grid0.N, (cfg0.win 3).index t 0 = t.val / 16 ∧ (cfg0.win 3).index t 1 = t.val % 16 ∧ (cfg0.win 3).index t 2 = 0 := by decide +kernel
theorem index4 : ∀ t : Fin grid0.N, (cfg0.win 4).index t 0 = t.val / 16 ∧ (cfg0.win 4).index t 1 = t.val % 16 ∧ (cfg0.win 4).index t 2 = 0 := by decide +kernel
theorem index5 : ∀ t : Fin grid0.N, (cfg0.win 5).index t 0 = t.val / 16 ∧ (cfg0.win 5).index t 1 = 0 ∧ (cfg0.win 5).index t 2 = 2 := by decide +kernel
theorem index6 : ∀ t : Fin grid0.N, (cfg0.win 6).index t 0 = 0 ∧ (cfg0.win 6).index t 1 = 0 := by decide +kernel
theorem index7 : ∀ t : Fin grid0.N, (cfg0.win 7).index t 0 = 0 ∧ (cfg0.win 7).index t 1 = 0 := by decide +kernel
theorem index8 : ∀ t : Fin grid0.N, (cfg0.win 8).index t 0 = 0 ∧ (cfg0.win 8).index t 1 = 0 := by decide +kernel
theorem index9 : ∀ t : Fin grid0.N, (cfg0.win 9).index t 0 = 0 ∧ (cfg0.win 9).index t 1 = 0 := by decide +kernel
theorem index10 : ∀ t : Fin grid0.N, (cfg0.win 10).index t 0 = t.val / 16 ∧ (cfg0.win 10).index t 1 = t.val % 16 ∧ (cfg0.win 10).index t 2 = 0 := by decide +kernel
theorem flush10 : ∀ t : Fin grid0.N, (cfg0.win 10).flush t = true := by decide +kernel

variable (t : Fin cfg0.N)

theorem h_at (r : Fin 512) (d : Fin 1024) :
    (iblk m c 0 t : S1x512x1024.Idx → EReal) (ix3 0 r d) = (m ((c.tc : Thread nD τ).loc main_arg0) : FVec Ideal S4x8192x1024 .f32) (ix3 (bT t) (nT t r) d) := by
  rw [← Gen.V_main_arg0 m c]
  show Gen.V m c main_arg0 (((cfg0.win 0).rect t).emb (ix3 0 r d)) = _
  congr 1
  obtain ⟨h0, h1, h2⟩ := index0 t
  funext a
  apply Fin.ext
  refine ((cfg0.win 0).rect_emb_val t (ix3 0 r d) a).trans ?_
  match a with
  | ⟨0, _⟩ => show (cfg0.win 0).index t 0 * 1 + 0 = t.val / 16; rw [h0]; omega
  | ⟨1, _⟩ => show (cfg0.win 0).index t 1 * 512 + r.val = 512 * (t.val % 16) + r.val; rw [h1]; omega
  | ⟨2, _⟩ => show (cfg0.win 0).index t 2 * 1024 + d.val = d.val; rw [h2]; omega

theorem o_at (r : Fin 512) (d : Fin 512) :
    (iblk m c 1 t : S1x512x512.Idx → EReal) (ix3 0 r d) = (m ((c.tc : Thread nD τ).loc main_arg1) : FVec Ideal S4x8192x512 .f32) (ix3 (bT t) (nT t r) d) := by
  show Gen.V m c main_v0 (((cfg0.win 1).rect t).emb (ix3 0 r d)) = _
  rw [V_v0]
  congr 1
  obtain ⟨h0, h1, h2⟩ := index1 t
  funext a
  apply Fin.ext
  refine ((cfg0.win 1).rect_emb_val t (ix3 0 r d) a).trans ?_
  match a with
  | ⟨0, _⟩ => show (cfg0.win 1).index t 0 * 1 + 0 = t.val / 16; rw [h0]; omega
  | ⟨1, _⟩ => show (cfg0.win 1).index t 1 * 512 + r.val = 512 * (t.val % 16) + r.val; rw [h1]; omega
  | ⟨2, _⟩ => show (cfg0.win 1).index t 2 * 512 + d.val = d.val; rw [h2]; omega

theorem p_at (r : Fin 512) (d : Fin 512) :
    (iblk m c 2 t : S1x512x512.Idx → EReal) (ix3 0 r d) = (m ((c.tc : Thread nD τ).loc main_arg2) : FVec Ideal S4x8192x512 .f32) (ix3 (bT t) (nT t r) d) := by
  show Gen.V m c main_v1 (((cfg0.win 2).rect t).emb (ix3 0 r d)) = _
  rw [V_v1]
  congr 1
  obtain ⟨h0, h1, h2⟩ := index2 t
  funext a
  apply Fin.ext
  refine ((cfg0.win 2).rect_emb_val t (ix3 0 r d) a).trans ?_
  match a with
  | ⟨0, _⟩ => show (cfg0.win 2).index t 0 * 1 + 0 = t.val / 16; rw [h0]; omega
  | ⟨1, _⟩ => show (cfg0.win 2).index t 1 * 512 + r.val = 512 * (t.val % 16) + r.val; rw [h1]; omega
  | ⟨2, _⟩ => show (cfg0.win 2).index t 2 * 512 + d.val = d.val; rw [h2]; omega

theorem y_at (r : Fin 512) (d : Fin 512) :
    (iblk m c 3 t : S1x512x512.Idx → EReal) (ix3 0 r d) = (m ((c.tc : Thread nD τ).loc main_arg3) : FVec Ideal S4x8192x512 .f32) (ix3 (bT t) (nT t r) d) := by
  rw [← Gen.V_main_arg3 m c]
  show Gen.V m c main_arg3 (((cfg0.win 3).rect t).emb (ix3 0 r d)) = _
  congr 1
  obtain ⟨h0, h1, h2⟩ := index3 t
  funext a
  apply Fin.ext
  refine ((cfg0.win 3).rect_emb_val t (ix3 0 r d) a).trans ?_
  match a with
  | ⟨0, _⟩ => show (cfg0.win 3).index t 0 * 1 + 0 = t.val / 16; rw [h0]; omega
  | ⟨1, _⟩ => show (cfg0.win 3).index t 1 * 512 + r.val = 512 * (t.val % 16) + r.val; rw [h1]; omega
  | ⟨2, _⟩ => show (cfg0.win 3).index t 2 * 512 + d.val = d.val; rw [h2]; omega

theorem g_at (r : Fin 512) (d : Fin 3072) :
    (iblk m c 4 t : S1x512x3072.Idx → EReal) (ix3 0 r d) = (m ((c.tc : Thread nD τ).loc main_arg4) : FVec Ideal S4x8192x3072 .f32) (ix3 (bT t) (nT t r) d) := by
  show Gen.V m c main_v2 (((cfg0.win 4).rect t).emb (ix3 0 r d)) = _
  rw [V_v2]
  congr 1
  obtain ⟨h0, h1, h2⟩ := index4 t
  funext a
  apply Fin.ext
  refine ((cfg0.win 4).rect_emb_val t (ix3 0 r d) a).trans ?_
  match a with
  | ⟨0, _⟩ => show (cfg0.win 4).index t 0 * 1 + 0 = t.val / 16; rw [h0]; omega
  | ⟨1, _⟩ => show (cfg0.win 4).index t 1 * 512 + r.val = 512 * (t.val % 16) + r.val; rw [h1]; omega
  | ⟨2, _⟩ => show (cfg0.win 4).index t 2 * 3072 + d.val = d.val; rw [h2]; omega

theorem gate_at (d : Fin 1024) :
    (iblk m c 5 t : S1x1x1024.Idx → EReal) (ix3 0 0 d)
      = (m ((c.tc : Thread nD τ).loc main_arg5) : FVec Ideal S4x1x6144 .f32) (ix3 (bT t) 0 (⟨2048 + d.val, by omega⟩ : Fin 6144)) := by
  rw [← Gen.V_main_arg5 m c]
  show Gen.V m c main_arg5 (((cfg0.win 5).rect t).emb (ix3 0 0 d)) = _
  congr 1
  obtain ⟨h0, h1, h2⟩ := index5 t
  funext a
  apply Fin.ext
  refine ((cfg0.win 5).rect_emb_val t (ix3 0 0 d) a).trans ?_
  match a with
  | ⟨0, _⟩ => show (cfg0.win 5).index t 0 * 1 + 0 = t.val / 16; rw [h0]; omega
  | ⟨1, _⟩ => show (cfg0.win 5).index t 1 * 1 + 0 = 0; rw [h1]
  | ⟨2, _⟩ => show (cfg0.win 5).index t 2 * 1024 + d.val = 2048 + d.val; rw [h2]

theorem wa_eq : (iblk m c 6 t : S512x1024.Idx → EReal) = (m ((c.tc : Thread nD τ).loc main_arg6) : FVec Ideal S512x1024 .f32) := by
  funext i
  show Gen.V m c main_v3 (((cfg0.win 6).rect t).emb i) = _
  rw [V_v3]
  congr 1
  obtain ⟨h0, h1⟩ := index6 t
  funext a
  apply Fin.ext
  refine ((cfg0.win 6).rect_emb_val t i a).trans ?_
  match a with
  | ⟨0, _⟩ => show (cfg0.win 6).index t 0 * 512 + (i 0).val = (i 0).val; rw [h0]; omega
  | ⟨1, _⟩ => show (cfg0.win 6).index t 1 * 1024 + (i 1).val = (i 1).val; rw [h1]; omega

theorem wp_eq : (iblk m c 7 t : S512x1024.Idx → EReal) = (m ((c.tc : Thread nD τ).loc main_arg7) : FVec Ideal S512x1024 .f32) := by
  funext i
  show Gen.V m c main_v4 (((cfg0.win 7).rect t).emb i) = _
  rw [V_v4]
  congr 1
  obtain ⟨h0, h1⟩ := index7 t
  funext a
  apply Fin.ext
  refine ((cfg0.win 7).rect_emb_val t i a).trans ?_
  match a with
  | ⟨0, _⟩ => show (cfg0.win 7).index t 0 * 512 + (i 0).val = (i 0).val; rw [h0]; omega
  | ⟨1, _⟩ => show (cfg0.win 7).index t 1 * 1024 + (i 1).val = (i 1).val; rw [h1]; omega

theorem wh_eq : (iblk m c 8 t : S512x1024.Idx → EReal) = (m ((c.tc : Thread nD τ).loc main_arg8) : FVec Ideal S512x1024 .f32) := by
  funext i
  show Gen.V m c main_v5 (((cfg0.win 8).rect t).emb i) = _
  rw [V_v5]
  congr 1
  obtain ⟨h0, h1⟩ := index8 t
  funext a
  apply Fin.ext
  refine ((cfg0.win 8).rect_emb_val t i a).trans ?_
  match a with
  | ⟨0, _⟩ => show (cfg0.win 8).index t 0 * 512 + (i 0).val = (i 0).val; rw [h0]; omega
  | ⟨1, _⟩ => show (cfg0.win 8).index t 1 * 1024 + (i 1).val = (i 1).val; rw [h1]; omega

theorem wo_eq : (iblk m c 9 t : S1024x1024.Idx → EReal) = (m ((c.tc : Thread nD τ).loc main_arg9) : FVec Ideal S1024x1024 .f32) := by
  funext i
  show Gen.V m c main_v6 (((cfg0.win 9).rect t).emb i) = _
  rw [V_v6]
  congr 1
  obtain ⟨h0, h1⟩ := index9 t
  funext a
  apply Fin.ext
  refine ((cfg0.win 9).rect_emb_val t i a).trans ?_
  match a with
  | ⟨0, _⟩ => show (cfg0.win 9).index t 0 * 1024 + (i 0).val = (i 0).val; rw [h0]; omega
  | ⟨1, _⟩ => show (cfg0.win 9).index t 1 * 1024 + (i 1).val = (i 1).val; rw [h1]; omega

/-! ## Whole loads -/

theorem ld0 (x : Vec Ideal S1x512x512 .bf16) : View.ld x r0_0 = x := by
  funext y
  show x _ = x _
  congr 1
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem ld1 (x : Vec Ideal S512x1024 .bf16) : View.ld x r0_1 = x := by
  funext y
  show x _ = x _
  congr 1
  funext a; apply Fin.ext
  match a with
  | ⟨0, _⟩ => show 0 + 1 * (y 0).val = (y 0).val; omega
  | ⟨1, _⟩ => show 0 + 1 * (y 1).val = (y 1).val; omega

theorem ld5 (x : Vec Ideal S1024x1024 .bf16) : View.ld x r0_5 = x := by
  funext y
  show x _ = x _
  congr 1
  funext a; apply Fin.ext
  match a with
  | ⟨0, _⟩ => show 0 + 1 * (y 0).val = (y 0).val; omega
  | ⟨1, _⟩ => show 0 + 1 * (y 1).val = (y 1).val; omega

theorem ld6 (x : Vec Ideal S1x512x1024 .f32) : View.ld x r0_6 = x := by
  funext y
  show x _ = x _
  congr 1
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem ld7 (x : Vec Ideal S1x1x1024 .f32) : View.ld x r0_7 = x := by
  funext y
  show x _ = x _
  congr 1
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem ld0f (x : Vec Ideal S1x512x512 .f32) : View.ld x r0_0 = x := by
  funext y
  show x _ = x _
  congr 1
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem ld2_at (x : Vec Ideal S1x512x3072 .bf16) (r : Fin 512) (d : Fin 1024) :
    (View.ld x r0_2 : S1x512x1024.Idx → EReal) (ix3 0 r d) = x (ix3 0 r (⟨d.val, by omega⟩ : Fin 3072)) := by
  show x _ = x _
  congr 1
  funext a; apply Fin.ext
  match a with
  | ⟨0, _⟩ => rfl
  | ⟨1, _⟩ => show 0 + 1 * r.val = r.val; omega
  | ⟨2, _⟩ => show 0 + 1 * d.val = d.val; omega

theorem ld3_at (x : Vec Ideal S1x512x3072 .bf16) (r : Fin 512) (d : Fin 1024) :
    (View.ld x r0_3 : S1x512x1024.Idx → EReal) (ix3 0 r d) = x (ix3 0 r (⟨1024 + d.val, by omega⟩ : Fin 3072)) := by
  show x _ = x _
  congr 1
  funext a; apply Fin.ext
  match a with
  | ⟨0, _⟩ => rfl
  | ⟨1, _⟩ => show 0 + 1 * r.val = r.val; omega
  | ⟨2, _⟩ => show 1024 + 1 * d.val = 1024 + d.val; omega

theorem ld4_at (x : Vec Ideal S1x512x3072 .bf16) (r : Fin 512) (d : Fin 1024) :
    (View.ld x r0_4 : S1x512x1024.Idx → EReal) (ix3 0 r d) = x (ix3 0 r (⟨2048 + d.val, by omega⟩ : Fin 3072)) := by
  show x _ = x _
  congr 1
  funext a; apply Fin.ext
  match a with
  | ⟨0, _⟩ => rfl
  | ⟨1, _⟩ => show 0 + 1 * r.val = r.val; omega
  | ⟨2, _⟩ => show 2048 + 1 * d.val = 2048 + d.val; omega

theorem canon_at (p : Vec Ideal S1x512x1024 .f32) (y : S1x512x1024.Idx) : View.canon [⟨r0_6, p⟩] y = p y := by
  refine View.canon_apply_of_pieces p _ ?_ y (cover0_10 _ y)
  intro pc hpc
  rcases List.mem_cons.mp hpc with rfl | hpc
  · exact fun x => congrFun (ld6 p).symm x
  nomatch hpc

/-- The reference's result of the kernel's arguments. -/
abbrev refOut : S4x8192x1024.Idx → EReal :=
  Cert.Reference3Ideal.Read.val_main_v24 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- What a point leaves in its block. -/
theorem out_at (r : Fin 512) (d : Fin 1024) :
    out0_10 (iblk m c 0 t) (iblk m c 1 t) (iblk m c 2 t) (iblk m c 3 t) (iblk m c 4 t) (iblk m c 5 t) (iblk m c 6 t) (iblk m c 7 t)
        (iblk m c 8 t) (iblk m c 9 t) (ix3 0 r d)
      = refOut m c (ix3 (bT t) (nT t r) d) := by
  rw [refOut, Cert.Reference3Ideal.Mix.v24_at]
  unfold out0_10
  rw [canon_at, ld0, ld0, ld0f, ld1, ld1, ld1, ld5, ld6, ld7, wa_eq, wp_eq, wh_eq, wo_eq]
  refine (body_at _ _ _ _ (Cert.Reference3Ideal.Mix.mR (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg6)) (m ((c.tc : Thread nD τ).loc main_arg7))
    (m ((c.tc : Thread nD τ).loc main_arg8)) (bT t) (nT t r)) r ?_ d).trans ?_
  · intro k
    refine (pay2_at _ _ _ _ _ _ _ _ _
      (fun j => (m ((c.tc : Thread nD τ).loc main_arg4) : FVec Ideal S4x8192x3072 .f32) (ix3 (bT t) (nT t r) j)) r k ?_ ?_ ?_).trans ?_
    · exact fun k => (ld2_at _ r k).trans (g_at m c t r _)
    · exact fun k => (ld3_at _ r k).trans (g_at m c t r _)
    · exact fun k => (ld4_at _ r k).trans (g_at m c t r _)
    · congr 1
      · exact funext fun j => o_at m c t r j
      · exact funext fun j => p_at m c t r j
      · exact funext fun j => y_at m c t r j
  · congr 1
    · exact funext fun d => h_at m c t r d
    · exact funext fun d => gate_at m c t d

/-- The point whose block an index lies in. -/
def ptOf (i : S4x8192x1024.Idx) : Fin cfg0.N :=
  ⟨16 * (i 0).val + (i 1).val / 512, by
    have h0 : (i 0).val < 4 := (i 0).isLt
    have h1 : (i 1).val < 8192 := (i 1).isLt
    show _ < 64
    omega⟩

/-- Where a block's index lies in the array. -/
theorem emb10 (r : Fin 512) (d : Fin 1024) : ((cfg0.win 10).blk t).view.emb (ix3 0 r d) = ix3 (bT t) (nT t r) d := by
  obtain ⟨h0, h1, h2⟩ := index10 t
  funext a
  apply Fin.ext
  refine ((cfg0.win 10).rect_emb_val t (ix3 0 r d) a).trans ?_
  match a with
  | ⟨0, _⟩ => show (cfg0.win 10).index t 0 * 1 + 0 = t.val / 16; rw [h0]; omega
  | ⟨1, _⟩ => show (cfg0.win 10).index t 1 * 512 + r.val = 512 * (t.val % 16) + r.val; rw [h1]; omega
  | ⟨2, _⟩ => show (cfg0.win 10).index t 2 * 1024 + d.val = d.val; rw [h2]; omega

/-- The array after the run is the reference's result. -/
theorem arr_eq : (dats m 0 c).arrAt 10 cfg0.N = refOut m c := by
  funext i
  have h0 : (i 0).val < 4 := (i 0).isLt
  have h1 : (i 1).val < 8192 := (i 1).isLt
  have h2 : (i 2).val < 1024 := (i 2).isLt
  let r : Fin 512 := ⟨(i 1).val % 512, by omega⟩
  let d : Fin 1024 := ⟨(i 2).val, h2⟩
  have hi : i = ix3 (bT (ptOf i)) (nT (ptOf i) r) d := by
    funext a
    apply Fin.ext
    match a with
    | ⟨0, _⟩ => show (i 0).val = (16 * (i 0).val + (i 1).val / 512) / 16; omega
    | ⟨1, _⟩ => show (i 1).val = 512 * ((16 * (i 0).val + (i 1).val / 512) % 16) + (i 1).val % 512; omega
    | ⟨2, _⟩ => rfl
  have hb := congrFun (Cert.Kernel3Ideal.Value.blocks10 m c (ptOf i) (flush10 (ptOf i))) (ix3 0 r d)
  rw [Cert.Kernel3Ideal.Value.flushed10] at hb
  have hb' : (dats m 0 c).arrAt 10 cfg0.N (((cfg0.win 10).blk (ptOf i)).view.emb (ix3 0 r d)) = refOut m c (ix3 (bT (ptOf i)) (nT (ptOf i) r) d) :=
    hb.trans (out_at m c (ptOf i) r d)
  rw [emb10] at hb'
  rw [hi]
  exact hb'

end Cert.Kernel3Ideal.Mix
end
-- ==== Proof.PBody.lean ====
/-
  The body of the in-projection at symbolic operands, run once: what it leaves in the eight output blocks and in
  the two scratch buffers, as terms over what it found.
-/
module

public import proofs.«01_k».proof.Proof.Gen.Kernel4Ideal.Skeleton
public import proofs.«01_k».proof.Proof.Gen.Kernel4Ideal.Launch
public import proofs.«01_k».proof.Proof.Gen.Kernel4Ideal.Points
public import Idealize.ShloMosaic.Lib.Tactic

@[expose] public section

set_option maxRecDepth 16384

noncomputable section

namespace Cert.Kernel4Ideal.Prj

open Cert.Kernel4Ideal Cert.Kernel4Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents type of a memref's buffer on core `c`. -/
abbrev Bf (c : Dev nD) {sp : Space} {S : Shape} {e : EltTy} (M : Memref sig .tc sp S e) : Type := Buf (Elt F) (M.view.loc (c : Thread nD τ))
/-- A memref's buffer held whole at `f`. -/
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- What one grid point leaves. -/
noncomputable def bodyRun (i : grid0.Coords) (c : Dev nD)
    (M2 : Memref sig .tc .vmem S1x256x1024 .f32) (h2 : M2.IsWhole) (M3 : Memref sig .tc .vmem S1x8x1024 .f32) (h3 : M3.IsWhole) (M4 : Memref sig .tc .vmem S1x8x1024 .f32) (h4 : M4.IsWhole) (M5 : Memref sig .tc .vmem S1x1x1024 .f32) (h5 : M5.IsWhole) (M6 : Memref sig .tc .vmem S1x1x1024 .f32) (h6 : M6.IsWhole) (M7 : Memref sig .tc .vmem S1x1024 .f32) (h7 : M7.IsWhole) (M8 : Memref sig .tc .vmem S1024x6656 .bf16) (h8 : M8.IsWhole) (M9 : Memref sig .tc .vmem S256x128 .f32) (h9 : M9.IsWhole) (M10 : Memref sig .tc .vmem S256x128 .f32) (h10 : M10.IsWhole) (M11 : Memref sig .tc .vmem S4x128x128 .bf16) (h11 : M11.IsWhole) (M12 : Memref sig .tc .vmem S1x512 .f32) (h12 : M12.IsWhole) (M13 : Memref sig .tc .vmem S3x1536 .f32) (h13 : M13.IsWhole) (M14 : Memref sig .tc .vmem S1x1536 .f32) (h14 : M14.IsWhole) (M15 : Memref sig .tc .vmem S1x256x512 .bf16) (h15 : M15.IsWhole) (M16 : Memref sig .tc .vmem S1x256x512 .f32) (h16 : M16.IsWhole) (M17 : Memref sig .tc .vmem S1x256x512 .f32) (h17 : M17.IsWhole) (M18 : Memref sig .tc .vmem S1x256x512 .f32) (h18 : M18.IsWhole) (M19 : Memref sig .tc .vmem S1x256x3072 .bf16) (h19 : M19.IsWhole) (M20 : Memref sig .tc .vmem S1x256x512 .bf16) (h20 : M20.IsWhole) (M21 : Memref sig .tc .vmem S1x256x512 .bf16) (h21 : M21.IsWhole) (M22 : Memref sig .tc .vmem S1x256x512 .bf16) (h22 : M22.IsWhole) (M23 : Memref sig .tc .vmem S272x512 .f32) (h23 : M23.IsWhole) (M24 : Memref sig .tc .vmem S272x1536 .f32) (h24 : M24.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) :
    { W : Bf (F := F) c M15 × Bf (F := F) c M16 × Bf (F := F) c M17 × Bf (F := F) c M18 × Bf (F := F) c M19 × Bf (F := F) c M20 × Bf (F := F) c M21 × Bf (F := F) c M22 × Bf (F := F) c M23 × Bf (F := F) c M24 //
      ∀ (f15 : Bf (F := F) c M15) (f16 : Bf (F := F) c M16) (f17 : Bf (F := F) c M17) (f18 : Bf (F := F) c M18) (f19 : Bf (F := F) c M19) (f20 : Bf (F := F) c M20) (f21 : Bf (F := F) c M21) (f22 : Bf (F := F) c M22) (f23 : Bf (F := F) c M23) (f24 : Bf (F := F) c M24) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 f24
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 W.1 ∗ pt c M16 W.2.1 ∗ pt c M17 W.2.2.1 ∗ pt c M18 W.2.2.2.1 ∗ pt c M19 W.2.2.2.2.1 ∗ pt c M20 W.2.2.2.2.2.1 ∗ pt c M21 W.2.2.2.2.2.2.1 ∗ pt c M22 W.2.2.2.2.2.2.2.1 ∗ pt c M23 W.2.2.2.2.2.2.2.2.1 ∗ pt c M24 W.2.2.2.2.2.2.2.2.2) -∗ Q ⟨⟩))
        ⊢ wp frame (wpE (defs₀ (F := F)) Variants.none c none) E
            (cc0_inproj i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24) Q } := by
  refine ⟨⟨?_, ?_, ?_, ?_, ?_, ?_, ?_, ?_, ?_, ?_⟩, fun f15 f16 f17 f18 f19 f20 f21 f22 f23 f24 E Q => ?run⟩
  case run =>
    iintro ⟨H2, H3, H4, H5, H6, H7, H8, H9, H10, H11, H12, H13, H14, H15, H16, H17, H18, H19, H20, H21, H22, H23, H24, Hk⟩
    simp only [Gen.cc0_inproj_eq_skeleton]; unfold Gen.cc0_inproj_skel
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24

end Cert.Kernel4Ideal.Prj

end
-- ==== Proof.PFrame.lean ====
/-
  The launch of the in-projection: its body meets a point's obligation, so a run ends with the arguments as launched,
  every semaphore counter at zero, and each result at what the points wrote back.
-/
module

public import proofs.«01_k».proof.Proof.PBody
public import proofs.«01_k».proof.Proof.Gen.Kernel4Ideal.Frame.Runs
public import Idealize.ShloMosaic.Lib.Claim

@[expose] public section

set_option maxRecDepth 16384

noncomputable section

namespace Cert.Kernel4Ideal.Prj

open Cert.Kernel4Ideal Cert.Kernel4Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole memref owned at `X` is its buffer held at contents that read `X`. -/
theorem owns_open (c : Dev nD) {sp : Space} {S : Shape} {e : EltTy} (M : Memref sig .tc sp S e) (h : M.IsWhole) (X : S.Idx → Elt F e) :
    (owns c.tc M fullShare X : sProp 𝕄) ⊢ iprop(∃ f : Bf (F := F) c M, ⌜M.view.read (Elt F) f = X⌝ ∗ pt c M f) := by
  unfold owns; rw [h.set_eq_univ]

/-- And the buffer held at contents that read `X` is the memref owned at `X`. -/
theorem owns_close_at (c : Dev nD) {sp : Space} {S : Shape} {e : EltTy} (M : Memref sig .tc sp S e) (h : M.IsWhole) (f : Bf (F := F) c M)
    (X : S.Idx → Elt F e) (hX : M.view.read (Elt F) f = X) : (pt c M f : sProp 𝕄) ⊢ owns c.tc M fullShare X := by
  subst hX
  refine BIBase.Entails.trans ?_ (owns_intro c.tc M fullShare f); rw [h.set_eq_univ]

/-- The buffer of a whole memref that reads `X`. -/
abbrev unr (c : Dev nD) {sp : Space} {S : Shape} {e : EltTy} {M : Memref sig .tc sp S e} (h : M.IsWhole) (X : S.Idx → Elt F e) : Bf (F := F) c M :=
  h.unread X

variable (m : (ℓ : Loc nD τ sig) → Buf (Elt F) ℓ) (ρ : Dev nD → PrngReg)

/-- What a point's body leaves, from the point's input blocks. -/
abbrev at0 (c : Dev nD) (t : Fin cfg0.N) :=
  bodyRun (F := F) (grid0.coords t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _)
    (unr c (hs0_0 t) (iblk m c 0 t)) (unr c (hs0_1 t) (iblk m c 1 t)) (unr c (hs0_2 t) (iblk m c 2 t)) (unr c (hs0_3 t) (iblk m c 3 t)) (unr c (hs0_4 t) (iblk m c 4 t)) (unr c (hs0_5 t) (iblk m c 5 t)) (unr c (hs0_6 t) (iblk m c 6 t)) (unr c (hs0_7 t) (iblk m c 7 t)) (unr c (hs0_8 t) (iblk m c 8 t)) (unr c (hs0_9 t) (iblk m c 9 t)) (unr c (hs0_10 t) (iblk m c 10 t)) (unr c (hs0_11 t) (iblk m c 11 t)) (unr c (hs0_12 t) (iblk m c 12 t))

/-- The proof data: the inputs' blocks stay, the outputs' are what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (ms0_13 t).view.read (Elt F) (at0 m c t).1.1
    | ⟨14, _⟩ => (ms0_14 t).view.read (Elt F) (at0 m c t).1.2.1
    | ⟨15, _⟩ => (ms0_15 t).view.read (Elt F) (at0 m c t).1.2.2.1
    | ⟨16, _⟩ => (ms0_16 t).view.read (Elt F) (at0 m c t).1.2.2.2.1
    | ⟨17, _⟩ => (ms0_17 t).view.read (Elt F) (at0 m c t).1.2.2.2.2.1
    | ⟨18, _⟩ => (ms0_18 t).view.read (Elt F) (at0 m c t).1.2.2.2.2.2.1
    | ⟨19, _⟩ => (ms0_19 t).view.read (Elt F) (at0 m c t).1.2.2.2.2.2.2.1
    | ⟨20, _⟩ => (ms0_20 t).view.read (Elt F) (at0 m c t).1.2.2.2.2.2.2.2.1
    | ⟨_ + 21, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (ms0_13 t).view.read (Elt F) (at0 m c t).1.1 := by dsimp only [dats]
theorem after0_14 (c : Dev nD) (t : Fin cfg0.N) : (dats m 0 c).after 14 t = (ms0_14 t).view.read (Elt F) (at0 m c t).1.2.1 := by dsimp only [dats]
theorem after0_15 (c : Dev nD) (t : Fin cfg0.N) : (dats m 0 c).after 15 t = (ms0_15 t).view.read (Elt F) (at0 m c t).1.2.2.1 := by dsimp only [dats]
theorem after0_16 (c : Dev nD) (t : Fin cfg0.N) : (dats m 0 c).after 16 t = (ms0_16 t).view.read (Elt F) (at0 m c t).1.2.2.2.1 := by dsimp only [dats]
theorem after0_17 (c : Dev nD) (t : Fin cfg0.N) : (dats m 0 c).after 17 t = (ms0_17 t).view.read (Elt F) (at0 m c t).1.2.2.2.2.1 := by dsimp only [dats]
theorem after0_18 (c : Dev nD) (t : Fin cfg0.N) : (dats m 0 c).after 18 t = (ms0_18 t).view.read (Elt F) (at0 m c t).1.2.2.2.2.2.1 := by dsimp only [dats]
theorem after0_19 (c : Dev nD) (t : Fin cfg0.N) : (dats m 0 c).after 19 t = (ms0_19 t).view.read (Elt F) (at0 m c t).1.2.2.2.2.2.2.1 := by dsimp only [dats]
theorem after0_20 (c : Dev nD) (t : Fin cfg0.N) : (dats m 0 c).after 20 t = (ms0_20 t).view.read (Elt F) (at0 m c t).1.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

theorem defs₀_row (t : Fin cfg0.N) :
    defs₀ (F := F) .tc cfg0.body (cfg0.bodyArgs t (cfg0.slots t)) = Gen.bodyAt0 t := by
  unfold defs₀; rw [Defs.onTc_tc]

/-- What the body is called with at a point. -/
def ptPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- What it leaves there. -/
def ptPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 4000000 in
theorem at_point (c : Dev nD) (t : Fin cfg0.N) :
    ptPre m c t ⊢ wp frame (wpE (defs₀ (F := F)) Variants.none c none) Set.univ (bodyAt0 t) (fun _ => ptPost m c t) := by
  unfold ptPre ptPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.castSucc = Pipeline.ΦA spec0 c from rfl, PhiA0_eq]
  iintro ⟨⟨⟨⟨%s0, S0⟩, ⟨%s1, S1⟩⟩, Hr⟩, Ho, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩, ⟨%d9, B9⟩, ⟨%d10, B10⟩, ⟨%d11, B11⟩, ⟨%d12, B12⟩, ⟨%d13, B13⟩, ⟨%d14, B14⟩, ⟨%d15, B15⟩, ⟨%d16, B16⟩, ⟨%d17, B17⟩, ⟨%d18, B18⟩, ⟨%d19, B19⟩, ⟨%d20, B20⟩⟩
  ihave B0 := owns_open c (ms0_0 t) (hs0_0 t) (iblk m c 0 t) $$ B0
  icases B0 with ⟨%f0, %e0, B0⟩
  ihave B1 := owns_open c (ms0_1 t) (hs0_1 t) (iblk m c 1 t) $$ B1
  icases B1 with ⟨%f1, %e1, B1⟩
  ihave B2 := owns_open c (ms0_2 t) (hs0_2 t) (iblk m c 2 t) $$ B2
  icases B2 with ⟨%f2, %e2, B2⟩
  ihave B3 := owns_open c (ms0_3 t) (hs0_3 t) (iblk m c 3 t) $$ B3
  icases B3 with ⟨%f3, %e3, B3⟩
  ihave B4 := owns_open c (ms0_4 t) (hs0_4 t) (iblk m c 4 t) $$ B4
  icases B4 with ⟨%f4, %e4, B4⟩
  ihave B5 := owns_open c (ms0_5 t) (hs0_5 t) (iblk m c 5 t) $$ B5
  icases B5 with ⟨%f5, %e5, B5⟩
  ihave B6 := owns_open c (ms0_6 t) (hs0_6 t) (iblk m c 6 t) $$ B6
  icases B6 with ⟨%f6, %e6, B6⟩
  ihave B7 := owns_open c (ms0_7 t) (hs0_7 t) (iblk m c 7 t) $$ B7
  icases B7 with ⟨%f7, %e7, B7⟩
  ihave B8 := owns_open c (ms0_8 t) (hs0_8 t) (iblk m c 8 t) $$ B8
  icases B8 with ⟨%f8, %e8, B8⟩
  ihave B9 := owns_open c (ms0_9 t) (hs0_9 t) (iblk m c 9 t) $$ B9
  icases B9 with ⟨%f9, %e9, B9⟩
  ihave B10 := owns_open c (ms0_10 t) (hs0_10 t) (iblk m c 10 t) $$ B10
  icases B10 with ⟨%f10, %e10, B10⟩
  ihave B11 := owns_open c (ms0_11 t) (hs0_11 t) (iblk m c 11 t) $$ B11
  icases B11 with ⟨%f11, %e11, B11⟩
  ihave B12 := owns_open c (ms0_12 t) (hs0_12 t) (iblk m c 12 t) $$ B12
  icases B12 with ⟨%f12, %e12, B12⟩
  ihave B13 := owns_open c (ms0_13 t) (hs0_13 t) _ $$ B13
  icases B13 with ⟨%f13, %e13, B13⟩
  ihave B14 := owns_open c (ms0_14 t) (hs0_14 t) _ $$ B14
  icases B14 with ⟨%f14, %e14, B14⟩
  ihave B15 := owns_open c (ms0_15 t) (hs0_15 t) _ $$ B15
  icases B15 with ⟨%f15, %e15, B15⟩
  ihave B16 := owns_open c (ms0_16 t) (hs0_16 t) _ $$ B16
  icases B16 with ⟨%f16, %e16, B16⟩
  ihave B17 := owns_open c (ms0_17 t) (hs0_17 t) _ $$ B17
  icases B17 with ⟨%f17, %e17, B17⟩
  ihave B18 := owns_open c (ms0_18 t) (hs0_18 t) _ $$ B18
  icases B18 with ⟨%f18, %e18, B18⟩
  ihave B19 := owns_open c (ms0_19 t) (hs0_19 t) _ $$ B19
  icases B19 with ⟨%f19, %e19, B19⟩
  ihave B20 := owns_open c (ms0_20 t) (hs0_20 t) _ $$ B20
  icases B20 with ⟨%f20, %e20, B20⟩
  ihave S0 := owns_open c scM0_0 (Memref.isWhole_whole _) _ $$ S0
  icases S0 with ⟨%g0, %es0, S0⟩
  ihave S1 := owns_open c scM0_1 (Memref.isWhole_whole _) _ $$ S1
  icases S1 with ⟨%g1, %es1, S1⟩
  obtain rfl := (hs0_0 t).eq_unread e0
  obtain rfl := (hs0_1 t).eq_unread e1
  obtain rfl := (hs0_2 t).eq_unread e2
  obtain rfl := (hs0_3 t).eq_unread e3
  obtain rfl := (hs0_4 t).eq_unread e4
  obtain rfl := (hs0_5 t).eq_unread e5
  obtain rfl := (hs0_6 t).eq_unread e6
  obtain rfl := (hs0_7 t).eq_unread e7
  obtain rfl := (hs0_8 t).eq_unread e8
  obtain rfl := (hs0_9 t).eq_unread e9
  obtain rfl := (hs0_10 t).eq_unread e10
  obtain rfl := (hs0_11 t).eq_unread e11
  obtain rfl := (hs0_12 t).eq_unread e12
  iapply ((at0 m c t).2 f13 f14 f15 f16 f17 f18 f19 f20 g0 g1 Set.univ _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  isplitl [B20]; · iexact B20
  isplitl [S0]; · iexact S0
  isplitl [S1]; · iexact S1
  iintro ⟨B0, B1, B2, B3, B4, B5, B6, B7, B8, B9, B10, B11, B12, B13, B14, B15, B16, B17, B18, B19, B20, S0, S1⟩
  isplitl [S0 S1 Hr]
  · isplitl [S0 S1]
    · isplitl [S0]
      · iexists _; iapply (owns_close_at c scM0_0 (Memref.isWhole_whole _) _ _ rfl); iexact S0
      iexists _; iapply (owns_close_at c scM0_1 (Memref.isWhole_whole _) _ _ rfl); iexact S1
    iexact Hr
  isplitl [Ho]; · iexact Ho
  isplitl [B0]; · iapply (owns_close_at c (ms0_0 t) (hs0_0 t) _ _ ((hs0_0 t).read_unread _)); iexact B0
  isplitl [B1]; · iapply (owns_close_at c (ms0_1 t) (hs0_1 t) _ _ ((hs0_1 t).read_unread _)); iexact B1
  isplitl [B2]; · iapply (owns_close_at c (ms0_2 t) (hs0_2 t) _ _ ((hs0_2 t).read_unread _)); iexact B2
  isplitl [B3]; · iapply (owns_close_at c (ms0_3 t) (hs0_3 t) _ _ ((hs0_3 t).read_unread _)); iexact B3
  isplitl [B4]; · iapply (owns_close_at c (ms0_4 t) (hs0_4 t) _ _ ((hs0_4 t).read_unread _)); iexact B4
  isplitl [B5]; · iapply (owns_close_at c (ms0_5 t) (hs0_5 t) _ _ ((hs0_5 t).read_unread _)); iexact B5
  isplitl [B6]; · iapply (owns_close_at c (ms0_6 t) (hs0_6 t) _ _ ((hs0_6 t).read_unread _)); iexact B6
  isplitl [B7]; · iapply (owns_close_at c (ms0_7 t) (hs0_7 t) _ _ ((hs0_7 t).read_unread _)); iexact B7
  isplitl [B8]; · iapply (owns_close_at c (ms0_8 t) (hs0_8 t) _ _ ((hs0_8 t).read_unread _)); iexact B8
  isplitl [B9]; · iapply (owns_close_at c (ms0_9 t) (hs0_9 t) _ _ ((hs0_9 t).read_unread _)); iexact B9
  isplitl [B10]; · iapply (owns_close_at c (ms0_10 t) (hs0_10 t) _ _ ((hs0_10 t).read_unread _)); iexact B10
  isplitl [B11]; · iapply (owns_close_at c (ms0_11 t) (hs0_11 t) _ _ ((hs0_11 t).read_unread _)); iexact B11
  isplitl [B12]; · iapply (owns_close_at c (ms0_12 t) (hs0_12 t) _ _ ((hs0_12 t).read_unread _)); iexact B12
  isplitl [B13]; · iapply (owns_close_at c (ms0_13 t) (hs0_13 t) _ _ rfl); iexact B13
  isplitl [B14]; · iapply (owns_close_at c (ms0_14 t) (hs0_14 t) _ _ rfl); iexact B14
  isplitl [B15]; · iapply (owns_close_at c (ms0_15 t) (hs0_15 t) _ _ rfl); iexact B15
  isplitl [B16]; · iapply (owns_close_at c (ms0_16 t) (hs0_16 t) _ _ rfl); iexact B16
  isplitl [B17]; · iapply (owns_close_at c (ms0_17 t) (hs0_17 t) _ _ rfl); iexact B17
  isplitl [B18]; · iapply (owns_close_at c (ms0_18 t) (hs0_18 t) _ _ rfl); iexact B18
  isplitl [B19]; · iapply (owns_close_at c (ms0_19 t) (hs0_19 t) _ _ rfl); iexact B19
  iapply (owns_close_at c (ms0_20 t) (hs0_20 t) _ _ rfl); iexact B20

set_option maxHeartbeats 4000000 in
theorem obligation (c : Dev nD) : BodyObligation (dats (F := F) m 0 c) (defs₀ (F := F)) Variants.none () Set.univ := fun t => by
  rw [bigSep_W0, bigSep_W0, defs₀_row]
  exact triple_restated (at_point m c t) rfl .rfl fun _ => .rfl

set_option backward.isDefEq.respectTransparency.types false in
/-- The run, with every counter at zero. -/
theorem run_counters : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_counters m ρ)

/-- The run: the arguments end as launched and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_post m ρ)) ((θ_run defs _ _).mono (fun _ h => h.2) (run_counters m ρ))

end Cert.Kernel4Ideal.Prj

end
-- ==== Proof.PVal.lean ====
/-
  What a point of the in-projection leaves in each result's buffer.
-/
module

public import proofs.«01_k».proof.Proof.PBody

@[expose] public section

set_option maxRecDepth 16384

noncomputable section

namespace Cert.Kernel4Ideal.Prj

open Cert.Kernel4Ideal Cert.Kernel4Ideal.Gen
open Idealize.ShloMosaic
open Idealize.ShloMosaic.TcCoe

variable {F : FTy → Type} [FloatOps F]

section

variable (i : grid0.Coords) (c : Dev nD)
    (M2 : Memref sig .tc .vmem S1x256x1024 .f32) (h2 : M2.IsWhole) (M3 : Memref sig .tc .vmem S1x8x1024 .f32) (h3 : M3.IsWhole) (M4 : Memref sig .tc .vmem S1x8x1024 .f32) (h4 : M4.IsWhole) (M5 : Memref sig .tc .vmem S1x1x1024 .f32) (h5 : M5.IsWhole) (M6 : Memref sig .tc .vmem S1x1x1024 .f32) (h6 : M6.IsWhole) (M7 : Memref sig .tc .vmem S1x1024 .f32) (h7 : M7.IsWhole) (M8 : Memref sig .tc .vmem S1024x6656 .bf16) (h8 : M8.IsWhole) (M9 : Memref sig .tc .vmem S256x128 .f32) (h9 : M9.IsWhole) (M10 : Memref sig .tc .vmem S256x128 .f32) (h10 : M10.IsWhole) (M11 : Memref sig .tc .vmem S4x128x128 .bf16) (h11 : M11.IsWhole) (M12 : Memref sig .tc .vmem S1x512 .f32) (h12 : M12.IsWhole) (M13 : Memref sig .tc .vmem S3x1536 .f32) (h13 : M13.IsWhole) (M14 : Memref sig .tc .vmem S1x1536 .f32) (h14 : M14.IsWhole) (M15 : Memref sig .tc .vmem S1x256x512 .bf16) (h15 : M15.IsWhole) (M16 : Memref sig .tc .vmem S1x256x512 .f32) (h16 : M16.IsWhole) (M17 : Memref sig .tc .vmem S1x256x512 .f32) (h17 : M17.IsWhole) (M18 : Memref sig .tc .vmem S1x256x512 .f32) (h18 : M18.IsWhole) (M19 : Memref sig .tc .vmem S1x256x3072 .bf16) (h19 : M19.IsWhole) (M20 : Memref sig .tc .vmem S1x256x512 .bf16) (h20 : M20.IsWhole) (M21 : Memref sig .tc .vmem S1x256x512 .bf16) (h21 : M21.IsWhole) (M22 : Memref sig .tc .vmem S1x256x512 .bf16) (h22 : M22.IsWhole) (M23 : Memref sig .tc .vmem S272x512 .f32) (h23 : M23.IsWhole) (M24 : Memref sig .tc .vmem S272x1536 .f32) (h24 : M24.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14)

theorem left13 : (bodyRun i c M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 f2 f3 f4 f5 f6 f7 f8 f9 f10 f11 f12 f13 f14).1.1 = M15.view.writes (Elt F) M15.view.junk (bodyRun.sl.H15_4 i c M2 M3 M4 M5 M6 M7 M8 M11 M12 M23 f2 f3 f4 f5 f6 f7 f8 f11 f12) := by
  unfold bodyRun
  dsimp only

theorem left14 : (bodyRun i c M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 f2 f3 f4 f5 f6 f7 f8 f9 f10 f11 f12 f13 f14).1.2.1 = M16.view.writes (Elt F) M16.view.junk (bodyRun.sl.H16_1 i c M2 M3 M4 M5 M6 M7 M8 M13 M14 M24 f2 f3 f4 f5 f6 f7 f8 f13 f14) := by
  unfold bodyRun
  dsimp only

theorem left15 : (bodyRun i c M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 f2 f3 f4 f5 f6 f7 f8 f9 f10 f11 f12 f13 f14).1.2.2.1 = M17.view.writes (Elt F) M17.view.junk (bodyRun.sl.H17_1 i c M2 M3 M4 M5 M6 M7 M8 M13 M14 M24 f2 f3 f4 f5 f6 f7 f8 f13 f14) := by
  unfold bodyRun
  dsimp only

theorem left16 : (bodyRun i c M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 f2 f3 f4 f5 f6 f7 f8 f9 f10 f11 f12 f13 f14).1.2.2.2.1 = M18.view.writes (Elt F) M18.view.junk (bodyRun.sl.H18_1 i c M2 M3 M4 M5 M6 M7 M8 M13 M14 M24 f2 f3 f4 f5 f6 f7 f8 f13 f14) := by
  unfold bodyRun
  dsimp only

theorem left17 : (bodyRun i c M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 f2 f3 f4 f5 f6 f7 f8 f9 f10 f11 f12 f13 f14).1.2.2.2.2.1 = M19.view.writes (Elt F) M19.view.junk (bodyRun.sl.H19_3 c M2 M5 M6 M7 M8 f2 f5 f6 f7 f8) := by
  unfold bodyRun
  dsimp only

theorem left18 : (bodyRun i c M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 f2 f3 f4 f5 f6 f7 f8 f9 f10 f11 f12 f13 f14).1.2.2.2.2.2.1 = M20.view.writes (Elt F) M20.view.junk (bodyRun.sl.H20_1 c M2 M5 M6 M7 M8 M9 M10 f2 f5 f6 f7 f8 f9 f10) := by
  unfold bodyRun
  dsimp only

theorem left19 : (bodyRun i c M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 f2 f3 f4 f5 f6 f7 f8 f9 f10 f11 f12 f13 f14).1.2.2.2.2.2.2.1 = M21.view.writes (Elt F) M21.view.junk (bodyRun.sl.H21_1 c M2 M5 M6 M7 M8 M9 M10 f2 f5 f6 f7 f8 f9 f10) := by
  unfold bodyRun
  dsimp only

theorem left20 : (bodyRun i c M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 f2 f3 f4 f5 f6 f7 f8 f9 f10 f11 f12 f13 f14).1.2.2.2.2.2.2.2.1 = M22.view.writes (Elt F) M22.view.junk (bodyRun.sl.H22_1 c M2 M5 M6 M7 M8 f2 f5 f6 f7 f8) := by
  unfold bodyRun
  dsimp only

end

end Cert.Kernel4Ideal.Prj
end
-- ==== Proof.Prj.lean ====
/-
  One row of the in-projection, and the reference's results at an index.
-/
module

public import proofs.«01_k».proof.Proof.Gen.Reference4Ideal.Read
public import proofs.«01_k».proof.Proof.Ffn
public import Idealize.ShloMosaic.Lib.Pointwise

@[expose] public section

set_option maxRecDepth 16384

noncomputable section

namespace Cert.Prj

/-- A row against a column of the projection's weights. -/
def dotp (a : Fin 1024 → EReal) (w : Fin 1024 → Fin 6656 → EReal) (j : Fin 6656) : EReal := ∑ k, a k * w k j

end Cert.Prj

namespace Cert.Reference4Ideal.Prj

open Cert.Reference4Ideal Cert.Reference4Ideal.Facts Cert.Reference4Ideal.Read Cert.Ffn Cert.Prj
open Idealize.ShloMosaic
open Idealize.ShloMosaic.TcCoe
open Idealize.ShloMosaic.Pointwise

variable (x0 : (⟨S4x8192x1024, .f32⟩ : BufTy).Contents (Elt Ideal)) (x1 : (⟨S4x1x6144, .f32⟩ : BufTy).Contents (Elt Ideal))
variable (x2 : (⟨S1024, .f32⟩ : BufTy).Contents (Elt Ideal)) (x3 : (⟨S1024x6656, .f32⟩ : BufTy).Contents (Elt Ideal))
variable (b : Fin 4) (n : Fin 8192)

/-- The normalized, modulated row. -/
abbrev aR : Fin 1024 → EReal :=
  modu (fun d => x0 (ix3 b n d)) (fun d => x2 (ix1 d)) (fun d => x1 (ix3 b 0 (⟨d.val, by omega⟩ : Fin 6144)))
    (fun d => x1 (ix3 b 0 (⟨1024 + d.val, by omega⟩ : Fin 6144)))

theorem v24_at (d : Fin 1024) : val_main_v24 (F := Ideal) x0 x1 x2 (ix3 b n d) = aR x0 x1 x2 b n d := by
  unfold val_main_v24 val_main_v22 val_main_v23 val_main_v18 val_main_v21 val_main_v15 val_main_v17 val_main_v16 val_main_v14 val_main_v13
    val_main_v12 val_main_v10 val_main_v11 val_main_v8 val_main_v9 val_main_v7 val_main_v6 val_main_v20 val_main_v19 val_main_v0 val_main_v1
    val_main_cst val_main_cst_0 val_main_cst_1 val_main_cst_2 aR modu rms
  pointwise
  try rfl

/-- An entry of the projection. -/
theorem v25_at (j : Fin 6656) : val_main_v25 (F := Ideal) x0 x1 x2 x3 (ix3 b n j) = dotp (aR x0 x1 x2 b n) (fun k j => x3 (ix2 k j)) j := by
  have h := fun d => v24_at x0 x1 x2 b n d
  unfold val_main_v25 dotp
  generalize val_main_v24 (F := Ideal) x0 x1 x2 = y at h
  pointwise
  simp only [h]
  try rfl

/-- The gates. -/
theorem gates_at (j : Fin 3072) : val_main_v33 (F := Ideal) x0 x1 x2 x3 (ix3 b n j)
    = Ideal.logistic (dotp (aR x0 x1 x2 b n) (fun k j => x3 (ix2 k j)) ⟨3584 + j.val, by omega⟩) := by
  have h := fun d => v25_at x0 x1 x2 x3 b n d
  unfold val_main_v33 val_main_v32 val_main_v31 val_main_v30 val_main_v29 val_main_v28 val_main_v27 val_main_v26 val_main_cst_3 val_main_cst_4
  generalize val_main_v25 (F := Ideal) x0 x1 x2 x3 = y at h
  pointwise
  simp only [h, Ideal.logistic, one_bits]
  try rfl

/-- The values. -/
theorem vals_at (j : Fin 512) : val_main_v35 (F := Ideal) x0 x1 x2 x3 (ix3 b n j)
    = dotp (aR x0 x1 x2 b n) (fun k j => x3 (ix2 k j)) ⟨1024 + j.val, by omega⟩ := by
  have h := fun d => v25_at x0 x1 x2 x3 b n d
  unfold val_main_v35 val_main_v34
  generalize val_main_v25 (F := Ideal) x0 x1 x2 x3 = y at h
  pointwise
  simp only [h]
  try rfl

end Cert.Reference4Ideal.Prj
end
-- ==== Proof.PrjPay.lean ====
/-
  The in-projection's values at an index.
-/
module

public import proofs.«01_k».proof.Proof.Gen.Kernel4Ideal.Skeleton
public import proofs.«01_k».proof.Proof.Prj
public import Idealize.ShloMosaic.Lib.Pointwise

@[expose] public section

set_option maxRecDepth 16384

noncomputable section

namespace Cert.Kernel4Ideal.Prj

open Cert.Kernel4Ideal Cert.Kernel4Ideal.Gen Cert.Ffn Cert.Prj
open Idealize.ShloMosaic
open Idealize.ShloMosaic.TcCoe
open Idealize.ShloMosaic.Pointwise

section Body

variable (g : Vec Ideal S1x1024 .f32) (sh sc : Vec Ideal S1x1x1024 .f32) (x : Vec Ideal S1x256x1024 .f32)

/-- A block's row, normalized and modulated. -/
theorem pay6_at (r : Fin 256) (d : Fin 1024) : k0_pay6 g sh sc x (ix2 r d)
    = modu (fun d => x (ix3 0 r d)) (fun d => g (ix2 0 d)) (fun d => sh (ix3 0 0 d)) (fun d => sc (ix3 0 0 d)) d := by
  unfold modu rms
  rw [one_bits]
  pointwise [k0_pay6, k0_pay5, k0_pay4, k0_pay3, k0_pay2]

variable (v26 : FVec Ideal S256x1024 .bf16) (r : Fin 256) (a : Fin 1024 → EReal) (ha : ∀ d, v26 (ix2 r d) = a d)
include ha

theorem pay20_at (w : Vec Ideal S1024x1024 .bf16) (j : Fin 1024) :
    k0_pay20 v26 w (ix3 0 r j) = Ideal.logistic (∑ k, a k * w (ix2 k j)) := by
  simp only [← ha]
  pointwise [k0_pay20]

theorem pay24_at (w : Vec Ideal S1024x1024 .bf16) (j : Fin 1024) :
    k0_pay24 v26 w (ix3 0 r j) = Ideal.logistic (∑ k, a k * w (ix2 k j)) := by
  simp only [← ha]
  pointwise [k0_pay24]

theorem pay28_at (w : Vec Ideal S1024x1024 .bf16) (j : Fin 1024) :
    k0_pay28 v26 (k0_pay27 w) (constant S256x1024 .f32 0x00000000#32) (ix3 0 r j) = Ideal.logistic (∑ k, a k * w (ix2 k j)) := by
  simp only [← ha]
  pointwise [k0_pay28, k0_pay27]

theorem pay53_at (w : Vec Ideal S1024x512 .bf16) (j : Fin 512) : k0_pay53 v26 w (ix3 0 r j) = ∑ k, a k * w (ix2 k j) := by
  simp only [← ha]
  pointwise [k0_pay53]

end Body

end Cert.Kernel4Ideal.Prj
end
-- ==== Proof.PrjBlk.lean ====
/-
  The blocks the in-projection's points read, at an index of the arguments.
-/
module

public import proofs.«01_k».proof.Proof.PFrame
public import proofs.«01_k».proof.Proof.PrjPay
public import Idealize.ShloMosaic.Lib.VecWindow

@[expose] public section

set_option maxRecDepth 16384

noncomputable section

namespace Cert.Kernel4Ideal.Prj

open Cert.Kernel4Ideal Cert.Kernel4Ideal.Gen Cert.Ffn Cert.Prj
open Idealize.ShloMosaic
open Idealize.ShloMosaic.TcCoe
open Idealize.ShloMosaic.Pointwise
open Idealize.ShloMosaic.Pipeline (Window)

/-- A load of a buffer that reads `X` is `X` at the load's places. -/
theorem load_unr (c : Dev nD) {sp : Space} {S : Shape} {e : EltTy} {M : Memref sig .tc sp S e} (h : M.IsWhole) (X : S.Idx → Elt Ideal e) (R : Rect S) :
    View.readAt (Elt Ideal) M.view R.toLoadRect (unr c h X) = fun j => X (R.toLoadRect.idx j) := by
  funext j
  rw [View.readAt_apply, Memref.IsWhole.read_unread]

/-- A whole load of it is `X`. -/
theorem load_full (c : Dev nD) {sp : Space} {S : Shape} {e : EltTy} {M : Memref sig .tc sp S e} (h : M.IsWhole) (X : S.Idx → Elt Ideal e)
    {off : Fin S.rank → ℕ} (inb : ∀ a, off a + S.size a ≤ S.size a) :
    View.readAt (Elt Ideal) M.view (Rect.unit off S.size inb).toLoadRect (unr c h X) = X :=
  (View.readAt_full M.view _ inb).trans (h.read_unread X)

variable (m : (ℓ : Loc nD τ sig) → Buf (Elt Ideal) ℓ) (c : Dev nD)

theorem V_v0 : Gen.V m c main_v0 = (m ((c.tc : Thread nD τ).loc main_arg3) : FVec Ideal S1024x6656 .f32) := by
  rfl

theorem V_v41 : Gen.V m c main_v41 = shapeCast S1x1024 (m ((c.tc : Thread nD τ).loc main_arg2) : FVec Ideal S1024 .f32) shapeCasts_S1024_S1x1024 := by
  rfl

/-- A point's batch. -/
def bT (t : Fin cfg0.N) : Fin 4 := ⟨t.val / 32, by have : t.val < 128 := t.isLt; omega⟩

/-- A block's row in the sequence. -/
def nT (t : Fin cfg0.N) (r : Fin 256) : Fin 8192 := ⟨256 * (t.val % 32) + r.val, by omega⟩

theorem index0 : ∀ t : Fin grid0.N, (cfg0.win 0).index t 0 = t.val / 32 ∧ (cfg0.win 0).index t 1 = t.val % 32 ∧ (cfg0.win 0).index t 2 = 0 := by decide +kernel
theorem index3 : ∀ t : Fin grid0.N, (cfg0.win 3).index t 0 = t.val / 32 ∧ (cfg0.win 3).index t 1 = 0 ∧ (cfg0.win 3).index t 2 = 0 := by decide +kernel
theorem index4 : ∀ t : Fin grid0.N, (cfg0.win 4).index t 0 = t.val / 32 ∧ (cfg0.win 4).index t 1 = 0 ∧ (cfg0.win 4).index t 2 = 1 := by decide +kernel
theorem index5 : ∀ t : Fin grid0.N, (cfg0.win 5).index t 0 = 0 ∧ (cfg0.win 5).index t 1 = 0 := by decide +kernel
theorem index6 : ∀ t : Fin grid0.N, (cfg0.win 6).index t 0 = 0 ∧ (cfg0.win 6).index t 1 = 0 := by decide +kernel

variable (t : Fin cfg0.N)

theorem h_at (r : Fin 256) (d : Fin 1024) :
    (iblk m c 0 t : S1x256x1024.Idx → EReal) (ix3 0 r d) = (m ((c.tc : Thread nD τ).loc main_arg0) : FVec Ideal S4x8192x1024 .f32) (ix3 (bT t) (nT t r) d) := by
  rw [← Gen.V_main_arg0 m c]
  show Gen.V m c main_arg0 (((cfg0.win 0).rect t).emb (ix3 0 r d)) = _
  congr 1
  obtain ⟨h0, h1, h2⟩ := index0 t
  funext a
  apply Fin.ext
  refine ((cfg0.win 0).rect_emb_val t (ix3 0 r d) a).trans ?_
  match a with
  | ⟨0, _⟩ => show (cfg0.win 0).index t 0 * 1 + 0 = t.val / 32; rw [h0]; omega
  | ⟨1, _⟩ => show (cfg0.win 0).index t 1 * 256 + r.val = 256 * (t.val % 32) + r.val; rw [h1]; omega
  | ⟨2, _⟩ => show (cfg0.win 0).index t 2 * 1024 + d.val = d.val; rw [h2]; omega

theorem sh_at (d : Fin 1024) :
    (iblk m c 3 t : S1x1x1024.Idx → EReal) (ix3 0 0 d) = (m ((c.tc : Thread nD τ).loc main_arg1) : FVec Ideal S4x1x6144 .f32) (ix3 (bT t) 0 (⟨d.val, by omega⟩ : Fin 6144)) := by
  rw [← Gen.V_main_arg1 m c]
  show Gen.V m c main_arg1 (((cfg0.win 3).rect t).emb (ix3 0 0 d)) = _
  congr 1
  obtain ⟨h0, h1, h2⟩ := index3 t
  funext a
  apply Fin.ext
  refine ((cfg0.win 3).rect_emb_val t (ix3 0 0 d) a).trans ?_
  match a with
  | ⟨0, _⟩ => show (cfg0.win 3).index t 0 * 1 + 0 = t.val / 32; rw [h0]; omega
  | ⟨1, _⟩ => show (cfg0.win 3).index t 1 * 1 + 0 = 0; rw [h1]
  | ⟨2, _⟩ => show (cfg0.win 3).index t 2 * 1024 + d.val = d.val; rw [h2]; omega

theorem sc_at (d : Fin 1024) :
    (iblk m c 4 t : S1x1x1024.Idx → EReal) (ix3 0 0 d) = (m ((c.tc : Thread nD τ).loc main_arg1) : FVec Ideal S4x1x6144 .f32) (ix3 (bT t) 0 (⟨1024 + d.val, by omega⟩ : Fin 6144)) := by
  rw [← Gen.V_main_arg1 m c]
  show Gen.V m c main_arg1 (((cfg0.win 4).rect t).emb (ix3 0 0 d)) = _
  congr 1
  obtain ⟨h0, h1, h2⟩ := index4 t
  funext a
  apply Fin.ext
  refine ((cfg0.win 4).rect_emb_val t (ix3 0 0 d) a).trans ?_
  match a with
  | ⟨0, _⟩ => show (cfg0.win 4).index t 0 * 1 + 0 = t.val / 32; rw [h0]; omega
  | ⟨1, _⟩ => show (cfg0.win 4).index t 1 * 1 + 0 = 0; rw [h1]
  | ⟨2, _⟩ => show (cfg0.win 4).index t 2 * 1024 + d.val = 1024 + d.val; rw [h2]

theorem g_at (d : Fin 1024) :
    (iblk m c 5 t : S1x1024.Idx → EReal) (ix2 0 d) = (m ((c.tc : Thread nD τ).loc main_arg2) : FVec Ideal S1024 .f32) (ix1 d) := by
  have h := V_v41 m c
  obtain ⟨h0, h1⟩ := index5 t
  have e : ((cfg0.win 5).rect t).emb (ix2 0 d) = (ix2 0 d : S1x1024.Idx) := by
    funext a
    apply Fin.ext
    refine ((cfg0.win 5).rect_emb_val t (ix2 0 d) a).trans ?_
    match a with
    | ⟨0, _⟩ => show (cfg0.win 5).index t 0 * 1 + 0 = 0; rw [h0]
    | ⟨1, _⟩ => show (cfg0.win 5).index t 1 * 1024 + d.val = d.val; rw [h1]; omega
  show Gen.V m c main_v41 (((cfg0.win 5).rect t).emb (ix2 0 d)) = _
  rw [e, h]
  generalize (m ((c.tc : Thread nD τ).loc main_arg2) : FVec Ideal S1024 .f32) = y
  pointwise

theorem w_at (k : Fin 1024) (j : Fin 6656) :
    (iblk m c 6 t : S1024x6656.Idx → EReal) (ix2 k j) = (m ((c.tc : Thread nD τ).loc main_arg3) : FVec Ideal S1024x6656 .f32) (ix2 k j) := by
  obtain ⟨h0, h1⟩ := index6 t
  have e : ((cfg0.win 6).rect t).emb (ix2 k j) = (ix2 k j : S1024x6656.Idx) := by
    funext a
    apply Fin.ext
    refine ((cfg0.win 6).rect_emb_val t (ix2 k j) a).trans ?_
    match a with
    | ⟨0, _⟩ => show (cfg0.win 6).index t 0 * 1024 + k.val = k.val; rw [h0]; omega
    | ⟨1, _⟩ => show (cfg0.win 6).index t 1 * 6656 + j.val = j.val; rw [h1]; omega
  show Gen.V m c main_v0 (((cfg0.win 6).rect t).emb (ix2 k j)) = _
  rw [e, V_v0]

/-- The point's normalized, modulated rows. -/
abbrev act : FVec Ideal S256x1024 .bf16 :=
  bodyRun.sl.r_4 c (ms0_0 t) (ms0_3 t) (ms0_4 t) (ms0_5 t) (unr c (hs0_0 t) (iblk m c 0 t)) (unr c (hs0_3 t) (iblk m c 3 t))
    (unr c (hs0_4 t) (iblk m c 4 t)) (unr c (hs0_5 t) (iblk m c 5 t))

theorem act_at (r : Fin 256) (d : Fin 1024) :
    act m c t (ix2 r d) = Cert.Reference4Ideal.Prj.aR (m ((c.tc : Thread nD τ).loc main_arg0)) (m ((c.tc : Thread nD τ).loc main_arg1))
      (m ((c.tc : Thread nD τ).loc main_arg2)) (bT t) (nT t r) d := by
  have e : act m c t = k0_pay6 (iblk m c 5 t) (iblk m c 3 t) (iblk m c 4 t) (iblk m c 0 t) := by
    unfold act bodyRun.sl.r_4
    rw [load_full (S := S1x1024), load_full (S := S1x1x1024), load_full (S := S1x1x1024), load_full (S := S1x256x1024)]
  rw [e, pay6_at]
  congr 1
  · exact funext fun d => h_at m c t r d
  · exact funext fun d => g_at m c t d
  · exact funext fun d => sh_at m c t d
  · exact funext fun d => sc_at m c t d

end Cert.Kernel4Ideal.Prj
end
-- ==== Proof.PrjOut.lean ====
/-
  The gates and the values the in-projection's points leave are the reference's, and so the whole arrays are.
-/
module

public import proofs.«01_k».proof.Proof.PVal
public import proofs.«01_k».proof.Proof.PrjBlk

@[expose] public section

set_option maxRecDepth 16384

noncomputable section

namespace Cert.Kernel4Ideal.Prj

open Cert.Kernel4Ideal Cert.Kernel4Ideal.Gen Cert.Ffn Cert.Prj
open Idealize.ShloMosaic
open Idealize.ShloMosaic.TcCoe
open Idealize.ShloMosaic.Pointwise
open Idealize.ShloMosaic.Pipeline (Window)

variable (m : (ℓ : Loc nD τ sig) → Buf (Elt Ideal) ℓ) (c : Dev nD)

/-- The reference's gates of the kernel's arguments. -/
abbrev refG : S4x8192x3072.Idx → EReal :=
  Cert.Reference4Ideal.Read.val_main_v33 (F := Ideal) (m ((c.tc : Thread nD τ).loc main_arg0)) (m ((c.tc : Thread nD τ).loc main_arg1))
    (m ((c.tc : Thread nD τ).loc main_arg2)) (m ((c.tc : Thread nD τ).loc main_arg3))

/-- The reference's values of the kernel's arguments. -/
abbrev refV : S4x8192x512.Idx → EReal :=
  Cert.Reference4Ideal.Read.val_main_v35 (F := Ideal) (m ((c.tc : Thread nD τ).loc main_arg0)) (m ((c.tc : Thread nD τ).loc main_arg1))
    (m ((c.tc : Thread nD τ).loc main_arg2)) (m ((c.tc : Thread nD τ).loc main_arg3))

/-- An entry of the projection, from the kernel's arguments. -/
abbrev ent (b : Fin 4) (n : Fin 8192) (j : Fin 6656) : EReal :=
  dotp (Cert.Reference4Ideal.Prj.aR (m ((c.tc : Thread nD τ).loc main_arg0)) (m ((c.tc : Thread nD τ).loc main_arg1))
    (m ((c.tc : Thread nD τ).loc main_arg2)) b n) (fun k j => (m ((c.tc : Thread nD τ).loc main_arg3) : FVec Ideal S1024x6656 .f32) (ix2 k j)) j

variable (t : Fin cfg0.N)

/-- A column of the weights' block, loaded from a column on. -/
theorem wload_at {n : Nat} (o : Nat) (ho : o + n ≤ 6656) (inb) (k : Fin 1024) (j : Fin n) :
    View.readAt (Elt Ideal) (ms0_6 t).view (Rect.unit (s := S1024x6656) ![0, o] ![1024, n] inb).toLoadRect (unr c (hs0_6 t) (iblk m c 6 t)) (ix2 k j)
      = (m ((c.tc : Thread nD τ).loc main_arg3) : FVec Ideal S1024x6656 .f32) (ix2 k ⟨o + j.val, by omega⟩) := by
  rw [load_unr]
  refine Eq.trans ?_ (w_at m c t k ⟨o + j.val, by omega⟩)
  show (iblk m c 6 t : S1024x6656.Idx → EReal) _ = (iblk m c 6 t : S1024x6656.Idx → EReal) _
  congr 1
  funext a
  apply Fin.ext
  match a with
  | ⟨0, _⟩ => show 0 + 1 * k.val = k.val; omega
  | ⟨1, _⟩ => show o + 1 * j.val = o + j.val; omega

/-- What a point leaves in its block of the values. -/
theorem out20_at (r : Fin 256) (j : Fin 512) : (dats m 0 c).after 20 t (ix3 0 r j) = refV m c (ix3 (bT t) (nT t r) j) := by
  rw [refV, Cert.Reference4Ideal.Prj.vals_at, after0_20]
  rw [left20]
  rw [View.read_writes_junk_eq_canon]
  unfold bodyRun.sl.H22_1
  refine (View.canon_apply_of_pieces (fun y : S1x256x512.Idx => ent m c (bT t) (nT t (y 1)) ⟨1024 + (y 2).val, by have : (y 2).val < 512 := (y 2).isLt; omega⟩)
    _ ?_ (ix3 0 r j) (View.cover_of_tiled _ S1x256x512.size rfl _)).trans rfl
  intro pc hpc
  rcases List.mem_cons.mp hpc with rfl | hpc
  · intro x
    obtain ⟨i0, r', j', rfl⟩ : ∃ (i0 : Fin 1) (r' : Fin 256) (j' : Fin 512), x = ix3 i0 r' j' := ⟨x 0, x 1, x 2, funext fun a => by fin_cases a <;> rfl⟩
    obtain rfl : i0 = 0 := Subsingleton.elim _ _
    refine (pay53_at _ r' _ (fun d => act_at m c t r' d) _ j').trans ?_
    unfold ent dotp
    refine Finset.sum_congr rfl fun k _ => ?_
    refine congrArg₂ (fun a b : EReal => a * b) ?_ ((wload_at m c t 1024 (by omega) _ k j').trans ?_)
    · congr 2; apply Fin.ext; show r'.val = 0 + 1 * r'.val; omega
    · congr 2; apply Fin.ext; show 1024 + j'.val = 1024 + (0 + 1 * j'.val); omega
  nomatch hpc

/-- What a point leaves in its block of the gates. -/
theorem out17_at (r : Fin 256) (j : Fin 3072) : (dats m 0 c).after 17 t (ix3 0 r j) = refG m c (ix3 (bT t) (nT t r) j) := by
  rw [refG, Cert.Reference4Ideal.Prj.gates_at, after0_17]
  rw [left17]
  rw [View.read_writes_junk_eq_canon]
  unfold bodyRun.sl.H19_3 bodyRun.sl.H19_2 bodyRun.sl.H19_1
  refine (View.canon_apply_of_pieces (fun y : S1x256x3072.Idx => Ideal.logistic (ent m c (bT t) (nT t (y 1)) ⟨3584 + (y 2).val, by have : (y 2).val < 3072 := (y 2).isLt; omega⟩))
    _ ?_ (ix3 0 r j) (View.cover_of_tiled _ ![1, 256, 1024] rfl _)).trans rfl
  intro pc hpc
  rcases List.mem_cons.mp hpc with rfl | hpc
  · intro x
    obtain ⟨i0, r', j', rfl⟩ : ∃ (i0 : Fin 1) (r' : Fin 256) (j' : Fin 1024), x = ix3 i0 r' j' := ⟨x 0, x 1, x 2, funext fun a => by fin_cases a <;> rfl⟩
    obtain rfl : i0 = 0 := Subsingleton.elim _ _
    refine (pay28_at _ r' _ (fun d => act_at m c t r' d) _ j').trans ?_
    unfold ent dotp
    congr 1
    refine Finset.sum_congr rfl fun k _ => ?_
    refine congrArg₂ (fun a b : EReal => a * b) ?_ ((wload_at m c t 5632 (by omega) _ k j').trans ?_)
    · congr 2; apply Fin.ext; show r'.val = 0 + 1 * r'.val; omega
    · congr 2; apply Fin.ext; show 5632 + j'.val = 3584 + (2048 + 1 * j'.val); omega
  rcases List.mem_cons.mp hpc with rfl | hpc
  · intro x
    obtain ⟨i0, r', j', rfl⟩ : ∃ (i0 : Fin 1) (r' : Fin 256) (j' : Fin 1024), x = ix3 i0 r' j' := ⟨x 0, x 1, x 2, funext fun a => by fin_cases a <;> rfl⟩
    obtain rfl : i0 = 0 := Subsingleton.elim _ _
    refine (pay24_at _ r' _ (fun d => act_at m c t r' d) _ j').trans ?_
    unfold ent dotp
    congr 1
    refine Finset.sum_congr rfl fun k _ => ?_
    refine congrArg₂ (fun a b : EReal => a * b) ?_ ((wload_at m c t 4608 (by omega) _ k j').trans ?_)
    · congr 2; apply Fin.ext; show r'.val = 0 + 1 * r'.val; omega
    · congr 2; apply Fin.ext; show 4608 + j'.val = 3584 + (1024 + 1 * j'.val); omega
  rcases List.mem_cons.mp hpc with rfl | hpc
  · intro x
    obtain ⟨i0, r', j', rfl⟩ : ∃ (i0 : Fin 1) (r' : Fin 256) (j' : Fin 1024), x = ix3 i0 r' j' := ⟨x 0, x 1, x 2, funext fun a => by fin_cases a <;> rfl⟩
    obtain rfl : i0 = 0 := Subsingleton.elim _ _
    refine (pay20_at _ r' _ (fun d => act_at m c t r' d) _ j').trans ?_
    unfold ent dotp
    congr 1
    refine Finset.sum_congr rfl fun k _ => ?_
    refine congrArg₂ (fun a b : EReal => a * b) ?_ ((wload_at m c t 3584 (by omega) _ k j').trans ?_)
    · congr 2; apply Fin.ext; show r'.val = 0 + 1 * r'.val; omega
    · congr 2; apply Fin.ext; show 3584 + j'.val = 3584 + (0 + 1 * j'.val); omega
  nomatch hpc

end Cert.Kernel4Ideal.Prj
end
-- ==== Proof.PrjArr.lean ====
/-
  The result arrays after the run of the in-projection are the reference's results.
-/
module

public import proofs.«01_k».proof.Proof.PrjOut

@[expose] public section

set_option maxRecDepth 16384

noncomputable section

namespace Cert.Kernel4Ideal.Prj

open Cert.Kernel4Ideal Cert.Kernel4Ideal.Gen Cert.Ffn Cert.Prj
open Idealize.ShloMosaic
open Idealize.ShloMosaic.TcCoe
open Idealize.ShloMosaic.Pointwise
open Idealize.ShloMosaic.Pipeline (Window)

variable (m : (ℓ : Loc nD τ sig) → Buf (Elt Ideal) ℓ) (c : Dev nD) (t : Fin cfg0.N)

theorem index17 : ∀ t : Fin grid0.N, (cfg0.win 17).index t 0 = t.val / 32 ∧ (cfg0.win 17).index t 1 = t.val % 32 ∧ (cfg0.win 17).index t 2 = 0 := by decide +kernel
theorem flush17 : ∀ t : Fin grid0.N, (cfg0.win 17).flush t = true := by decide +kernel
theorem apart17 : ∀ t t' : Fin cfg0.N, win0_17.index t = win0_17.index t' → t = t' :=
  (by decide +kernel : ∀ t t' : Fin grid0.N, win0_17.index t = win0_17.index t' → t = t')

/-- Where a block's index lies in the array. -/
theorem emb17 (r : Fin 256) (d : Fin 3072) : ((cfg0.win 17).blk t).view.emb (ix3 0 r d) = ix3 (bT t) (nT t r) d := by
  obtain ⟨h0, h1, h2⟩ := index17 t
  funext a
  apply Fin.ext
  refine ((cfg0.win 17).rect_emb_val t (ix3 0 r d) a).trans ?_
  match a with
  | ⟨0, _⟩ => show (cfg0.win 17).index t 0 * 1 + 0 = t.val / 32; rw [h0]; omega
  | ⟨1, _⟩ => show (cfg0.win 17).index t 1 * 256 + r.val = 256 * (t.val % 32) + r.val; rw [h1]; omega
  | ⟨2, _⟩ => show (cfg0.win 17).index t 2 * 3072 + d.val = d.val; rw [h2]; omega

/-- The array after the run is the reference's result. -/
theorem arr17_eq : (dats m 0 c).arrAt 17 cfg0.N = refG m c := by
  funext i
  have h0 : (i 0).val < 4 := (i 0).isLt
  have h1 : (i 1).val < 8192 := (i 1).isLt
  have h2 : (i 2).val < 3072 := (i 2).isLt
  let t : Fin cfg0.N := ⟨32 * (i 0).val + (i 1).val / 256, by show _ < 128; omega⟩
  let r : Fin 256 := ⟨(i 1).val % 256, by omega⟩
  let d : Fin 3072 := ⟨(i 2).val, h2⟩
  have hi : i = ix3 (bT t) (nT t r) d := by
    funext a
    apply Fin.ext
    match a with
    | ⟨0, _⟩ => show (i 0).val = (32 * (i 0).val + (i 1).val / 256) / 32; omega
    | ⟨1, _⟩ => show (i 1).val = 256 * ((32 * (i 0).val + (i 1).val / 256) % 32) + (i 1).val % 256; omega
    | ⟨2, _⟩ => rfl
  have hb : ((cfg0.win 17).blk t).view.read (Elt Ideal) ((dats m 0 c).arrAt 17 cfg0.N) = (dats m 0 c).flushed 17 t :=
    (dats m 0 c).read_blk_arrAt_eq_flushed 17 (fun t t' _ _ hne => (cfg0.win 17).disjoint_blk fun h => hne (apart17 t t' h)) cfg0.N t t.isLt (flush17 t)
  have hb' : (dats m 0 c).arrAt 17 cfg0.N (((cfg0.win 17).blk t).view.emb (ix3 0 r d)) = refG m c (ix3 (bT t) (nT t r) d) :=
    (congrFun hb (ix3 0 r d)).trans (out17_at m c t r d)
  rw [emb17] at hb'
  rw [hi]
  exact hb'

theorem index20 : ∀ t : Fin grid0.N, (cfg0.win 20).index t 0 = t.val / 32 ∧ (cfg0.win 20).index t 1 = t.val % 32 ∧ (cfg0.win 20).index t 2 = 0 := by decide +kernel
theorem flush20 : ∀ t : Fin grid0.N, (cfg0.win 20).flush t = true := by decide +kernel
theorem apart20 : ∀ t t' : Fin cfg0.N, win0_20.index t = win0_20.index t' → t = t' :=
  (by decide +kernel : ∀ t t' : Fin grid0.N, win0_20.index t = win0_20.index t' → t = t')

/-- Where a block's index lies in the array. -/
theorem emb20 (r : Fin 256) (d : Fin 512) : ((cfg0.win 20).blk t).view.emb (ix3 0 r d) = ix3 (bT t) (nT t r) d := by
  obtain ⟨h0, h1, h2⟩ := index20 t
  funext a
  apply Fin.ext
  refine ((cfg0.win 20).rect_emb_val t (ix3 0 r d) a).trans ?_
  match a with
  | ⟨0, _⟩ => show (cfg0.win 20).index t 0 * 1 + 0 = t.val / 32; rw [h0]; omega
  | ⟨1, _⟩ => show (cfg0.win 20).index t 1 * 256 + r.val = 256 * (t.val % 32) + r.val; rw [h1]; omega
  | ⟨2, _⟩ => show (cfg0.win 20).index t 2 * 512 + d.val = d.val; rw [h2]; omega

set_option maxHeartbeats 2000000 in
/-- The array after the run is the reference's result. -/
theorem arr20_eq : (dats m 0 c).arrAt 20 cfg0.N = refV m c := by
  funext i
  have h0 : (i 0).val < 4 := (i 0).isLt
  have h1 : (i 1).val < 8192 := (i 1).isLt
  have h2 : (i 2).val < 512 := (i 2).isLt
  let t : Fin cfg0.N := ⟨32 * (i 0).val + (i 1).val / 256, by show _ < 128; omega⟩
  let r : Fin 256 := ⟨(i 1).val % 256, by omega⟩
  let d : Fin 512 := ⟨(i 2).val, h2⟩
  have hi : i = ix3 (bT t) (nT t r) d := by
    funext a
    apply Fin.ext
    match a with
    | ⟨0, _⟩ => show (i 0).val = (32 * (i 0).val + (i 1).val / 256) / 32; omega
    | ⟨1, _⟩ => show (i 1).val = 256 * ((32 * (i 0).val + (i 1).val / 256) % 32) + (i 1).val % 256; omega
    | ⟨2, _⟩ => rfl
  have hb : ((cfg0.win 20).blk t).view.read (Elt Ideal) ((dats m 0 c).arrAt 20 cfg0.N) = (dats m 0 c).flushed 20 t :=
    (dats m 0 c).read_blk_arrAt_eq_flushed 20 (fun t t' _ _ hne => (cfg0.win 20).disjoint_blk fun h => hne (apart20 t t' h)) cfg0.N t t.isLt (flush20 t)
  have hb' : (dats m 0 c).arrAt 20 cfg0.N (((cfg0.win 20).blk t).view.emb (ix3 0 r d)) = refV m c (ix3 (bT t) (nT t r) d) :=
    by
      refine (congrFun hb (ix3 0 r d)).trans ?_
      have he : (dats m 0 c).flushed 20 t = (cfg0.win 20).cut (grid0.coords t) ((dats m 0 c).after 20 t) := rfl
      rw [he]
      exact out20_at m c t r d
  rw [emb20] at hb'
  rw [hi]
  exact hb'

end Cert.Kernel4Ideal.Prj
end
-- ==== Proof.PrjConv.lean ====
/-
  The short convolution over the padded projection, and the reference's at an index.
-/
module

public import proofs.«01_k».proof.Proof.Prj

@[expose] public section

set_option maxRecDepth 16384

noncomputable section

namespace Cert.Prj

/-- A column's entries, at their token plus eight, with zeros around them. -/
def padded (e : Fin 8192 → EReal) (s : ℕ) : EReal := if h : 8 ≤ s ∧ s < 8200 then e ⟨s - 8, by omega⟩ else 0

/-- Three entries in a row against three weights, with the bias. -/
def conv (e : Fin 8192 → EReal) (w : Fin 3 → EReal) (z : EReal) (s : ℕ) : EReal :=
  padded e (s + 7) * w 0 + padded e (s + 8) * w 1 + padded e (s + 9) * w 2 + z

end Cert.Prj

namespace Cert.Reference4Ideal.Prj

open Cert.Reference4Ideal Cert.Reference4Ideal.Facts Cert.Reference4Ideal.Read Cert.Ffn Cert.Prj
open Idealize.ShloMosaic
open Idealize.ShloMosaic.TcCoe
open Idealize.ShloMosaic.Pointwise

variable (x0 : (⟨S4x8192x1024, .f32⟩ : BufTy).Contents (Elt Ideal)) (x1 : (⟨S4x1x6144, .f32⟩ : BufTy).Contents (Elt Ideal))
variable (x2 : (⟨S1024, .f32⟩ : BufTy).Contents (Elt Ideal)) (x3 : (⟨S1024x6656, .f32⟩ : BufTy).Contents (Elt Ideal))
variable (x6 : (⟨S3x1536, .f32⟩ : BufTy).Contents (Elt Ideal)) (x7 : (⟨S1536, .f32⟩ : BufTy).Contents (Elt Ideal))
variable (b : Fin 4)

/-- A column of the projection, over the tokens. -/
abbrev colR (j : Fin 6656) (n : Fin 8192) : EReal := dotp (aR x0 x1 x2 b n) (fun k j => x3 (ix2 k j)) j

theorem v37_at (p : Fin 8194) (j : Fin 1536) :
    val_main_v37 (F := Ideal) x0 x1 x2 x3 (ix3 b p j) = padded (colR x0 x1 x2 x3 b ⟨2048 + j.val, by omega⟩) (p.val + 7) := by
  have h := fun n d => v25_at x0 x1 x2 x3 b n d
  have hz : val_main_call0_v0 (F := Ideal) (fun a => a.elim0) = 0 := by
    unfold val_main_call0_v0 val_main_c
    pointwise
    simp [FloatOps.sitofp]
  unfold val_main_v37 val_main_v36
  generalize val_main_v25 (F := Ideal) x0 x1 x2 x3 = y at h
  generalize val_main_call0_v0 (F := Ideal) = z at hz
  pointwise
  simp only [h]
  unfold padded
  have hf : (Shape.Idx.first Gen.h_S_ : S_.Idx) = fun a => a.elim0 := funext fun a => a.elim0
  by_cases hp : 1 ≤ p.val ∧ p.val - 1 < 8192
  · rw [dif_pos hp, dif_pos (by omega)]
    unfold colR
    congr 3
  · rw [dif_neg hp, dif_neg (by omega), hf, hz]

theorem v60_at (n : Fin 8192) (j : Fin 1536) : val_main_v60 (F := Ideal) x0 x1 x2 x3 x6 x7 (ix3 b n j)
    = conv (colR x0 x1 x2 x3 b ⟨2048 + j.val, by omega⟩) (fun a => x6 (ix2 a j)) (x7 (ix1 j)) n.val := by
  have h := fun p d => v37_at x0 x1 x2 x3 b p d
  unfold val_main_v60 val_main_v59 val_main_v58 val_main_v57 val_main_v56 val_main_v55 val_main_v54 val_main_v53 val_main_v52 val_main_v51
    val_main_v50 val_main_v49 val_main_v48 val_main_v47 val_main_v46 val_main_v45 val_main_v44 val_main_v43 val_main_v42 val_main_v41
    val_main_v40 val_main_v39 val_main_v38 conv
  generalize val_main_v37 (F := Ideal) x0 x1 x2 x3 = y at h
  pointwise
  simp only [h]
  rw [show 1 + n.val + 7 = n.val + 8 by omega, show 2 + n.val + 7 = n.val + 9 by omega]

theorem v61_at (n : Fin 8192) (j : Fin 512) : val_main_v61 (F := Ideal) x0 x1 x2 x3 x6 x7 (ix3 b n j)
    = conv (colR x0 x1 x2 x3 b ⟨2048 + j.val, by omega⟩) (fun a => x6 (ix2 a (⟨0 + j.val, by omega⟩ : Fin 1536))) (x7 (ix1 (⟨0 + j.val, by omega⟩ : Fin 1536))) n.val := by
  have h := v60_at x0 x1 x2 x3 x6 x7 b n (⟨0 + j.val, by omega⟩ : Fin 1536)
  have e : (⟨2048 + (0 + j.val), by omega⟩ : Fin 6656) = ⟨2048 + j.val, by omega⟩ := Fin.ext (by show 2048 + (0 + j.val) = 2048 + j.val; omega)
  rw [e] at h
  rw [← h]
  unfold val_main_v61
  generalize val_main_v60 (F := Ideal) x0 x1 x2 x3 x6 x7 = y
  pointwise
  try simp

theorem v62_at (n : Fin 8192) (j : Fin 512) : val_main_v62 (F := Ideal) x0 x1 x2 x3 x6 x7 (ix3 b n j)
    = conv (colR x0 x1 x2 x3 b ⟨2560 + j.val, by omega⟩) (fun a => x6 (ix2 a (⟨512 + j.val, by omega⟩ : Fin 1536))) (x7 (ix1 (⟨512 + j.val, by omega⟩ : Fin 1536))) n.val := by
  have h := v60_at x0 x1 x2 x3 x6 x7 b n (⟨512 + j.val, by omega⟩ : Fin 1536)
  have e : (⟨2048 + (512 + j.val), by omega⟩ : Fin 6656) = ⟨2560 + j.val, by omega⟩ := Fin.ext (by show 2048 + (512 + j.val) = 2560 + j.val; omega)
  rw [e] at h
  rw [← h]
  unfold val_main_v62
  generalize val_main_v60 (F := Ideal) x0 x1 x2 x3 x6 x7 = y
  pointwise
  try simp

theorem v63_at (n : Fin 8192) (j : Fin 512) : val_main_v63 (F := Ideal) x0 x1 x2 x3 x6 x7 (ix3 b n j)
    = conv (colR x0 x1 x2 x3 b ⟨3072 + j.val, by omega⟩) (fun a => x6 (ix2 a (⟨1024 + j.val, by omega⟩ : Fin 1536))) (x7 (ix1 (⟨1024 + j.val, by omega⟩ : Fin 1536))) n.val := by
  have h := v60_at x0 x1 x2 x3 x6 x7 b n (⟨1024 + j.val, by omega⟩ : Fin 1536)
  have e : (⟨2048 + (1024 + j.val), by omega⟩ : Fin 6656) = ⟨3072 + j.val, by omega⟩ := Fin.ext (by show 2048 + (1024 + j.val) = 3072 + j.val; omega)
  rw [e] at h
  rw [← h]
  unfold val_main_v63
  generalize val_main_v60 (F := Ideal) x0 x1 x2 x3 x6 x7 = y
  pointwise
  try simp

end Cert.Reference4Ideal.Prj
end
-- ==== Proof.PrjPad.lean ====
/-
  The padded projection the in-projection's points keep for the short convolution, at an index.
-/
module

public import proofs.«01_k».proof.Proof.PrjPay
public import proofs.«01_k».proof.Proof.PrjConv

@[expose] public section

set_option maxRecDepth 16384

noncomputable section

namespace Cert.Kernel4Ideal.Prj

open Cert.Kernel4Ideal Cert.Kernel4Ideal.Gen Cert.Ffn Cert.Prj
open Idealize.ShloMosaic
open Idealize.ShloMosaic.TcCoe
open Idealize.ShloMosaic.Pointwise

section Rows

variable (g : Vec Ideal S1x1024 .f32) (sh sc : Vec Ideal S1x1x1024 .f32) (x : Vec Ideal S1x256x1024 .f32) (hp hn : Vec Ideal S1x8x1024 .f32)

/-- A row of the tile with the eight rows before it and the eight after it. -/
def halo (q : Fin 272) (d : Fin 1024) : EReal :=
  if h : q.val < 8 then hp (ix3 0 ⟨q.val, h⟩ d)
  else if h' : q.val - 8 < 256 then x (ix3 0 ⟨q.val - 8, h'⟩ d)
  else hn (ix3 0 ⟨q.val - 8 - 256, by omega⟩ d)

/-- The projection of such a row. -/
theorem pay9_at (w : Vec Ideal S1024x2048 .bf16) (q : Fin 272) (j : Fin 2048) :
    k0_pay9 (k0_pay2 g) (k0_pay3 sh) (k0_pay4 sc) (k0_pay5 g sh sc x) (k0_pay7 hp) (k0_pay8 hp) hn w (ix2 q j)
      = ∑ k, modu (halo x hp hn q) (fun d => g (ix2 0 d)) (fun d => sh (ix3 0 0 d)) (fun d => sc (ix3 0 0 d)) k * w (ix2 k j) := by
  unfold modu rms
  rw [one_bits]
  pointwise [k0_pay9, k0_pay8, k0_pay7, k0_pay5, k0_pay4, k0_pay3, k0_pay2]
  refine Finset.sum_congr rfl fun k _ => ?_
  congr 1
  unfold halo
  by_cases h : q.val < 8
  · simp only [dif_pos h]
  by_cases h' : q.val - 8 < 256
  · simp only [dif_neg h, dif_pos h']
  · simp only [dif_neg h, dif_neg h']

end Rows

theorem mask_iff : ∀ (i : Fin 32) (q : Fin 272), (IntOp.andi
        (IntOp.ori (Scalar.cmpi CmpIPredicate.sgt (BitVec.ofNat 32 i.val) 0#32) (IntOp.cmpi CmpIPredicate.sge (BitVec.ofNat 32 q.val) 8#32))
        (IntOp.ori (Scalar.cmpi CmpIPredicate.slt (BitVec.ofNat 32 i.val) 31#32) (IntOp.cmpi CmpIPredicate.slt (BitVec.ofNat 32 q.val) 264#32)) = 1)
      ↔ (8 ≤ 256 * i.val + q.val ∧ 256 * i.val + q.val < 8200) := by decide +kernel

/-- The rows kept are those that lie in the sequence. -/
theorem mask_at (v71 : FVec Ideal S272x2048 .f32) (i : Fin 32) (q : Fin 272) (j : Fin 2048) :
    k0_pay13 v71 (k0_pay10 (BitVec.ofNat 32 i.val)) k0_pay11 (k0_pay12 (BitVec.ofNat 32 i.val)) (ix2 q j)
      = if 8 ≤ 256 * i.val + q.val ∧ 256 * i.val + q.val < 8200 then v71 (ix2 q j) else 0 := by
  pointwise [k0_pay13, k0_pay10, k0_pay11, k0_pay12]
  unfold Scalar.select
  by_cases h : 8 ≤ 256 * i.val + q.val ∧ 256 * i.val + q.val < 8200
  · rw [if_pos h, if_pos ((mask_iff i q).mpr h)]
  · rw [if_neg h, if_neg fun h' => h ((mask_iff i q).mp h')]

theorem pay15_at (v71 : FVec Ideal S272x2048 .f32) (i : Fin 32) (q : Fin 272) (j : Fin 1536) :
    k0_pay15 v71 (k0_pay10 (BitVec.ofNat 32 i.val)) k0_pay11 (k0_pay12 (BitVec.ofNat 32 i.val)) (ix2 q j)
      = if 8 ≤ 256 * i.val + q.val ∧ 256 * i.val + q.val < 8200 then v71 (ix2 q (⟨512 + j.val, by omega⟩ : Fin 2048)) else 0 := by
  rw [← mask_at]
  pointwise [k0_pay15]

section Taps

variable (a b d : Vec Ideal S256x512 .f32) (u v w z : Vec Ideal S1x512 .f32) (r : Fin 256) (j : Fin 512)

theorem pay43_at : k0_pay43 (k0_pay42 a u b v d w z) (ix3 0 r j)
    = a (ix2 r j) * u (ix2 0 j) + b (ix2 r j) * v (ix2 0 j) + d (ix2 r j) * w (ix2 0 j) + z (ix2 0 j) := by
  pointwise [k0_pay43, k0_pay42]

theorem pay52_at : k0_pay52 (k0_pay51 a u b v d w z) (ix3 0 r j)
    = a (ix2 r j) * u (ix2 0 j) + b (ix2 r j) * v (ix2 0 j) + d (ix2 r j) * w (ix2 0 j) + z (ix2 0 j) := by
  pointwise [k0_pay52, k0_pay51]

theorem pay1_at : k0_pay1 (k0_pay54 a u b v d w) z (ix3 0 r j)
    = a (ix2 r j) * u (ix2 0 j) + b (ix2 r j) * v (ix2 0 j) + d (ix2 r j) * w (ix2 0 j) + z (ix2 0 j) := by
  pointwise [k0_pay1, k0_pay54]

end Taps

end Cert.Kernel4Ideal.Prj
end
-- ==== Proof.PrjHalo.lean ====
/-
  The blocks of the short convolution: the rows around a tile, the padded projection, the weights and the bias.
-/
module

public import proofs.«01_k».proof.Proof.PrjOut
public import proofs.«01_k».proof.Proof.PrjPad

@[expose] public section

set_option maxRecDepth 16384

noncomputable section

namespace Cert.Kernel4Ideal.Prj

open Cert.Kernel4Ideal Cert.Kernel4Ideal.Gen Cert.Ffn Cert.Prj
open Idealize.ShloMosaic
open Idealize.ShloMosaic.TcCoe
open Idealize.ShloMosaic.Pointwise
open Idealize.ShloMosaic.Pipeline (Window)

variable (m : (ℓ : Loc nD τ sig) → Buf (Elt Ideal) ℓ) (c : Dev nD)

theorem index1 : ∀ t : Fin grid0.N, (cfg0.win 1).index t 0 = t.val / 32 ∧ (cfg0.win 1).index t 1 = 32 * (t.val % 32) - 1 ∧ (cfg0.win 1).index t 2 = 0 := by decide +kernel
theorem index2 : ∀ t : Fin grid0.N, (cfg0.win 2).index t 0 = t.val / 32 ∧ (cfg0.win 2).index t 1 = min (32 * (t.val % 32) + 32) 1023 ∧ (cfg0.win 2).index t 2 = 0 := by decide +kernel
theorem index11 : ∀ t : Fin grid0.N, (cfg0.win 11).index t 0 = 0 ∧ (cfg0.win 11).index t 1 = 0 := by decide +kernel
theorem index12 : ∀ t : Fin grid0.N, (cfg0.win 12).index t 0 = 0 ∧ (cfg0.win 12).index t 1 = 0 := by decide +kernel
theorem coord1 : ∀ t : Fin grid0.N, (grid0.coords t 1).val = t.val % 32 := by decide +kernel

theorem V_v44 : Gen.V m c main_v44 = shapeCast S1x1536 (m ((c.tc : Thread nD τ).loc main_arg7) : FVec Ideal S1536 .f32) shapeCasts_S1536_S1x1536 := by
  rfl

variable (t : Fin cfg0.N)

/-- The rows before a tile. -/
theorem hp_at (q : Fin 8) (d : Fin 1024) (n : Fin 8192) (hn : n.val = 8 * (32 * (t.val % 32) - 1) + q.val) :
    (iblk m c 1 t : S1x8x1024.Idx → EReal) (ix3 0 q d) = (m ((c.tc : Thread nD τ).loc main_arg0) : FVec Ideal S4x8192x1024 .f32) (ix3 (bT t) n d) := by
  rw [← Gen.V_main_arg0 m c]
  show Gen.V m c main_arg0 (((cfg0.win 1).rect t).emb (ix3 0 q d)) = _
  congr 1
  obtain ⟨h0, h1, h2⟩ := index1 t
  funext a
  apply Fin.ext
  refine ((cfg0.win 1).rect_emb_val t (ix3 0 q d) a).trans ?_
  match a with
  | ⟨0, _⟩ => show (cfg0.win 1).index t 0 * 1 + 0 = t.val / 32; rw [h0]; omega
  | ⟨1, _⟩ => show (cfg0.win 1).index t 1 * 8 + q.val = n.val; rw [h1, hn]; omega
  | ⟨2, _⟩ => show (cfg0.win 1).index t 2 * 1024 + d.val = d.val; rw [h2]; omega

/-- The rows after a tile. -/
theorem hn_at (q : Fin 8) (d : Fin 1024) (n : Fin 8192) (hn : n.val = 8 * min (32 * (t.val % 32) + 32) 1023 + q.val) :
    (iblk m c 2 t : S1x8x1024.Idx → EReal) (ix3 0 q d) = (m ((c.tc : Thread nD τ).loc main_arg0) : FVec Ideal S4x8192x1024 .f32) (ix3 (bT t) n d) := by
  rw [← Gen.V_main_arg0 m c]
  show Gen.V m c main_arg0 (((cfg0.win 2).rect t).emb (ix3 0 q d)) = _
  congr 1
  obtain ⟨h0, h1, h2⟩ := index2 t
  funext a
  apply Fin.ext
  refine ((cfg0.win 2).rect_emb_val t (ix3 0 q d) a).trans ?_
  match a with
  | ⟨0, _⟩ => show (cfg0.win 2).index t 0 * 1 + 0 = t.val / 32; rw [h0]; omega
  | ⟨1, _⟩ => show (cfg0.win 2).index t 1 * 8 + q.val = n.val; rw [h1, hn]; omega
  | ⟨2, _⟩ => show (cfg0.win 2).index t 2 * 1024 + d.val = d.val; rw [h2]; omega

/-- A row around a tile, where it lies in the sequence. -/
theorem halo_at (q : Fin 272) (d : Fin 1024) (h : 8 ≤ 256 * (t.val % 32) + q.val ∧ 256 * (t.val % 32) + q.val < 8200) :
    halo (iblk m c 0 t) (iblk m c 1 t) (iblk m c 2 t) q d
      = (m ((c.tc : Thread nD τ).loc main_arg0) : FVec Ideal S4x8192x1024 .f32) (ix3 (bT t) ⟨256 * (t.val % 32) + q.val - 8, by omega⟩ d) := by
  unfold halo
  by_cases h0 : q.val < 8
  · rw [dif_pos h0]
    exact hp_at m c t ⟨q.val, h0⟩ d _ (by show 256 * (t.val % 32) + q.val - 8 = 8 * (32 * (t.val % 32) - 1) + q.val; omega)
  by_cases h1 : q.val - 8 < 256
  · rw [dif_neg h0, dif_pos h1]
    refine (h_at m c t ⟨q.val - 8, h1⟩ d).trans ?_
    congr 2
    apply Fin.ext
    show 256 * (t.val % 32) + (q.val - 8) = 256 * (t.val % 32) + q.val - 8
    omega
  · rw [dif_neg h0, dif_neg h1]
    exact hn_at m c t ⟨q.val - 8 - 256, by omega⟩ d _ (by show 256 * (t.val % 32) + q.val - 8 = 8 * min (32 * (t.val % 32) + 32) 1023 + (q.val - 8 - 256); omega)

theorem cw_at (a : Fin 3) (j : Fin 1536) :
    (iblk m c 11 t : S3x1536.Idx → EReal) (ix2 a j) = (m ((c.tc : Thread nD τ).loc main_arg6) : FVec Ideal S3x1536 .f32) (ix2 a j) := by
  obtain ⟨h0, h1⟩ := index11 t
  have e : ((cfg0.win 11).rect t).emb (ix2 a j) = (ix2 a j : S3x1536.Idx) := by
    funext a'
    apply Fin.ext
    refine ((cfg0.win 11).rect_emb_val t (ix2 a j) a').trans ?_
    match a' with
    | ⟨0, _⟩ => show (cfg0.win 11).index t 0 * 3 + a.val = a.val; rw [h0]; omega
    | ⟨1, _⟩ => show (cfg0.win 11).index t 1 * 1536 + j.val = j.val; rw [h1]; omega
  rw [← Gen.V_main_arg6 m c]
  show Gen.V m c main_arg6 (((cfg0.win 11).rect t).emb (ix2 a j)) = _
  rw [e]

theorem cast_at (y : FVec Ideal S1536 .f32) (j : Fin 1536) : shapeCast S1x1536 y shapeCasts_S1536_S1x1536 (ix2 0 j) = y (ix1 j) := by
  pointwise

theorem emb12 (j : Fin 1536) : ((cfg0.win 12).rect t).emb (ix2 0 j) = (ix2 0 j : S1x1536.Idx) := by
  obtain ⟨h0, h1⟩ := index12 t
  funext a
  apply Fin.ext
  refine ((cfg0.win 12).rect_emb_val t (ix2 0 j) a).trans ?_
  match a with
  | ⟨0, _⟩ => show (cfg0.win 12).index t 0 * 1 + 0 = 0; rw [h0]
  | ⟨1, _⟩ => show (cfg0.win 12).index t 1 * 1536 + j.val = j.val; rw [h1]; omega

theorem cb_at (j : Fin 1536) :
    (iblk m c 12 t : S1x1536.Idx → EReal) (ix2 0 j) = (m ((c.tc : Thread nD τ).loc main_arg7) : FVec Ideal S1536 .f32) (ix1 j) := by
  show Gen.V m c main_v44 (((cfg0.win 12).rect t).emb (ix2 0 j)) = _
  rw [emb12 t j, V_v44]
  exact cast_at _ j

/-- A row of the convolution's weights, loaded from a column on. -/
theorem cwload_at (p o : Nat) (hp : p < 3) (ho : o + 512 ≤ 1536) (inb) (j : Fin 512) :
    View.readAt (Elt Ideal) (ms0_11 t).view (Rect.unit (s := S3x1536) ![p, o] ![1, 512] inb).toLoadRect (unr c (hs0_11 t) (iblk m c 11 t)) (ix2 0 j)
      = (m ((c.tc : Thread nD τ).loc main_arg6) : FVec Ideal S3x1536 .f32) (ix2 ⟨p, hp⟩ ⟨o + j.val, by omega⟩) := by
  rw [load_unr]
  refine Eq.trans ?_ (cw_at m c t ⟨p, hp⟩ ⟨o + j.val, by omega⟩)
  show (iblk m c 11 t : S3x1536.Idx → EReal) _ = (iblk m c 11 t : S3x1536.Idx → EReal) _
  congr 1
  funext a
  apply Fin.ext
  match a with
  | ⟨0, _⟩ => show p + 1 * 0 = p; omega
  | ⟨1, _⟩ => show o + 1 * j.val = o + j.val; omega

/-- The convolution's bias, loaded from a column on. -/
theorem cbload_at (o : Nat) (ho : o + 512 ≤ 1536) (inb) (j : Fin 512) :
    View.readAt (Elt Ideal) (ms0_12 t).view (Rect.unit (s := S1x1536) ![0, o] ![1, 512] inb).toLoadRect (unr c (hs0_12 t) (iblk m c 12 t)) (ix2 0 j)
      = (m ((c.tc : Thread nD τ).loc main_arg7) : FVec Ideal S1536 .f32) (ix1 ⟨o + j.val, by omega⟩) := by
  rw [load_unr]
  refine Eq.trans ?_ (cb_at m c t ⟨o + j.val, by omega⟩)
  show (iblk m c 12 t : S1x1536.Idx → EReal) _ = (iblk m c 12 t : S1x1536.Idx → EReal) _
  congr 1
  funext a
  apply Fin.ext
  match a with
  | ⟨0, _⟩ => rfl
  | ⟨1, _⟩ => show o + 1 * j.val = o + j.val; omega

/-- The projection of the rows around a tile. -/
abbrev wide : FVec Ideal S272x2048 .f32 :=
  bodyRun.sl.r_7 c (ms0_0 t) (ms0_1 t) (ms0_2 t) (ms0_3 t) (ms0_4 t) (ms0_5 t) (ms0_6 t) (unr c (hs0_0 t) (iblk m c 0 t)) (unr c (hs0_1 t) (iblk m c 1 t))
    (unr c (hs0_2 t) (iblk m c 2 t)) (unr c (hs0_3 t) (iblk m c 3 t)) (unr c (hs0_4 t) (iblk m c 4 t)) (unr c (hs0_5 t) (iblk m c 5 t)) (unr c (hs0_6 t) (iblk m c 6 t))

theorem wide_at (q : Fin 272) (j : Fin 2048) (h : 8 ≤ 256 * (t.val % 32) + q.val ∧ 256 * (t.val % 32) + q.val < 8200) :
    wide m c t (ix2 q j) = ent m c (bT t) ⟨256 * (t.val % 32) + q.val - 8, by omega⟩ ⟨1536 + j.val, by omega⟩ := by
  unfold wide bodyRun.sl.r_7 bodyRun.sl.r bodyRun.sl.r_1 bodyRun.sl.r_2 bodyRun.sl.r_3 bodyRun.sl.r_5 bodyRun.sl.r_6
  rw [load_full (S := S1x1024), load_full (S := S1x1x1024), load_full (S := S1x1x1024), load_full (S := S1x256x1024), load_full (S := S1x8x1024), load_full (S := S1x8x1024)]
  refine (pay9_at _ _ _ _ _ _ _ q j).trans ?_
  unfold ent dotp
  refine Finset.sum_congr rfl fun k _ => ?_
  refine congrArg₂ (fun a b : EReal => a * b) ?_ (wload_at m c t 1536 (by omega) _ k j)
  congr 1
  · exact funext fun d => halo_at m c t q d h
  · exact funext fun d => g_at m c t d
  · exact funext fun d => sh_at m c t d
  · exact funext fun d => sc_at m c t d

/-- The padded projection a point keeps. -/
theorem keep_at (q : Fin 272) (j : Fin 1536) :
    k0_pay15 (wide m c t) (bodyRun.sl.r_8 (grid0.coords t)) k0_pay11 (bodyRun.sl.r_9 (grid0.coords t)) (ix2 q j)
      = padded (fun n => ent m c (bT t) n ⟨2048 + j.val, by omega⟩) (256 * (t.val % 32) + q.val) := by
  unfold bodyRun.sl.r_8 bodyRun.sl.r_9
  rw [show BitVec.ofNat 32 (grid0.coords t 1).val = BitVec.ofNat 32 (⟨t.val % 32, by omega⟩ : Fin 32).val from congrArg _ (coord1 t)]
  rw [pay15_at]
  unfold padded
  by_cases h : 8 ≤ 256 * (t.val % 32) + q.val ∧ 256 * (t.val % 32) + q.val < 8200
  · rw [if_pos h, dif_pos h, wide_at m c t q _ h]
    congr 1
    apply Fin.ext
    show 1536 + (512 + j.val) = 2048 + j.val
    omega
  · rw [if_neg h, dif_neg h]

end Cert.Kernel4Ideal.Prj
end
-- ==== Proof.PrjConvOut.lean ====
/-
  The short convolution's results the in-projection's points leave are the reference's.
-/
module

public import proofs.«01_k».proof.Proof.PrjHalo

@[expose] public section

set_option maxRecDepth 16384

noncomputable section

namespace Cert.Kernel4Ideal.Prj

open Cert.Kernel4Ideal Cert.Kernel4Ideal.Gen Cert.Ffn Cert.Prj
open Idealize.ShloMosaic
open Idealize.ShloMosaic.TcCoe
open Idealize.ShloMosaic.Pointwise
open Idealize.ShloMosaic.Pipeline (Window)

variable (m : (ℓ : Loc nD τ sig) → Buf (Elt Ideal) ℓ) (c : Dev nD) (t : Fin cfg0.N)

/-- Rows of the padded projection, loaded from a row and a column on. -/
theorem tap_at (M : Memref sig .tc .vmem S272x1536 .f32) (p o : Nat) (hp : p < 16) (ho : o + 512 ≤ 1536) (inb) (r : Fin 256) (j : Fin 512) :
    M.view.readCov (bodyRun.sl.H24_1 (grid0.coords t) c (ms0_0 t) (ms0_1 t) (ms0_2 t) (ms0_3 t) (ms0_4 t) (ms0_5 t) (ms0_6 t) (unr c (hs0_0 t) (iblk m c 0 t)) (unr c (hs0_1 t) (iblk m c 1 t))
      (unr c (hs0_2 t) (iblk m c 2 t)) (unr c (hs0_3 t) (iblk m c 3 t)) (unr c (hs0_4 t) (iblk m c 4 t)) (unr c (hs0_5 t) (iblk m c 5 t)) (unr c (hs0_6 t) (iblk m c 6 t)))
      (Rect.unit (s := S272x1536) ![p, o] S256x512.size inb).toLoadRect (ix2 r j)
      = padded (fun n => ent m c (bT t) n ⟨2048 + o + j.val, by omega⟩) ((nT t r).val + p) := by
  rw [View.readCov_eq_canon']
  unfold bodyRun.sl.H24_1
  refine (View.canon_apply_of_pieces (fun y : S272x1536.Idx => padded (fun n => ent m c (bT t) n ⟨2048 + (y 1).val, by have : (y 1).val < 1536 := (y 1).isLt; omega⟩)
    (256 * (t.val % 32) + (y 0).val)) _ ?_ _ (View.cover_of_tiled _ S272x1536.size rfl _)).trans ?_
  · intro pc hpc
    rcases List.mem_cons.mp hpc with rfl | hpc
    · intro x
      obtain ⟨q, j', rfl⟩ : ∃ (q : Fin 272) (j' : Fin 1536), x = ix2 q j' := ⟨x 0, x 1, funext fun a => by fin_cases a <;> rfl⟩
      refine (keep_at m c t q j').trans ?_
      congr 1
      · funext n
        congr 1
        apply Fin.ext
        show 2048 + j'.val = 2048 + (0 + 1 * j'.val)
        omega
      · show 256 * (t.val % 32) + q.val = 256 * (t.val % 32) + (0 + 1 * q.val)
        omega
    nomatch hpc
  · congr 1
    · funext n
      congr 1
      apply Fin.ext
      show 2048 + (o + 1 * j.val) = 2048 + o + j.val
      omega
    · show 256 * (t.val % 32) + (p + 1 * r.val) = 256 * (t.val % 32) + r.val + p
      omega

/-- The reference's result 0 of the convolution, of the kernel's arguments. -/
abbrev refS : S4x8192x512.Idx → EReal :=
  Cert.Reference4Ideal.Read.val_main_v61 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg6)) (m ((c.tc : Thread nD τ).loc main_arg7))

/-- What a point leaves in its block of it. -/
theorem out14_at (r : Fin 256) (j : Fin 512) : (dats m 0 c).after 14 t (ix3 0 r j) = refS m c (ix3 (bT t) (nT t r) j) := by
  rw [refS, Cert.Reference4Ideal.Prj.v61_at, after0_14]
  rw [left14]
  rw [View.read_writes_junk_eq_canon]
  unfold bodyRun.sl.H16_1 bodyRun.sl.r_26 bodyRun.sl.v345 bodyRun.sl.v349 bodyRun.sl.v354
  refine (View.canon_apply_of_pieces (fun y : S1x256x512.Idx => conv (fun n => ent m c (bT t) n ⟨2048 + (y 2).val, by have : (y 2).val < 512 := (y 2).isLt; omega⟩)
    (fun a => (m ((c.tc : Thread nD τ).loc main_arg6) : FVec Ideal S3x1536 .f32) (ix2 a ⟨0 + (y 2).val, by have : (y 2).val < 512 := (y 2).isLt; omega⟩))
    ((m ((c.tc : Thread nD τ).loc main_arg7) : FVec Ideal S1536 .f32) (ix1 ⟨0 + (y 2).val, by have : (y 2).val < 512 := (y 2).isLt; omega⟩)) (nT t (y 1)).val)
    _ ?_ (ix3 0 r j) (View.cover_of_tiled _ S1x256x512.size rfl _)).trans rfl
  intro pc hpc
  rcases List.mem_cons.mp hpc with rfl | hpc
  · intro x
    obtain ⟨i0, r', j', rfl⟩ : ∃ (i0 : Fin 1) (r' : Fin 256) (j' : Fin 512), x = ix3 i0 r' j' := ⟨x 0, x 1, x 2, funext fun a => by fin_cases a <;> rfl⟩
    obtain rfl : i0 = 0 := Subsingleton.elim _ _
    refine (pay43_at _ _ _ _ _ _ _ r' j').trans ?_
    have er : (Rect.unit (s := S1x256x512) ![0, 0, 0] S1x256x512.size inb_S1x256x512_S1x256x512_0_0_0).emb (ix3 0 r' j') = ix3 0 r' j' := by
      funext a
      apply Fin.ext
      match a with
      | ⟨0, _⟩ => rfl
      | ⟨1, _⟩ => show 0 + 1 * r'.val = r'.val; omega
      | ⟨2, _⟩ => show 0 + 1 * j'.val = j'.val; omega
    refine Eq.trans ?_ (congrArg (fun y : S1x256x512.Idx => conv (fun n => ent m c (bT t) n ⟨2048 + (y 2).val, by have : (y 2).val < 512 := (y 2).isLt; omega⟩)
    (fun a => (m ((c.tc : Thread nD τ).loc main_arg6) : FVec Ideal S3x1536 .f32) (ix2 a ⟨0 + (y 2).val, by have : (y 2).val < 512 := (y 2).isLt; omega⟩))
    ((m ((c.tc : Thread nD τ).loc main_arg7) : FVec Ideal S1536 .f32) (ix1 ⟨0 + (y 2).val, by have : (y 2).val < 512 := (y 2).isLt; omega⟩)) (nT t (y 1)).val) er).symm
    refine congrArg₂ (fun a b : EReal => a + b) (congrArg₂ (fun a b : EReal => a + b) (congrArg₂ (fun a b : EReal => a + b)
      (congrArg₂ (fun a b : EReal => a * b) (tap_at m c t _ 7 0 (by omega) (by omega) _ r' j') (cwload_at m c t 0 0 (by omega) (by omega) _ j'))
      (congrArg₂ (fun a b : EReal => a * b) (tap_at m c t _ 8 0 (by omega) (by omega) _ r' j') (cwload_at m c t 1 0 (by omega) (by omega) _ j')))
      (congrArg₂ (fun a b : EReal => a * b) (tap_at m c t _ 9 0 (by omega) (by omega) _ r' j') (cwload_at m c t 2 0 (by omega) (by omega) _ j')))
      (cbload_at m c t 0 (by omega) _ j')
  nomatch hpc

/-- The reference's result 1 of the convolution, of the kernel's arguments. -/
abbrev refX : S4x8192x512.Idx → EReal :=
  Cert.Reference4Ideal.Read.val_main_v62 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg6)) (m ((c.tc : Thread nD τ).loc main_arg7))

/-- What a point leaves in its block of it. -/
theorem out15_at (r : Fin 256) (j : Fin 512) : (dats m 0 c).after 15 t (ix3 0 r j) = refX m c (ix3 (bT t) (nT t r) j) := by
  rw [refX, Cert.Reference4Ideal.Prj.v62_at, after0_15]
  rw [left15]
  rw [View.read_writes_junk_eq_canon]
  unfold bodyRun.sl.H17_1 bodyRun.sl.r_32 bodyRun.sl.v425 bodyRun.sl.v429 bodyRun.sl.v434
  refine (View.canon_apply_of_pieces (fun y : S1x256x512.Idx => conv (fun n => ent m c (bT t) n ⟨2560 + (y 2).val, by have : (y 2).val < 512 := (y 2).isLt; omega⟩)
    (fun a => (m ((c.tc : Thread nD τ).loc main_arg6) : FVec Ideal S3x1536 .f32) (ix2 a ⟨512 + (y 2).val, by have : (y 2).val < 512 := (y 2).isLt; omega⟩))
    ((m ((c.tc : Thread nD τ).loc main_arg7) : FVec Ideal S1536 .f32) (ix1 ⟨512 + (y 2).val, by have : (y 2).val < 512 := (y 2).isLt; omega⟩)) (nT t (y 1)).val)
    _ ?_ (ix3 0 r j) (View.cover_of_tiled _ S1x256x512.size rfl _)).trans rfl
  intro pc hpc
  rcases List.mem_cons.mp hpc with rfl | hpc
  · intro x
    obtain ⟨i0, r', j', rfl⟩ : ∃ (i0 : Fin 1) (r' : Fin 256) (j' : Fin 512), x = ix3 i0 r' j' := ⟨x 0, x 1, x 2, funext fun a => by fin_cases a <;> rfl⟩
    obtain rfl : i0 = 0 := Subsingleton.elim _ _
    refine (pay52_at _ _ _ _ _ _ _ r' j').trans ?_
    have er : (Rect.unit (s := S1x256x512) ![0, 0, 0] S1x256x512.size inb_S1x256x512_S1x256x512_0_0_0).emb (ix3 0 r' j') = ix3 0 r' j' := by
      funext a
      apply Fin.ext
      match a with
      | ⟨0, _⟩ => rfl
      | ⟨1, _⟩ => show 0 + 1 * r'.val = r'.val; omega
      | ⟨2, _⟩ => show 0 + 1 * j'.val = j'.val; omega
    refine Eq.trans ?_ (congrArg (fun y : S1x256x512.Idx => conv (fun n => ent m c (bT t) n ⟨2560 + (y 2).val, by have : (y 2).val < 512 := (y 2).isLt; omega⟩)
    (fun a => (m ((c.tc : Thread nD τ).loc main_arg6) : FVec Ideal S3x1536 .f32) (ix2 a ⟨512 + (y 2).val, by have : (y 2).val < 512 := (y 2).isLt; omega⟩))
    ((m ((c.tc : Thread nD τ).loc main_arg7) : FVec Ideal S1536 .f32) (ix1 ⟨512 + (y 2).val, by have : (y 2).val < 512 := (y 2).isLt; omega⟩)) (nT t (y 1)).val) er).symm
    refine congrArg₂ (fun a b : EReal => a + b) (congrArg₂ (fun a b : EReal => a + b) (congrArg₂ (fun a b : EReal => a + b)
      (congrArg₂ (fun a b : EReal => a * b) (tap_at m c t _ 7 512 (by omega) (by omega) _ r' j') (cwload_at m c t 0 512 (by omega) (by omega) _ j'))
      (congrArg₂ (fun a b : EReal => a * b) (tap_at m c t _ 8 512 (by omega) (by omega) _ r' j') (cwload_at m c t 1 512 (by omega) (by omega) _ j')))
      (congrArg₂ (fun a b : EReal => a * b) (tap_at m c t _ 9 512 (by omega) (by omega) _ r' j') (cwload_at m c t 2 512 (by omega) (by omega) _ j')))
      (cbload_at m c t 512 (by omega) _ j')
  nomatch hpc

/-- The reference's result 2 of the convolution, of the kernel's arguments. -/
abbrev refY : S4x8192x512.Idx → EReal :=
  Cert.Reference4Ideal.Read.val_main_v63 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg6)) (m ((c.tc : Thread nD τ).loc main_arg7))

/-- What a point leaves in its block of it. -/
theorem out16_at (r : Fin 256) (j : Fin 512) : (dats m 0 c).after 16 t (ix3 0 r j) = refY m c (ix3 (bT t) (nT t r) j) := by
  rw [refY, Cert.Reference4Ideal.Prj.v63_at, after0_16]
  rw [left16]
  rw [View.read_writes_junk_eq_canon]
  unfold bodyRun.sl.H18_1 bodyRun.sl.r_33 bodyRun.sl.v453 bodyRun.sl.v457 bodyRun.sl.v462
  refine (View.canon_apply_of_pieces (fun y : S1x256x512.Idx => conv (fun n => ent m c (bT t) n ⟨3072 + (y 2).val, by have : (y 2).val < 512 := (y 2).isLt; omega⟩)
    (fun a => (m ((c.tc : Thread nD τ).loc main_arg6) : FVec Ideal S3x1536 .f32) (ix2 a ⟨1024 + (y 2).val, by have : (y 2).val < 512 := (y 2).isLt; omega⟩))
    ((m ((c.tc : Thread nD τ).loc main_arg7) : FVec Ideal S1536 .f32) (ix1 ⟨1024 + (y 2).val, by have : (y 2).val < 512 := (y 2).isLt; omega⟩)) (nT t (y 1)).val)
    _ ?_ (ix3 0 r j) (View.cover_of_tiled _ S1x256x512.size rfl _)).trans rfl
  intro pc hpc
  rcases List.mem_cons.mp hpc with rfl | hpc
  · intro x
    obtain ⟨i0, r', j', rfl⟩ : ∃ (i0 : Fin 1) (r' : Fin 256) (j' : Fin 512), x = ix3 i0 r' j' := ⟨x 0, x 1, x 2, funext fun a => by fin_cases a <;> rfl⟩
    obtain rfl : i0 = 0 := Subsingleton.elim _ _
    refine (pay1_at _ _ _ _ _ _ _ r' j').trans ?_
    have er : (Rect.unit (s := S1x256x512) ![0, 0, 0] S1x256x512.size inb_S1x256x512_S1x256x512_0_0_0).emb (ix3 0 r' j') = ix3 0 r' j' := by
      funext a
      apply Fin.ext
      match a with
      | ⟨0, _⟩ => rfl
      | ⟨1, _⟩ => show 0 + 1 * r'.val = r'.val; omega
      | ⟨2, _⟩ => show 0 + 1 * j'.val = j'.val; omega
    refine Eq.trans ?_ (congrArg (fun y : S1x256x512.Idx => conv (fun n => ent m c (bT t) n ⟨3072 + (y 2).val, by have : (y 2).val < 512 := (y 2).isLt; omega⟩)
    (fun a => (m ((c.tc : Thread nD τ).loc main_arg6) : FVec Ideal S3x1536 .f32) (ix2 a ⟨1024 + (y 2).val, by have : (y 2).val < 512 := (y 2).isLt; omega⟩))
    ((m ((c.tc : Thread nD τ).loc main_arg7) : FVec Ideal S1536 .f32) (ix1 ⟨1024 + (y 2).val, by have : (y 2).val < 512 := (y 2).isLt; omega⟩)) (nT t (y 1)).val) er).symm
    refine congrArg₂ (fun a b : EReal => a + b) (congrArg₂ (fun a b : EReal => a + b) (congrArg₂ (fun a b : EReal => a + b)
      (congrArg₂ (fun a b : EReal => a * b) (tap_at m c t _ 7 1024 (by omega) (by omega) _ r' j') (cwload_at m c t 0 1024 (by omega) (by omega) _ j'))
      (congrArg₂ (fun a b : EReal => a * b) (tap_at m c t _ 8 1024 (by omega) (by omega) _ r' j') (cwload_at m c t 1 1024 (by omega) (by omega) _ j')))
      (congrArg₂ (fun a b : EReal => a * b) (tap_at m c t _ 9 1024 (by omega) (by omega) _ r' j') (cwload_at m c t 2 1024 (by omega) (by omega) _ j')))
      (cbload_at m c t 1024 (by omega) _ j')
  nomatch hpc

end Cert.Kernel4Ideal.Prj
end
-- ==== Proof.PrjConvArr.lean ====
/-
  The short convolution's arrays after the run of the in-projection are the reference's results.
-/
module

public import proofs.«01_k».proof.Proof.PrjConvOut

@[expose] public section

set_option maxRecDepth 16384

noncomputable section

namespace Cert.Kernel4Ideal.Prj

open Cert.Kernel4Ideal Cert.Kernel4Ideal.Gen Cert.Ffn Cert.Prj
open Idealize.ShloMosaic
open Idealize.ShloMosaic.TcCoe
open Idealize.ShloMosaic.Pointwise
open Idealize.ShloMosaic.Pipeline (Window)

variable (m : (ℓ : Loc nD τ sig) → Buf (Elt Ideal) ℓ) (c : Dev nD) (t : Fin cfg0.N)

theorem index14 : ∀ t : Fin grid0.N, (cfg0.win 14).index t 0 = t.val / 32 ∧ (cfg0.win 14).index t 1 = t.val % 32 ∧ (cfg0.win 14).index t 2 = 0 := by decide +kernel
theorem flush14 : ∀ t : Fin grid0.N, (cfg0.win 14).flush t = true := by decide +kernel
theorem apart14 : ∀ t t' : Fin cfg0.N, win0_14.index t = win0_14.index t' → t = t' :=
  (by decide +kernel : ∀ t t' : Fin grid0.N, win0_14.index t = win0_14.index t' → t = t')

/-- Where a block's index lies in the array. -/
theorem emb14 (r : Fin 256) (d : Fin 512) : ((cfg0.win 14).blk t).view.emb (ix3 0 r d) = ix3 (bT t) (nT t r) d := by
  obtain ⟨h0, h1, h2⟩ := index14 t
  funext a
  apply Fin.ext
  refine ((cfg0.win 14).rect_emb_val t (ix3 0 r d) a).trans ?_
  match a with
  | ⟨0, _⟩ => show (cfg0.win 14).index t 0 * 1 + 0 = t.val / 32; rw [h0]; omega
  | ⟨1, _⟩ => show (cfg0.win 14).index t 1 * 256 + r.val = 256 * (t.val % 32) + r.val; rw [h1]; omega
  | ⟨2, _⟩ => show (cfg0.win 14).index t 2 * 512 + d.val = d.val; rw [h2]; omega

set_option maxHeartbeats 2000000 in
/-- The array after the run is the reference's result. -/
theorem arr14_eq : (dats m 0 c).arrAt 14 cfg0.N = refS m c := by
  funext i
  have h0 : (i 0).val < 4 := (i 0).isLt
  have h1 : (i 1).val < 8192 := (i 1).isLt
  have h2 : (i 2).val < 512 := (i 2).isLt
  let t : Fin cfg0.N := ⟨32 * (i 0).val + (i 1).val / 256, by show _ < 128; omega⟩
  let r : Fin 256 := ⟨(i 1).val % 256, by omega⟩
  let d : Fin 512 := ⟨(i 2).val, h2⟩
  have hi : i = ix3 (bT t) (nT t r) d := by
    funext a
    apply Fin.ext
    match a with
    | ⟨0, _⟩ => show (i 0).val = (32 * (i 0).val + (i 1).val / 256) / 32; omega
    | ⟨1, _⟩ => show (i 1).val = 256 * ((32 * (i 0).val + (i 1).val / 256) % 32) + (i 1).val % 256; omega
    | ⟨2, _⟩ => rfl
  have hb : ((cfg0.win 14).blk t).view.read (Elt Ideal) ((dats m 0 c).arrAt 14 cfg0.N) = (dats m 0 c).flushed 14 t :=
    (dats m 0 c).read_blk_arrAt_eq_flushed 14 (fun t t' _ _ hne => (cfg0.win 14).disjoint_blk fun h => hne (apart14 t t' h)) cfg0.N t t.isLt (flush14 t)
  have hb' : (dats m 0 c).arrAt 14 cfg0.N (((cfg0.win 14).blk t).view.emb (ix3 0 r d)) = refS m c (ix3 (bT t) (nT t r) d) :=
    by
      refine (congrFun hb (ix3 0 r d)).trans ?_
      have he : (dats m 0 c).flushed 14 t = (cfg0.win 14).cut (grid0.coords t) ((dats m 0 c).after 14 t) := rfl
      rw [he]
      exact out14_at m c t r d
  rw [emb14] at hb'
  rw [hi]
  exact hb'

theorem index15 : ∀ t : Fin grid0.N, (cfg0.win 15).index t 0 = t.val / 32 ∧ (cfg0.win 15).index t 1 = t.val % 32 ∧ (cfg0.win 15).index t 2 = 0 := by decide +kernel
theorem flush15 : ∀ t : Fin grid0.N, (cfg0.win 15).flush t = true := by decide +kernel
theorem apart15 : ∀ t t' : Fin cfg0.N, win0_15.index t = win0_15.index t' → t = t' :=
  (by decide +kernel : ∀ t t' : Fin grid0.N, win0_15.index t = win0_15.index t' → t = t')

/-- Where a block's index lies in the array. -/
theorem emb15 (r : Fin 256) (d : Fin 512) : ((cfg0.win 15).blk t).view.emb (ix3 0 r d) = ix3 (bT t) (nT t r) d := by
  obtain ⟨h0, h1, h2⟩ := index15 t
  funext a
  apply Fin.ext
  refine ((cfg0.win 15).rect_emb_val t (ix3 0 r d) a).trans ?_
  match a with
  | ⟨0, _⟩ => show (cfg0.win 15).index t 0 * 1 + 0 = t.val / 32; rw [h0]; omega
  | ⟨1, _⟩ => show (cfg0.win 15).index t 1 * 256 + r.val = 256 * (t.val % 32) + r.val; rw [h1]; omega
  | ⟨2, _⟩ => show (cfg0.win 15).index t 2 * 512 + d.val = d.val; rw [h2]; omega

set_option maxHeartbeats 2000000 in
/-- The array after the run is the reference's result. -/
theorem arr15_eq : (dats m 0 c).arrAt 15 cfg0.N = refX m c := by
  funext i
  have h0 : (i 0).val < 4 := (i 0).isLt
  have h1 : (i 1).val < 8192 := (i 1).isLt
  have h2 : (i 2).val < 512 := (i 2).isLt
  let t : Fin cfg0.N := ⟨32 * (i 0).val + (i 1).val / 256, by show _ < 128; omega⟩
  let r : Fin 256 := ⟨(i 1).val % 256, by omega⟩
  let d : Fin 512 := ⟨(i 2).val, h2⟩
  have hi : i = ix3 (bT t) (nT t r) d := by
    funext a
    apply Fin.ext
    match a with
    | ⟨0, _⟩ => show (i 0).val = (32 * (i 0).val + (i 1).val / 256) / 32; omega
    | ⟨1, _⟩ => show (i 1).val = 256 * ((32 * (i 0).val + (i 1).val / 256) % 32) + (i 1).val % 256; omega
    | ⟨2, _⟩ => rfl
  have hb : ((cfg0.win 15).blk t).view.read (Elt Ideal) ((dats m 0 c).arrAt 15 cfg0.N) = (dats m 0 c).flushed 15 t :=
    (dats m 0 c).read_blk_arrAt_eq_flushed 15 (fun t t' _ _ hne => (cfg0.win 15).disjoint_blk fun h => hne (apart15 t t' h)) cfg0.N t t.isLt (flush15 t)
  have hb' : (dats m 0 c).arrAt 15 cfg0.N (((cfg0.win 15).blk t).view.emb (ix3 0 r d)) = refX m c (ix3 (bT t) (nT t r) d) :=
    by
      refine (congrFun hb (ix3 0 r d)).trans ?_
      have he : (dats m 0 c).flushed 15 t = (cfg0.win 15).cut (grid0.coords t) ((dats m 0 c).after 15 t) := rfl
      rw [he]
      exact out15_at m c t r d
  rw [emb15] at hb'
  rw [hi]
  exact hb'

theorem index16 : ∀ t : Fin grid0.N, (cfg0.win 16).index t 0 = t.val / 32 ∧ (cfg0.win 16).index t 1 = t.val % 32 ∧ (cfg0.win 16).index t 2 = 0 := by decide +kernel
theorem flush16 : ∀ t : Fin grid0.N, (cfg0.win 16).flush t = true := by decide +kernel
theorem apart16 : ∀ t t' : Fin cfg0.N, win0_16.index t = win0_16.index t' → t = t' :=
  (by decide +kernel : ∀ t t' : Fin grid0.N, win0_16.index t = win0_16.index t' → t = t')

/-- Where a block's index lies in the array. -/
theorem emb16 (r : Fin 256) (d : Fin 512) : ((cfg0.win 16).blk t).view.emb (ix3 0 r d) = ix3 (bT t) (nT t r) d := by
  obtain ⟨h0, h1, h2⟩ := index16 t
  funext a
  apply Fin.ext
  refine ((cfg0.win 16).rect_emb_val t (ix3 0 r d) a).trans ?_
  match a with
  | ⟨0, _⟩ => show (cfg0.win 16).index t 0 * 1 + 0 = t.val / 32; rw [h0]; omega
  | ⟨1, _⟩ => show (cfg0.win 16).index t 1 * 256 + r.val = 256 * (t.val % 32) + r.val; rw [h1]; omega
  | ⟨2, _⟩ => show (cfg0.win 16).index t 2 * 512 + d.val = d.val; rw [h2]; omega

set_option maxHeartbeats 2000000 in
/-- The array after the run is the reference's result. -/
theorem arr16_eq : (dats m 0 c).arrAt 16 cfg0.N = refY m c := by
  funext i
  have h0 : (i 0).val < 4 := (i 0).isLt
  have h1 : (i 1).val < 8192 := (i 1).isLt
  have h2 : (i 2).val < 512 := (i 2).isLt
  let t : Fin cfg0.N := ⟨32 * (i 0).val + (i 1).val / 256, by show _ < 128; omega⟩
  let r : Fin 256 := ⟨(i 1).val % 256, by omega⟩
  let d : Fin 512 := ⟨(i 2).val, h2⟩
  have hi : i = ix3 (bT t) (nT t r) d := by
    funext a
    apply Fin.ext
    match a with
    | ⟨0, _⟩ => show (i 0).val = (32 * (i 0).val + (i 1).val / 256) / 32; omega
    | ⟨1, _⟩ => show (i 1).val = 256 * ((32 * (i 0).val + (i 1).val / 256) % 32) + (i 1).val % 256; omega
    | ⟨2, _⟩ => rfl
  have hb : ((cfg0.win 16).blk t).view.read (Elt Ideal) ((dats m 0 c).arrAt 16 cfg0.N) = (dats m 0 c).flushed 16 t :=
    (dats m 0 c).read_blk_arrAt_eq_flushed 16 (fun t t' _ _ hne => (cfg0.win 16).disjoint_blk fun h => hne (apart16 t t' h)) cfg0.N t t.isLt (flush16 t)
  have hb' : (dats m 0 c).arrAt 16 cfg0.N (((cfg0.win 16).blk t).view.emb (ix3 0 r d)) = refY m c (ix3 (bT t) (nT t r) d) :=
    by
      refine (congrFun hb (ix3 0 r d)).trans ?_
      have he : (dats m 0 c).flushed 16 t = (cfg0.win 16).cut (grid0.coords t) ((dats m 0 c).after 16 t) := rfl
      rw [he]
      exact out16_at m c t r d
  rw [emb16] at hb'
  rw [hi]
  exact hb'

end Cert.Kernel4Ideal.Prj
end
-- ==== Proof.PrjTab.lean ====
/-
  The tables of cosines and sines the in-projection's host code prepares.
-/
module

public import proofs.«01_k».proof.Proof.PrjBlk

@[expose] public section

set_option maxRecDepth 16384

noncomputable section

namespace Cert.Kernel4Ideal.Prj

open Cert.Kernel4Ideal Cert.Kernel4Ideal.Gen Cert.Kernel4Ideal.Facts Cert.Ffn Cert.Prj
open Idealize.ShloMosaic
open Idealize.ShloMosaic.StableHlo
open Idealize.ShloMosaic.TcCoe
open Idealize.ShloMosaic.Pointwise

/-- Sixty-four, at every row. -/
abbrev t64 : IVec S8192 32 := broadcastInDim S8192 ![] bcast_S_S8192 (constantI S_ 32 64#32)
abbrev t0 : IVec S8192 32 := broadcastInDim S8192 ![] bcast_S_S8192 (constantI S_ 32 0#32)
abbrev t1 : IVec S8192 32 := broadcastInDim S8192 ![] bcast_S_S8192 (constantI S_ 32 1#32)
abbrev io : IVec S8192 32 := iotaInDim S8192 32 0

/-- The row of the grid a token lies in. -/
def rowI : IVec S8192 32 :=
  select (andi (cmpi .ne (signi io) (broadcastInDim S8192 ![] bcast_S_S8192 (signi (constantI S_ 32 64#32)))) (cmpi .ne (Host.remsi io t64) t0))
    (subi (Host.divsi io t64) t1) (Host.divsi io t64)

/-- Sixty-four, as the remainder takes it. -/
def modI : IVec S_ 32 := select (cmpi .eq (constantI S_ 32 64#32) (constantI S_ 32 0#32)) (constantI S_ 32 1#32) (constantI S_ 32 64#32)
abbrev remI : IVec S8192 32 := Host.remsi io (broadcastInDim S8192 ![] bcast_S_S8192 modI)

/-- The column of the grid a token lies in. -/
def colI : IVec S8192 32 :=
  select (andi (cmpi .ne (cmpi .slt remI t0) (broadcastInDim S8192 ![] bcast_S_S8192 (cmpi .slt modI (constantI S_ 32 0#32)))) (cmpi .ne remI t0))
    (addi remI (broadcastInDim S8192 ![] bcast_S_S8192 modI)) remI

/-- The frequencies. -/
def frq : FVec Ideal S16 .f32 :=
  Host.divf (broadcastInDim S16 ![] bcast_S_S16 (constant S_ .f32 0x3F800000#32))
    (Host.powf (broadcastInDim S16 ![] bcast_S_S16 (constant S_ .f32 0x461C4000#32))
      (Host.divf (mulf (sitofp .f32 (iotaInDim S16 32 0)) (broadcastInDim S16 ![] bcast_S_S16 (constant S_ .f32 0x40000000#32)))
        (broadcastInDim S16 ![] bcast_S_S16 (constant S_ .f32 0x42000000#32))))

/-- The angles of a number per token. -/
def ang (y : IVec S8192 32) : FVec Ideal S8192x16 .f32 :=
  mulf (broadcastInDim S8192x16 ![0, 1] bcast_S8192x1_S8192x16_0_1 (broadcastInDim S8192x1 ![0] bcast_S8192_S8192x1_0 (sitofp .f32 y)))
    (broadcastInDim S8192x16 ![0, 1] bcast_S1x16_S8192x16_0_1 (broadcastInDim S1x16 ![1] bcast_S16_S1x16_1 frq))

/-- A table of four parts, written twice side by side. -/
def tab (a b d e : FVec Ideal S8192x16 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x16, a⟩, ⟨S8192x16, b⟩, ⟨S8192x16, d⟩, ⟨S8192x16, e⟩]
      concatenates_S8192x16_S8192x16_S8192x16_S8192x16_S8192x64_d1) shapeCasts_S8192x64_S1x8192x1x64)) shapeCasts_S1x8192x2x64_S8192x128

variable (m : (ℓ : Loc nD τ sig) → Buf (Elt Ideal) ℓ) (c : Dev nD)

set_option maxHeartbeats 8000000 in
theorem V_v37 : Gen.V m c main_v37 = tab (Host.cos (ang rowI)) (Host.cos (ang rowI)) (Host.cos (ang colI)) (Host.cos (ang colI)) := by
  simp only [Gen.V, hostOps0, hostOps0_1, hostOps0_2, hostOps0_3, hostOps0_4, List.flatten_cons, List.flatten_nil, List.append_nil, List.cons_append,
    List.nil_append, TRef.nullary, TRef.ternary, TRef.binary, TRef.unary, TRef.toBuf, TRef.ofBuf, cast_eq]
  after_results_simp
  all_goals first | rfl | (unfold tab ang rowI colI modI frq; rfl)

set_option maxHeartbeats 8000000 in
theorem V_v40 : Gen.V m c main_v40 = tab (Host.negf (Host.sin (ang rowI))) (Host.sin (ang rowI)) (Host.negf (Host.sin (ang colI))) (Host.sin (ang colI)) := by
  simp only [Gen.V, hostOps0, hostOps0_1, hostOps0_2, hostOps0_3, hostOps0_4, List.flatten_cons, List.flatten_nil, List.append_nil, List.cons_append,
    List.nil_append, TRef.nullary, TRef.ternary, TRef.binary, TRef.unary, TRef.toBuf, TRef.ofBuf, cast_eq]
  after_results_simp
  all_goals first | rfl | (unfold tab ang rowI colI modI frq; rfl)

theorem rowI_at (n : Fin 8192) : rowI (ix1 n) = BitVec.ofNat 32 (n.val / 64) := by
  unfold rowI
  pointwise
  revert n
  decide +kernel

theorem colI_at (n : Fin 8192) : colI (ix1 n) = BitVec.ofNat 32 (n.val % 64) := by
  unfold colI modI
  pointwise
  revert n
  decide +kernel

theorem ang_at (y : IVec S8192 32) (n : Fin 8192) (f : Fin 16) : ang y (ix2 n f) = FloatOps.sitofp (F := Ideal) .f32 (y (ix1 n)) * frq (ix1 f) := by
  unfold ang
  generalize frq = q
  pointwise

theorem two_cases (g : Fin 2) : g = 0 ∨ g = 1 := by
  revert g
  decide

theorem tab_at (a b d e : FVec Ideal S8192x16 .f32) (n : Fin 8192) (h g u : Fin 2) (f : Fin 16) :
    tab a b d e (ix2 n ⟨64 * h.val + 32 * g.val + 16 * u.val + f.val, by omega⟩)
      = (if g = 0 then (if u = 0 then a else b) else (if u = 0 then d else e)) (ix2 n f) := by
  unfold tab
  pointwise
  have hh := h.isLt
  have hf := f.isLt
  rcases two_cases g with rfl | rfl <;> rcases two_cases u with rfl | rfl
  · rw [dif_pos (by show (64 * h.val + 32 * 0 + 16 * 0 + f.val) % 64 < 16; omega)]
    exact congrArg (fun q => a (ix2 n q)) (Fin.ext (by show (64 * h.val + 32 * 0 + 16 * 0 + f.val) % 64 = f.val; omega))
  · rw [dif_neg (by show ¬ (64 * h.val + 32 * 0 + 16 * 1 + f.val) % 64 < 16; omega),
      dif_pos (by show (64 * h.val + 32 * 0 + 16 * 1 + f.val) % 64 - 16 < 16; omega)]
    exact congrArg (fun q => b (ix2 n q)) (Fin.ext (by show (64 * h.val + 32 * 0 + 16 * 1 + f.val) % 64 - 16 = f.val; omega))
  · rw [dif_neg (by show ¬ (64 * h.val + 32 * 1 + 16 * 0 + f.val) % 64 < 16; omega),
      dif_neg (by show ¬ (64 * h.val + 32 * 1 + 16 * 0 + f.val) % 64 - 16 < 16; omega),
      dif_pos (by show (64 * h.val + 32 * 1 + 16 * 0 + f.val) % 64 - 16 - 16 < 16; omega)]
    exact congrArg (fun q => d (ix2 n q)) (Fin.ext (by show (64 * h.val + 32 * 1 + 16 * 0 + f.val) % 64 - 16 - 16 = f.val; omega))
  · rw [dif_neg (by show ¬ (64 * h.val + 32 * 1 + 16 * 1 + f.val) % 64 < 16; omega),
      dif_neg (by show ¬ (64 * h.val + 32 * 1 + 16 * 1 + f.val) % 64 - 16 < 16; omega),
      dif_neg (by show ¬ (64 * h.val + 32 * 1 + 16 * 1 + f.val) % 64 - 16 - 16 < 16; omega)]
    exact congrArg (fun q => e (ix2 n q)) (Fin.ext (by show (64 * h.val + 32 * 1 + 16 * 1 + f.val) % 64 - 16 - 16 - 16 = f.val; omega))

/-- A token's angle along an axis at a frequency. -/
def angE (n : Fin 8192) (g : Fin 2) (f : Fin 16) : EReal :=
  FloatOps.sitofp (F := Ideal) .f32 (BitVec.ofNat 32 (if g = 0 then n.val / 64 else n.val % 64)) * frq (ix1 f)

theorem row_ang (n : Fin 8192) (f : Fin 16) : ang rowI (ix2 n f) = angE n 0 f := by
  rw [ang_at, rowI_at]
  rfl

theorem col_ang (n : Fin 8192) (f : Fin 16) : ang colI (ix2 n f) = angE n 1 f := by
  rw [ang_at, colI_at]
  rfl

/-- The table of cosines. -/
theorem v37_at (n : Fin 8192) (h g u : Fin 2) (f : Fin 16) :
    (Gen.V m c main_v37 : FVec Ideal S8192x128 .f32) (ix2 n ⟨64 * h.val + 32 * g.val + 16 * u.val + f.val, by omega⟩) = Ideal.cos (angE n g f) := by
  rw [V_v37, tab_at]
  rcases two_cases g with rfl | rfl <;> rcases two_cases u with rfl | rfl
  · exact congrArg Ideal.cos (row_ang n f)
  · exact congrArg Ideal.cos (row_ang n f)
  · exact congrArg Ideal.cos (col_ang n f)
  · exact congrArg Ideal.cos (col_ang n f)

/-- The table of sines, its first halves negated. -/
theorem v40_at (n : Fin 8192) (h g u : Fin 2) (f : Fin 16) :
    (Gen.V m c main_v40 : FVec Ideal S8192x128 .f32) (ix2 n ⟨64 * h.val + 32 * g.val + 16 * u.val + f.val, by omega⟩)
      = if u = 0 then -Ideal.sin (angE n g f) else Ideal.sin (angE n g f) := by
  rw [V_v40, tab_at]
  rcases two_cases g with rfl | rfl <;> rcases two_cases u with rfl | rfl
  · exact congrArg (fun w => -Ideal.sin w) (row_ang n f)
  · exact congrArg Ideal.sin (row_ang n f)
  · exact congrArg (fun w => -Ideal.sin w) (col_ang n f)
  · exact congrArg Ideal.sin (col_ang n f)

theorem index7 : ∀ t : Fin grid0.N, (cfg0.win 7).index t 0 = t.val % 32 ∧ (cfg0.win 7).index t 1 = 0 := by decide +kernel
theorem index8 : ∀ t : Fin grid0.N, (cfg0.win 8).index t 0 = t.val % 32 ∧ (cfg0.win 8).index t 1 = 0 := by decide +kernel

variable (t : Fin cfg0.N)

theorem emb7 (r : Fin 256) (l : Fin 128) : ((cfg0.win 7).rect t).emb (ix2 r l) = (ix2 (nT t r) l : S8192x128.Idx) := by
  obtain ⟨h0, h1⟩ := index7 t
  funext a
  apply Fin.ext
  refine ((cfg0.win 7).rect_emb_val t (ix2 r l) a).trans ?_
  match a with
  | ⟨0, _⟩ => show (cfg0.win 7).index t 0 * 256 + r.val = 256 * (t.val % 32) + r.val; rw [h0]; omega
  | ⟨1, _⟩ => show (cfg0.win 7).index t 1 * 128 + l.val = l.val; rw [h1]; omega

theorem emb8 (r : Fin 256) (l : Fin 128) : ((cfg0.win 8).rect t).emb (ix2 r l) = (ix2 (nT t r) l : S8192x128.Idx) := by
  obtain ⟨h0, h1⟩ := index8 t
  funext a
  apply Fin.ext
  refine ((cfg0.win 8).rect_emb_val t (ix2 r l) a).trans ?_
  match a with
  | ⟨0, _⟩ => show (cfg0.win 8).index t 0 * 256 + r.val = 256 * (t.val % 32) + r.val; rw [h0]; omega
  | ⟨1, _⟩ => show (cfg0.win 8).index t 1 * 128 + l.val = l.val; rw [h1]; omega

/-- A block of the cosines. -/
theorem cos_at (r : Fin 256) (h g u : Fin 2) (f : Fin 16) :
    (iblk m c 7 t : S256x128.Idx → EReal) (ix2 r ⟨64 * h.val + 32 * g.val + 16 * u.val + f.val, by omega⟩) = Ideal.cos (angE (nT t r) g f) := by
  show Gen.V m c main_v37 (((cfg0.win 7).rect t).emb (ix2 r _)) = _
  rw [emb7 t r]
  exact v37_at m c (nT t r) h g u f

/-- A block of the sines. -/
theorem sin_at (r : Fin 256) (h g u : Fin 2) (f : Fin 16) :
    (iblk m c 8 t : S256x128.Idx → EReal) (ix2 r ⟨64 * h.val + 32 * g.val + 16 * u.val + f.val, by omega⟩)
      = if u = 0 then -Ideal.sin (angE (nT t r) g f) else Ideal.sin (angE (nT t r) g f) := by
  show Gen.V m c main_v40 (((cfg0.win 8).rect t).emb (ix2 r _)) = _
  rw [emb8 t r]
  exact v40_at m c (nT t r) h g u f

end Cert.Kernel4Ideal.Prj
end
-- ==== Proof.PrjRot.lean ====
/-
  The rotation of a tile's queries and keys, at an entry.
-/
module

public import proofs.«01_k».proof.Proof.PVal
public import proofs.«01_k».proof.Proof.PrjTab

@[expose] public section

set_option maxRecDepth 16384

noncomputable section

namespace Cert.Kernel4Ideal.Prj

open Cert.Kernel4Ideal Cert.Kernel4Ideal.Gen Cert.Kernel4Ideal.Facts Cert.Ffn Cert.Prj
open Idealize.ShloMosaic
open Idealize.ShloMosaic.TcCoe
open Idealize.ShloMosaic.Pointwise

theorem lane_iff : ∀ l : Fin 128, (IntOp.cmpi CmpIPredicate.slt
      (Scalar.select (IntOp.andi (IntOp.xori (IntOp.cmpi CmpIPredicate.slt (IntOp.remsi ArithUnit.vector (BitVec.ofNat 32 l.val) (Scalar.select (Scalar.cmpi CmpIPredicate.eq 32#32 0#32) 1#32 32#32)) 0#32) (Scalar.cmpi CmpIPredicate.slt (Scalar.select (Scalar.cmpi CmpIPredicate.eq 32#32 0#32) 1#32 32#32) 0#32)) (IntOp.cmpi CmpIPredicate.ne (IntOp.remsi ArithUnit.vector (BitVec.ofNat 32 l.val) (Scalar.select (Scalar.cmpi CmpIPredicate.eq 32#32 0#32) 1#32 32#32)) 0#32))
        (IntOp.addi (IntOp.remsi ArithUnit.vector (BitVec.ofNat 32 l.val) (Scalar.select (Scalar.cmpi CmpIPredicate.eq 32#32 0#32) 1#32 32#32)) (Scalar.select (Scalar.cmpi CmpIPredicate.eq 32#32 0#32) 1#32 32#32)) (IntOp.remsi ArithUnit.vector (BitVec.ofNat 32 l.val) (Scalar.select (Scalar.cmpi CmpIPredicate.eq 32#32 0#32) 1#32 32#32))) 16#32 = 1) ↔ l.val % 32 < 16 := by decide +kernel

/-- The lanes of the first halves. -/
theorem lane_at (v w : EReal) (r : Fin 256) (l : Fin 128) : Scalar.select (k0_pay35 (ix2 r l)) v w = if l.val % 32 < 16 then v else w := by
  unfold k0_pay35
  pointwise
  unfold Scalar.select
  by_cases h : l.val % 32 < 16
  · rw [if_pos h]
    exact if_pos ((lane_iff l).mpr h)
  · rw [if_neg h]
    exact if_neg fun h' => h ((lane_iff l).mp h')

/-- A group of lanes, rotated. -/
def rotk (y C S : FVec Ideal S256x128 .f32) : FVec Ideal S256x128 .f32 :=
  addf (mulf y C) (mulf (select k0_pay35 (dynamicRotate 1 112#32 none y rotates_S256x128_d1) (dynamicRotate 1 16#32 none y rotates_S256x128_d1)) S)

theorem rotk_at (y C S : FVec Ideal S256x128 .f32) (r : Fin 256) (h g u u' : Fin 2) (f : Fin 16) (hu : u'.val = 1 - u.val) :
    rotk y C S (ix2 r ⟨64 * h.val + 32 * g.val + 16 * u.val + f.val, by omega⟩)
      = y (ix2 r ⟨64 * h.val + 32 * g.val + 16 * u.val + f.val, by omega⟩) * C (ix2 r ⟨64 * h.val + 32 * g.val + 16 * u.val + f.val, by omega⟩)
        + y (ix2 r ⟨64 * h.val + 32 * g.val + 16 * u'.val + f.val, by omega⟩) * S (ix2 r ⟨64 * h.val + 32 * g.val + 16 * u.val + f.val, by omega⟩) := by
  unfold rotk
  pointwise
  rw [lane_at]
  refine congrArg₂ (fun p q : EReal => p + q) rfl (congrArg₂ (fun p q : EReal => p * q) ?_ rfl)
  have hh := h.isLt
  have hg := g.isLt
  have hf := f.isLt
  by_cases h0 : u.val = 0
  · rw [if_pos (by show (64 * h.val + 32 * g.val + 16 * u.val + f.val) % 32 < 16; omega)]
    exact congrArg (fun q => y (ix2 r q)) (Fin.ext (by show (64 * h.val + 32 * g.val + 16 * u.val + f.val + 128 - 112) % 128 = 64 * h.val + 32 * g.val + 16 * u'.val + f.val; omega))
  · have h1 : u.val = 1 := by omega
    rw [if_neg (by show ¬ (64 * h.val + 32 * g.val + 16 * u.val + f.val) % 32 < 16; omega)]
    exact congrArg (fun q => y (ix2 r q)) (Fin.ext (by show (64 * h.val + 32 * g.val + 16 * u.val + f.val + 128 - 16) % 128 = 64 * h.val + 32 * g.val + 16 * u'.val + f.val; omega))

/-- Four groups side by side. -/
def catk (a b d e : FVec Ideal S256x128 .f32) : FVec Ideal S256x512 .f32 :=
  concatenate S256x512 1 [⟨S256x128, a⟩, ⟨S256x128, b⟩, ⟨S256x128, d⟩, ⟨S256x128, e⟩] concatenates_S256x128_S256x128_S256x128_S256x128_S256x512_d1

/-- A group of a row's columns. -/
def grp (y : FVec Ideal S256x512 .f32) (D : Fin 4) : FVec Ideal S256x128 .f32 :=
  match D with
  | 0 => extractStridedSlice S256x128 ![0, 0] y slices_S256x512_o0_0_S256x128
  | 1 => extractStridedSlice S256x128 ![0, 128] y slices_S256x512_o0_128_S256x128
  | 2 => extractStridedSlice S256x128 ![0, 256] y slices_S256x512_o0_256_S256x128
  | 3 => extractStridedSlice S256x128 ![0, 384] y slices_S256x512_o0_384_S256x128

theorem four_cases (g : Fin 4) : g = 0 ∨ g = 1 ∨ g = 2 ∨ g = 3 := by
  revert g
  decide

theorem grp_at (y : FVec Ideal S256x512 .f32) (D : Fin 4) (r : Fin 256) (l : Fin 128) : grp y D (ix2 r l) = y (ix2 r ⟨128 * D.val + l.val, by omega⟩) := by
  rcases four_cases D with rfl | rfl | rfl | rfl
  all_goals
    refine congrArg y ?_
    funext a
    apply Fin.ext
    match a with
    | ⟨0, _⟩ => exact Nat.zero_add _
    | ⟨1, _⟩ => rfl

theorem catk_at (z : Fin 4 → FVec Ideal S256x128 .f32) (D : Fin 4) (r : Fin 256) (l : Fin 128) :
    catk (z 0) (z 1) (z 2) (z 3) (ix2 r ⟨128 * D.val + l.val, by omega⟩) = z D (ix2 r l) := by
  unfold catk
  pointwise
  have hl := l.isLt
  rcases four_cases D with rfl | rfl | rfl | rfl
  · rw [dif_pos (by show 128 * 0 + l.val < 128; omega)]
    exact congrArg (fun q => z 0 (ix2 r q)) (Fin.ext (by show 128 * 0 + l.val = l.val; omega))
  · rw [dif_neg (by show ¬ 128 * 1 + l.val < 128; omega), dif_pos (by show 128 * 1 + l.val - 128 < 128; omega)]
    exact congrArg (fun q => z 1 (ix2 r q)) (Fin.ext (by show 128 * 1 + l.val - 128 = l.val; omega))
  · rw [dif_neg (by show ¬ 128 * 2 + l.val < 128; omega), dif_neg (by show ¬ 128 * 2 + l.val - 128 < 128; omega),
      dif_pos (by show 128 * 2 + l.val - 128 - 128 < 128; omega)]
    exact congrArg (fun q => z 2 (ix2 r q)) (Fin.ext (by show 128 * 2 + l.val - 128 - 128 = l.val; omega))
  · rw [dif_neg (by show ¬ 128 * 3 + l.val < 128; omega), dif_neg (by show ¬ 128 * 3 + l.val - 128 < 128; omega),
      dif_neg (by show ¬ 128 * 3 + l.val - 128 - 128 < 128; omega)]
    exact congrArg (fun q => z 3 (ix2 r q)) (Fin.ext (by show 128 * 3 + l.val - 128 - 128 - 128 = l.val; omega))

/-- The whole row rotated, at an entry. -/
theorem row_at (y : FVec Ideal S256x512 .f32) (C S : FVec Ideal S256x128 .f32) (r : Fin 256) (D : Fin 4) (h g u u' : Fin 2) (f : Fin 16) (hu : u'.val = 1 - u.val) :
    catk (rotk (grp y 0) C S) (rotk (grp y 1) C S) (rotk (grp y 2) C S) (rotk (grp y 3) C S)
        (ix2 r ⟨128 * D.val + 64 * h.val + 32 * g.val + 16 * u.val + f.val, by omega⟩)
      = y (ix2 r ⟨128 * D.val + 64 * h.val + 32 * g.val + 16 * u.val + f.val, by omega⟩) * C (ix2 r ⟨64 * h.val + 32 * g.val + 16 * u.val + f.val, by omega⟩)
        + y (ix2 r ⟨128 * D.val + 64 * h.val + 32 * g.val + 16 * u'.val + f.val, by omega⟩) * S (ix2 r ⟨64 * h.val + 32 * g.val + 16 * u.val + f.val, by omega⟩) := by
  have e : ∀ v : Fin 2, (⟨128 * D.val + 64 * h.val + 32 * g.val + 16 * v.val + f.val, by omega⟩ : Fin 512)
      = ⟨128 * D.val + (⟨64 * h.val + 32 * g.val + 16 * v.val + f.val, by omega⟩ : Fin 128).val, by show 128 * D.val + (64 * h.val + 32 * g.val + 16 * v.val + f.val) < 512; omega⟩ :=
    fun v => Fin.ext (by show 128 * D.val + 64 * h.val + 32 * g.val + 16 * v.val + f.val = 128 * D.val + (64 * h.val + 32 * g.val + 16 * v.val + f.val); omega)
  rw [e u, e u', ← grp_at y D r, ← grp_at y D r]
  refine (catk_at (fun D => rotk (grp y D) C S) D r _).trans ?_
  exact rotk_at (grp y D) C S r h g u u' f hu

theorem wide_at' (x : FVec Ideal S256x512 .f32) (w : EReal) (r : Fin 256) (j : Fin 512) :
    (shapeCast S1x256x512 (truncf .bf16 (mulf x (broadcast S256x512 w)) bitsLt_bf16_f32) shapeCasts_S256x512_S1x256x512 : S1x256x512.Idx → EReal) (ix3 0 r j) = x (ix2 r j) * w := by
  pointwise

theorem pay41_at (a : FVec Ideal S256x1024 .bf16) (W : FVec Ideal S1024x512 .bf16) (z : FVec Ideal S256x512 .f32) (C S : FVec Ideal S256x128 .f32) (r : Fin 256) (j : Fin 512) :
    k0_pay41 (k0_pay32 a W z) (k0_pay33 C) (k0_pay34 S) k0_pay35 (k0_pay36 a W z C S) (k0_pay37 a W z C S) (k0_pay39 a W z) (k0_pay40 a W z C) (ix3 0 r j)
      = catk (rotk (grp (k0_pay32 a W z) 0) C S) (rotk (grp (k0_pay32 a W z) 1) C S) (rotk (grp (k0_pay32 a W z) 2) C S) (rotk (grp (k0_pay32 a W z) 3) C S) (ix2 r j)
        * (Scalar.ofBits .f32 0x3E38AA3B#32 : Ideal .f32) := by
  have e33 : k0_pay33 C = C := by unfold k0_pay33; funext x; obtain ⟨p, q, rfl⟩ : ∃ (p : Fin 256) (q : Fin 128), x = ix2 p q := ⟨x 0, x 1, funext fun a => by fin_cases a <;> rfl⟩; pointwise
  have e34 : k0_pay34 S = S := by unfold k0_pay34; funext x; obtain ⟨p, q, rfl⟩ : ∃ (p : Fin 256) (q : Fin 128), x = ix2 p q := ⟨x 0, x 1, funext fun a => by fin_cases a <;> rfl⟩; pointwise
  refine Eq.trans ?_ (wide_at' _ _ r j)
  unfold k0_pay41 k0_pay36 k0_pay37 k0_pay39 k0_pay40 k0_pay38 catk rotk grp
  rw [e33, e34]

theorem wide_at'' (x : FVec Ideal S256x512 .f32) (r : Fin 256) (j : Fin 512) :
    (shapeCast S1x256x512 (truncf .bf16 x bitsLt_bf16_f32) shapeCasts_S256x512_S1x256x512 : S1x256x512.Idx → EReal) (ix3 0 r j) = x (ix2 r j) := by
  pointwise

theorem pay50_at (a : FVec Ideal S256x1024 .bf16) (W : FVec Ideal S1024x512 .bf16) (C S : FVec Ideal S256x128 .f32) (r : Fin 256) (j : Fin 512) :
    k0_pay50 (k0_pay44 a W) (k0_pay45 C) (k0_pay46 S) k0_pay47 (k0_pay48 a W C S) (k0_pay49 a W C S) (ix3 0 r j)
      = catk (rotk (grp (k0_pay44 a W) 0) C S) (rotk (grp (k0_pay44 a W) 1) C S) (rotk (grp (k0_pay44 a W) 2) C S) (rotk (grp (k0_pay44 a W) 3) C S) (ix2 r j) := by
  have e33 : k0_pay45 C = C := by unfold k0_pay45; funext x; obtain ⟨p, q, rfl⟩ : ∃ (p : Fin 256) (q : Fin 128), x = ix2 p q := ⟨x 0, x 1, funext fun a => by fin_cases a <;> rfl⟩; pointwise
  have e34 : k0_pay46 S = S := by unfold k0_pay46; funext x; obtain ⟨p, q, rfl⟩ : ∃ (p : Fin 256) (q : Fin 128), x = ix2 p q := ⟨x 0, x 1, funext fun a => by fin_cases a <;> rfl⟩; pointwise
  have e47 : k0_pay47 = k0_pay35 := rfl
  refine Eq.trans ?_ (wide_at'' _ r j)
  unfold k0_pay50 k0_pay48 k0_pay49 catk rotk grp
  rw [e33, e34, e47]

theorem pay32_at (v26 : FVec Ideal S256x1024 .bf16) (w : Vec Ideal S1024x512 .bf16) (r : Fin 256) (j : Fin 512) :
    k0_pay32 v26 (k0_pay31 w) (constant S256x512 .f32 0x00000000#32) (ix2 r j) = ∑ k, v26 (ix2 r k) * w (ix2 k j) := by
  pointwise [k0_pay32, k0_pay31]

theorem pay44_at (v26 : FVec Ideal S256x1024 .bf16) (w : Vec Ideal S1024x512 .bf16) (r : Fin 256) (j : Fin 512) :
    k0_pay44 v26 w (ix2 r j) = ∑ k, v26 (ix2 r k) * w (ix2 k j) := by
  pointwise [k0_pay44]

end Cert.Kernel4Ideal.Prj
end
-- ==== Proof.PrjRope.lean ====
/-
  The rotation of the queries and the keys in the reference, at an index.
-/
module

public import proofs.«01_k».proof.Proof.PrjConv

@[expose] public section

set_option maxRecDepth 16384

noncomputable section

namespace Cert.Reference4Ideal.Prj

open Cert.Reference4Ideal Cert.Reference4Ideal.Gen Cert.Reference4Ideal.Facts Cert.Reference4Ideal.Read Cert.Ffn Cert.Prj
open Idealize.ShloMosaic
open Idealize.ShloMosaic.TcCoe
open Idealize.ShloMosaic.Pointwise

variable (x0 : (⟨S4x8192x1024, .f32⟩ : BufTy).Contents (Elt Ideal)) (x1 : (⟨S4x1x6144, .f32⟩ : BufTy).Contents (Elt Ideal))
variable (x2 : (⟨S1024, .f32⟩ : BufTy).Contents (Elt Ideal)) (x3 : (⟨S1024x6656, .f32⟩ : BufTy).Contents (Elt Ideal))
variable (b : Fin 4) (n : Fin 8192)

theorem v98_at (d : Fin 8) (m a u : Fin 2) (f : Fin 16) :
    val_main_v98 (F := Ideal) x0 x1 x2 x3 (ix7 b n d m a u f) = colR x0 x1 x2 x3 b ⟨128 * d.val + 64 * m.val + 32 * a.val + 16 * u.val + f.val, by omega⟩ n := by
  have h := fun n d => v25_at x0 x1 x2 x3 b n d
  unfold val_main_v98 val_main_v97 val_main_v96
  generalize val_main_v25 (F := Ideal) x0 x1 x2 x3 = y at h
  pointwise
  simp only [h]
  congr 1
  apply Fin.ext
  show d.val * 128 + m.val * 64 + a.val * 32 + u.val * 16 + f.val = 128 * d.val + 64 * m.val + 32 * a.val + 16 * u.val + f.val
  omega

theorem v93_at (a : Fin 2) (f : Fin 16) : val_main_v93 (F := Ideal) (ix3 n a f)
    = FloatOps.sitofp (F := Ideal) .f32 (BitVec.ofNat 32 (if a = 0 then n.val / 64 else n.val % 64)) * val_main_v80 (F := Ideal) (ix1 f) := by
  unfold val_main_v93 val_main_v92 val_main_v91 val_main_v90 val_main_v89 val_main_v88 val_main_v87 val_main_v86 val_main_v85 val_main_v84 val_main_v83 val_main_v82 val_main_v81
    val_main_v71 val_main_v70 val_main_v69 val_main_v68 val_main_v67 val_main_v66 val_main_v65 val_main_v64
  generalize val_main_v80 (F := Ideal) = y
  pointwise
  by_cases ha : a = 0
  · rw [if_pos ha, dif_pos (by rw [ha]; decide)]
  · rw [if_neg ha, dif_neg (fun hh => ha (Fin.ext (Nat.lt_one_iff.mp hh)))]

theorem v117_at (d : Fin 8) (m a u : Fin 2) (f : Fin 16) (A B w : EReal) (hA : val_main_v98 (F := Ideal) x0 x1 x2 x3 (ix7 b n d m a 0 f) = A)
    (hB : val_main_v98 (F := Ideal) x0 x1 x2 x3 (ix7 b n d m a 1 f) = B) (hw : val_main_v93 (F := Ideal) (ix3 n a f) = w) :
    val_main_v117 (F := Ideal) x0 x1 x2 x3 (ix7 b n d m a u f)
      = if u = 0 then A * Ideal.cos w - B * Ideal.sin w else B * Ideal.cos w + A * Ideal.sin w := by
  unfold val_main_v117 val_main_v116 val_main_v115 val_main_v114 val_main_v113 val_main_v112 val_main_v111 val_main_v110 val_main_v109 val_main_v108 val_main_v107
    val_main_v106 val_main_v105 val_main_v104 val_main_v103 val_main_v102 val_main_v101 val_main_v100 val_main_v99 val_main_v95 val_main_v94
  generalize val_main_v98 (F := Ideal) x0 x1 x2 x3 = y at hA hB
  generalize val_main_v93 (F := Ideal) = z at hw
  pointwise
  rw [hA, hB, hw]
  by_cases ha : u = 0
  · rw [if_pos ha, dif_pos (by rw [ha]; decide)]
  · rw [if_neg ha, dif_neg (fun hh => ha (Fin.ext (Nat.lt_one_iff.mp hh)))]

end Cert.Reference4Ideal.Prj
end
-- ==== Proof.PrjRopeB.lean ====
/-
  The rotation of the queries and the keys in the reference, at an index.
-/
module

public import proofs.«01_k».proof.Proof.PrjRope

@[expose] public section

set_option maxRecDepth 16384

noncomputable section

namespace Cert.Reference4Ideal.Prj

open Cert.Reference4Ideal Cert.Reference4Ideal.Gen Cert.Reference4Ideal.Facts Cert.Reference4Ideal.Read Cert.Ffn Cert.Prj
open Idealize.ShloMosaic
open Idealize.ShloMosaic.TcCoe
open Idealize.ShloMosaic.Pointwise

variable (x0 : (⟨S4x8192x1024, .f32⟩ : BufTy).Contents (Elt Ideal)) (x1 : (⟨S4x1x6144, .f32⟩ : BufTy).Contents (Elt Ideal))
variable (x2 : (⟨S1024, .f32⟩ : BufTy).Contents (Elt Ideal)) (x3 : (⟨S1024x6656, .f32⟩ : BufTy).Contents (Elt Ideal))
variable (b : Fin 4) (n : Fin 8192)

/-- The first columns. -/
theorem qslice_at (y : FVec Ideal S4x8192x1024 .f32) (j : Fin 512) :
    extractStridedSlice S4x8192x512 ![0, 0, 0] y slices_S4x8192x1024_S4x8192x512_0_0_0 (ix3 b n j) = y (ix3 b n ⟨j.val, by omega⟩) := by
  refine congrArg y ?_
  funext a
  apply Fin.ext
  match a with
  | ⟨0, _⟩ => exact Nat.zero_add _
  | ⟨1, _⟩ => exact Nat.zero_add _
  | ⟨2, _⟩ => exact Nat.zero_add _

/-- The last columns. -/
theorem kslice_at (y : FVec Ideal S4x8192x1024 .f32) (j : Fin 512) :
    extractStridedSlice S4x8192x512 ![0, 0, 512] y slices_S4x8192x1024_S4x8192x512_0_0_512 (ix3 b n j) = y (ix3 b n ⟨512 + j.val, by omega⟩) := by
  refine congrArg y ?_
  funext a
  apply Fin.ext
  match a with
  | ⟨0, _⟩ => exact Nat.zero_add _
  | ⟨1, _⟩ => exact Nat.zero_add _
  | ⟨2, _⟩ => rfl

theorem join_at (y : FVec Ideal S4x8192x8x2x2x2x16 .f32) (d : Fin 8) (m a u : Fin 2) (f : Fin 16) :
    shapeCast S4x8192x1024 (shapeCast S4x8192x8x2x64 y shapeCasts_S4x8192x8x2x2x2x16_S4x8192x8x2x64) shapeCasts_S4x8192x8x2x64_S4x8192x1024
      (ix3 b n ⟨128 * d.val + 64 * m.val + 32 * a.val + 16 * u.val + f.val, by omega⟩) = y (ix7 b n d m a u f) := by
  refine (shapeCast_apply _ shapeCasts_S4x8192x8x2x64_S4x8192x1024 _ (ix5 b n d m (⟨32 * a.val + 16 * u.val + f.val, by omega⟩ : Fin 64)) ?_).trans
    (shapeCast_apply y shapeCasts_S4x8192x8x2x2x2x16_S4x8192x8x2x64 _ (ix7 b n d m a u f) ?_)
  · refine (rowMajor_val5 _ 8388608 1024 128 64 rfl rfl rfl rfl).trans (Eq.trans ?_ (rowMajor_val3 _ 8388608 1024 rfl rfl).symm)
    show b.val * 8388608 + n.val * 1024 + d.val * 128 + m.val * 64 + (32 * a.val + 16 * u.val + f.val)
      = b.val * 8388608 + n.val * 1024 + (128 * d.val + 64 * m.val + 32 * a.val + 16 * u.val + f.val)
    omega
  · refine (rowMajor_val7 _ 8388608 1024 128 64 32 16 rfl rfl rfl rfl rfl rfl).trans (Eq.trans ?_ (rowMajor_val5 _ 8388608 1024 128 64 rfl rfl rfl rfl).symm)
    show b.val * 8388608 + n.val * 1024 + d.val * 128 + m.val * 64 + a.val * 32 + u.val * 16 + f.val
      = b.val * 8388608 + n.val * 1024 + d.val * 128 + m.val * 64 + (32 * a.val + 16 * u.val + f.val)
    omega

/-- A token's angle along an axis at a frequency. -/
def angR (a : Fin 2) (f : Fin 16) : EReal :=
  FloatOps.sitofp (F := Ideal) .f32 (BitVec.ofNat 32 (if a = 0 then n.val / 64 else n.val % 64)) * val_main_v80 (F := Ideal) (ix1 f)

/-- Two entries of the projection, rotated. -/
def rotE (A B w : EReal) (u : Fin 2) : EReal := if u = 0 then A * Ideal.cos w - B * Ideal.sin w else B * Ideal.cos w + A * Ideal.sin w

theorem kcast_at (y : FVec Ideal S4x8192x1024 .f32) (j : Fin 512) :
    (truncf .bf16 (extractStridedSlice S4x8192x512 ![0, 0, 512] y slices_S4x8192x1024_S4x8192x512_0_0_512) bitsLt_bf16_f32 : S4x8192x512.Idx → EReal) (ix3 b n j)
      = y (ix3 b n ⟨512 + j.val, by omega⟩) := kslice_at b n y j

theorem qcast_at (y : FVec Ideal S4x8192x1024 .f32) (w : FVec Ideal S_ .f32) (j : Fin 512) :
    (truncf .bf16 (mulf (extractStridedSlice S4x8192x512 ![0, 0, 0] y slices_S4x8192x1024_S4x8192x512_0_0_0) (broadcastInDim S4x8192x512 ![] bcast_S_S4x8192x512 w))
      bitsLt_bf16_f32 : S4x8192x512.Idx → EReal) (ix3 b n j) = y (ix3 b n ⟨j.val, by omega⟩) * w ix0 := by
  rw [← qslice_at b n y j]
  generalize extractStridedSlice S4x8192x512 ![0, 0, 0] y slices_S4x8192x1024_S4x8192x512_0_0_0 = z
  pointwise

theorem v119_eq : val_main_v119 (F := Ideal) x0 x1 x2 x3
    = shapeCast S4x8192x1024 (shapeCast S4x8192x8x2x64 (val_main_v117 (F := Ideal) x0 x1 x2 x3) shapeCasts_S4x8192x8x2x2x2x16_S4x8192x8x2x64)
      shapeCasts_S4x8192x8x2x64_S4x8192x1024 := by
  unfold val_main_v119 val_main_v118
  rfl

theorem v125_eq : val_main_v125 (F := Ideal) x0 x1 x2 x3
    = (truncf .bf16 (extractStridedSlice S4x8192x512 ![0, 0, 512] (val_main_v119 (F := Ideal) x0 x1 x2 x3) slices_S4x8192x1024_S4x8192x512_0_0_512 : FVec Ideal S4x8192x512 .f32)
      bitsLt_bf16_f32 : FVec Ideal S4x8192x512 .bf16) := by
  unfold val_main_v125 val_main_v124
  rfl

theorem v123_eq : val_main_v123 (F := Ideal) x0 x1 x2 x3
    = (truncf .bf16 (mulf (extractStridedSlice S4x8192x512 ![0, 0, 0] (val_main_v119 (F := Ideal) x0 x1 x2 x3) slices_S4x8192x1024_S4x8192x512_0_0_0)
      (broadcastInDim S4x8192x512 ![] bcast_S_S4x8192x512 (val_main_cst_9 (F := Ideal))) : FVec Ideal S4x8192x512 .f32) bitsLt_bf16_f32 : FVec Ideal S4x8192x512 .bf16) := by
  unfold val_main_v123 val_main_v122 val_main_v121 val_main_v120
  rfl

theorem v117_rot (d : Fin 8) (m a u : Fin 2) (f : Fin 16) :
    val_main_v117 (F := Ideal) x0 x1 x2 x3 (ix7 b n d m a u f)
      = rotE (colR x0 x1 x2 x3 b ⟨128 * d.val + 64 * m.val + 32 * a.val + 16 * (0 : Fin 2).val + f.val, by omega⟩ n)
          (colR x0 x1 x2 x3 b ⟨128 * d.val + 64 * m.val + 32 * a.val + 16 * (1 : Fin 2).val + f.val, by omega⟩ n) (angR n a f) u := by
  have hA := v98_at x0 x1 x2 x3 b n d m a 0 f
  have hB := v98_at x0 x1 x2 x3 b n d m a 1 f
  have hw := v93_at n a f
  generalize colR x0 x1 x2 x3 b ⟨128 * d.val + 64 * m.val + 32 * a.val + 16 * (0 : Fin 2).val + f.val, by omega⟩ n = A at hA ⊢
  generalize colR x0 x1 x2 x3 b ⟨128 * d.val + 64 * m.val + 32 * a.val + 16 * (1 : Fin 2).val + f.val, by omega⟩ n = B at hB ⊢
  rw [← show angR n a f = FloatOps.sitofp (F := Ideal) .f32 (BitVec.ofNat 32 (if a = 0 then n.val / 64 else n.val % 64)) * val_main_v80 (F := Ideal) (ix1 f) from rfl] at hw
  generalize angR n a f = w at hw ⊢
  unfold rotE
  exact v117_at x0 x1 x2 x3 b n d m a u f A B w hA hB hw

/-- The rotated queries and keys. -/
theorem v119_at (d : Fin 8) (m a u : Fin 2) (f : Fin 16) :
    val_main_v119 (F := Ideal) x0 x1 x2 x3 (ix3 b n ⟨128 * d.val + 64 * m.val + 32 * a.val + 16 * u.val + f.val, by omega⟩)
      = rotE (colR x0 x1 x2 x3 b ⟨128 * d.val + 64 * m.val + 32 * a.val + 16 * (0 : Fin 2).val + f.val, by omega⟩ n)
          (colR x0 x1 x2 x3 b ⟨128 * d.val + 64 * m.val + 32 * a.val + 16 * (1 : Fin 2).val + f.val, by omega⟩ n) (angR n a f) u := by
  rw [← v117_rot x0 x1 x2 x3 b n d m a u f, v119_eq]
  generalize val_main_v117 (F := Ideal) x0 x1 x2 x3 = y
  exact join_at b n y d m a u f

/-- The queries. -/
theorem v123_at (j : Fin 512) : val_main_v123 (F := Ideal) x0 x1 x2 x3 (ix3 b n j)
    = val_main_v119 (F := Ideal) x0 x1 x2 x3 (ix3 b n ⟨j.val, by omega⟩) * val_main_cst_9 (F := Ideal) ix0 := by
  rw [v123_eq]
  generalize val_main_v119 (F := Ideal) x0 x1 x2 x3 = y
  generalize val_main_cst_9 (F := Ideal) = w
  exact qcast_at b n y w j

/-- The keys. -/
theorem v125_at (j : Fin 512) : val_main_v125 (F := Ideal) x0 x1 x2 x3 (ix3 b n j) = val_main_v119 (F := Ideal) x0 x1 x2 x3 (ix3 b n ⟨512 + j.val, by omega⟩) := by
  rw [v125_eq]
  generalize val_main_v119 (F := Ideal) x0 x1 x2 x3 = y
  exact kcast_at b n y j

end Cert.Reference4Ideal.Prj
end
-- ==== Proof.PrjRopeOut.lean ====
/-
  The rotated queries and keys the in-projection's points leave are the reference's.
-/
module

public import proofs.«01_k».proof.Proof.PrjOut
public import proofs.«01_k».proof.Proof.PrjRot
public import proofs.«01_k».proof.Proof.PrjRopeB

@[expose] public section

set_option maxRecDepth 16384

noncomputable section

namespace Cert.Kernel4Ideal.Prj

open Cert.Kernel4Ideal Cert.Kernel4Ideal.Gen Cert.Kernel4Ideal.Facts Cert.Ffn Cert.Prj
open Idealize.ShloMosaic
open Idealize.ShloMosaic.TcCoe
open Idealize.ShloMosaic.Pointwise
open Idealize.ShloMosaic.Pipeline (Window)

variable (m : (ℓ : Loc nD τ sig) → Buf (Elt Ideal) ℓ) (c : Dev nD)

/-- The reference's queries of the kernel's arguments. -/
abbrev refQ : S4x8192x512.Idx → EReal :=
  Cert.Reference4Ideal.Read.val_main_v123 (F := Ideal) (m ((c.tc : Thread nD τ).loc main_arg0)) (m ((c.tc : Thread nD τ).loc main_arg1))
    (m ((c.tc : Thread nD τ).loc main_arg2)) (m ((c.tc : Thread nD τ).loc main_arg3))

/-- The reference's keys of the kernel's arguments. -/
abbrev refK : S4x8192x512.Idx → EReal :=
  Cert.Reference4Ideal.Read.val_main_v125 (F := Ideal) (m ((c.tc : Thread nD τ).loc main_arg0)) (m ((c.tc : Thread nD τ).loc main_arg1))
    (m ((c.tc : Thread nD τ).loc main_arg2)) (m ((c.tc : Thread nD τ).loc main_arg3))

theorem angR_eq (n : Fin 8192) (g : Fin 2) (f : Fin 16) : Cert.Reference4Ideal.Prj.angR n g f = angE n g f := by
  unfold Cert.Reference4Ideal.Prj.angR angE
  refine congrArg (fun q : EReal => _ * q) ?_
  unfold frq
  unfold Cert.Reference4Ideal.Read.val_main_v80 Cert.Reference4Ideal.Read.val_main_v79 Cert.Reference4Ideal.Read.val_main_v78 Cert.Reference4Ideal.Read.val_main_v77
    Cert.Reference4Ideal.Read.val_main_v76 Cert.Reference4Ideal.Read.val_main_v75 Cert.Reference4Ideal.Read.val_main_v74 Cert.Reference4Ideal.Read.val_main_v73
    Cert.Reference4Ideal.Read.val_main_v72
  rfl

/-- The kernel's form of the rotation is the reference's. -/
theorem rot_eq (y : Fin 2 → EReal) (w C S : EReal) (u u' : Fin 2) (hu : u'.val = 1 - u.val) (hC : C = Ideal.cos w) (hS : S = if u = 0 then -Ideal.sin w else Ideal.sin w) :
    y u * C + y u' * S = Cert.Reference4Ideal.Prj.rotE (y 0) (y 1) w u := by
  unfold Cert.Reference4Ideal.Prj.rotE
  rcases two_cases u with rfl | rfl
  · obtain rfl : u' = 1 := Fin.ext hu
    rw [hC, hS, if_pos rfl, if_pos rfl, mul_neg, sub_eq_add_neg]
  · obtain rfl : u' = 0 := Fin.ext hu
    rw [hC, hS, if_neg (by decide), if_neg (by decide)]

theorem col_split (j : Fin 512) : ∃ (D : Fin 4) (h g u : Fin 2) (f : Fin 16), j = ⟨128 * D.val + 64 * h.val + 32 * g.val + 16 * u.val + f.val, by omega⟩ :=
  ⟨⟨j.val / 128, by omega⟩, ⟨j.val / 64 % 2, by omega⟩, ⟨j.val / 32 % 2, by omega⟩, ⟨j.val / 16 % 2, by omega⟩, ⟨j.val % 16, by omega⟩,
    Fin.ext (by show j.val = 128 * (j.val / 128) + 64 * (j.val / 64 % 2) + 32 * (j.val / 32 % 2) + 16 * (j.val / 16 % 2) + j.val % 16; omega)⟩

variable (t : Fin cfg0.N)

/-- The weights' columns of the queries, loaded. -/
abbrev wq (o : Nat) (inb : ∀ a, (![0, o] : Fin 2 → Nat) a + S1024x512.size a ≤ S1024x6656.size a) : Vec Ideal S1024x512 .bf16 :=
  View.readAt (Elt Ideal) (ms0_6 t).view (Rect.unit (s := S1024x6656) ![0, o] S1024x512.size inb).toLoadRect (unr c (hs0_6 t) (iblk m c 6 t))

theorem dot_at (o : Nat) (ho : o + 512 ≤ 6656) (inb) (r : Fin 256) (j : Fin 512) :
    (∑ k, act m c t (ix2 r k) * wq m c t o inb (ix2 k j)) = ent m c (bT t) (nT t r) ⟨o + j.val, by omega⟩ := by
  unfold ent dotp
  refine Finset.sum_congr rfl fun k _ => ?_
  exact congrArg₂ (fun a b : EReal => a * b) (act_at m c t r k) (wload_at m c t o ho inb k j)

/-- The rotated row of the queries at a column. -/
theorem qrow_at (r : Fin 256) (j : Fin 512) (inb) :
    k0_pay41 (k0_pay32 (act m c t) (k0_pay31 (wq m c t 0 inb)) (constant S256x512 .f32 0x00000000#32)) (k0_pay33 (iblk m c 7 t)) (k0_pay34 (iblk m c 8 t)) k0_pay35
        (k0_pay36 (act m c t) (k0_pay31 (wq m c t 0 inb)) (constant S256x512 .f32 0x00000000#32) (iblk m c 7 t) (iblk m c 8 t))
        (k0_pay37 (act m c t) (k0_pay31 (wq m c t 0 inb)) (constant S256x512 .f32 0x00000000#32) (iblk m c 7 t) (iblk m c 8 t))
        (k0_pay39 (act m c t) (k0_pay31 (wq m c t 0 inb)) (constant S256x512 .f32 0x00000000#32))
        (k0_pay40 (act m c t) (k0_pay31 (wq m c t 0 inb)) (constant S256x512 .f32 0x00000000#32) (iblk m c 7 t)) (ix3 0 r j)
      = refQ m c (ix3 (bT t) (nT t r) j) := by
  rw [pay41_at, refQ, Cert.Reference4Ideal.Prj.v123_at]
  refine congrArg (fun q : EReal => q * (Scalar.ofBits .f32 0x3E38AA3B#32 : Ideal .f32)) ?_
  obtain ⟨D, h, g, u, f, rfl⟩ := col_split j
  obtain ⟨u', hu⟩ : ∃ u' : Fin 2, u'.val = 1 - u.val := ⟨⟨1 - u.val, by omega⟩, rfl⟩
  refine (row_at _ (iblk m c 7 t) (iblk m c 8 t) r D h g u u' f hu).trans ?_
  simp only [pay32_at, dot_at m c t 0 (by omega)]
  have hv := Cert.Reference4Ideal.Prj.v119_at (m ((c.tc : Thread nD τ).loc main_arg0)) (m ((c.tc : Thread nD τ).loc main_arg1))
    (m ((c.tc : Thread nD τ).loc main_arg2)) (m ((c.tc : Thread nD τ).loc main_arg3)) (bT t) (nT t r) ⟨D.val, by omega⟩ h g u f
  refine Eq.trans ?_ hv.symm
  rw [angR_eq]
  refine (rot_eq (fun v => ent m c (bT t) (nT t r) ⟨0 + (128 * D.val + 64 * h.val + 32 * g.val + 16 * v.val + f.val), by omega⟩) (angE (nT t r) g f) _ _ u u' hu
    (cos_at m c t r h g u f) (sin_at m c t r h g u f)).trans ?_
  have e : ∀ v : Fin 2, (⟨0 + (128 * D.val + 64 * h.val + 32 * g.val + 16 * v.val + f.val), by omega⟩ : Fin 6656)
      = ⟨128 * D.val + 64 * h.val + 32 * g.val + 16 * v.val + f.val, by omega⟩ := fun v => Fin.ext (Nat.zero_add _)
  simp only [e]

theorem krow_at (r : Fin 256) (j : Fin 512) (inb) :
    k0_pay50 (k0_pay44 (act m c t) (wq m c t 512 inb)) (k0_pay45 (iblk m c 7 t)) (k0_pay46 (iblk m c 8 t)) k0_pay47
        (k0_pay48 (act m c t) (wq m c t 512 inb) (iblk m c 7 t) (iblk m c 8 t)) (k0_pay49 (act m c t) (wq m c t 512 inb) (iblk m c 7 t) (iblk m c 8 t)) (ix3 0 r j)
      = refK m c (ix3 (bT t) (nT t r) j) := by
  rw [pay50_at, refK, Cert.Reference4Ideal.Prj.v125_at]
  obtain ⟨D, h, g, u, f, rfl⟩ := col_split j
  obtain ⟨u', hu⟩ : ∃ u' : Fin 2, u'.val = 1 - u.val := ⟨⟨1 - u.val, by omega⟩, rfl⟩
  refine (row_at _ (iblk m c 7 t) (iblk m c 8 t) r D h g u u' f hu).trans ?_
  simp only [pay44_at, dot_at m c t 512 (by omega)]
  have hv := Cert.Reference4Ideal.Prj.v119_at (m ((c.tc : Thread nD τ).loc main_arg0)) (m ((c.tc : Thread nD τ).loc main_arg1))
    (m ((c.tc : Thread nD τ).loc main_arg2)) (m ((c.tc : Thread nD τ).loc main_arg3)) (bT t) (nT t r) ⟨4 + D.val, by omega⟩ h g u f
  have e : ∀ v : Nat, 128 * (4 + D.val) + 64 * h.val + 32 * g.val + 16 * v + f.val = 512 + (128 * D.val + 64 * h.val + 32 * g.val + 16 * v + f.val) := by
    intro v
    omega
  simp only [e] at hv
  refine Eq.trans ?_ hv.symm
  rw [angR_eq]
  exact rot_eq (fun v => ent m c (bT t) (nT t r) ⟨512 + (128 * D.val + 64 * h.val + 32 * g.val + 16 * v.val + f.val), by omega⟩) (angE (nT t r) g f) _ _ u u' hu
    (cos_at m c t r h g u f) (sin_at m c t r h g u f)

theorem er_at (r : Fin 256) (j : Fin 512) : (Rect.unit (s := S1x256x512) ![0, 0, 0] S1x256x512.size inb_S1x256x512_S1x256x512_0_0_0).emb (ix3 0 r j) = ix3 0 r j := by
  funext a
  apply Fin.ext
  match a with
  | ⟨0, _⟩ => rfl
  | ⟨1, _⟩ => show 0 + 1 * r.val = r.val; omega
  | ⟨2, _⟩ => show 0 + 1 * j.val = j.val; omega

/-- What a point leaves in its block of the queries. -/
theorem out18_at (r : Fin 256) (j : Fin 512) : (dats m 0 c).after 18 t (ix3 0 r j) = refQ m c (ix3 (bT t) (nT t r) j) := by
  rw [after0_18]
  rw [left18]
  rw [View.read_writes_junk_eq_canon]
  unfold bodyRun.sl.H20_1 bodyRun.sl.r_19 bodyRun.sl.r_20 bodyRun.sl.r_21 bodyRun.sl.r_22 bodyRun.sl.r_23 bodyRun.sl.r_24 bodyRun.sl.r_25 bodyRun.sl.r_18 bodyRun.sl.cst_147
  rw [load_full (S := S256x128), load_full (S := S256x128)]
  refine (View.canon_apply_of_pieces (fun y : S1x256x512.Idx => refQ m c (ix3 (bT t) (nT t (y 1)) (y 2))) _ ?_ (ix3 0 r j) (View.cover_of_tiled _ S1x256x512.size rfl _)).trans rfl
  intro pc hpc
  rcases List.mem_cons.mp hpc with rfl | hpc
  · intro x
    obtain ⟨i0, r', j', rfl⟩ : ∃ (i0 : Fin 1) (r' : Fin 256) (j' : Fin 512), x = ix3 i0 r' j' := ⟨x 0, x 1, x 2, funext fun a => by fin_cases a <;> rfl⟩
    obtain rfl : i0 = 0 := Subsingleton.elim _ _
    refine Eq.trans ?_ (congrArg (fun y : S1x256x512.Idx => refQ m c (ix3 (bT t) (nT t (y 1)) (y 2))) (er_at r' j')).symm
    exact qrow_at m c t r' j' _
  nomatch hpc

/-- What a point leaves in its block of the keys. -/
theorem out19_at (r : Fin 256) (j : Fin 512) : (dats m 0 c).after 19 t (ix3 0 r j) = refK m c (ix3 (bT t) (nT t r) j) := by
  rw [after0_19]
  rw [left19]
  rw [View.read_writes_junk_eq_canon]
  unfold bodyRun.sl.H21_1 bodyRun.sl.r_27 bodyRun.sl.r_28 bodyRun.sl.r_29 bodyRun.sl.r_30 bodyRun.sl.r_31
  rw [load_full (S := S256x128), load_full (S := S256x128)]
  refine (View.canon_apply_of_pieces (fun y : S1x256x512.Idx => refK m c (ix3 (bT t) (nT t (y 1)) (y 2))) _ ?_ (ix3 0 r j) (View.cover_of_tiled _ S1x256x512.size rfl _)).trans rfl
  intro pc hpc
  rcases List.mem_cons.mp hpc with rfl | hpc
  · intro x
    obtain ⟨i0, r', j', rfl⟩ : ∃ (i0 : Fin 1) (r' : Fin 256) (j' : Fin 512), x = ix3 i0 r' j' := ⟨x 0, x 1, x 2, funext fun a => by fin_cases a <;> rfl⟩
    obtain rfl : i0 = 0 := Subsingleton.elim _ _
    refine Eq.trans ?_ (congrArg (fun y : S1x256x512.Idx => refK m c (ix3 (bT t) (nT t (y 1)) (y 2))) (er_at r' j')).symm
    exact krow_at m c t r' j' _
  nomatch hpc

end Cert.Kernel4Ideal.Prj
end
-- ==== Proof.PrjRopeArr.lean ====
/-
  The arrays of the rotated queries and keys after the run of the in-projection are the reference's results.
-/
module

public import proofs.«01_k».proof.Proof.PrjRopeOut

@[expose] public section

set_option maxRecDepth 16384

noncomputable section

namespace Cert.Kernel4Ideal.Prj

open Cert.Kernel4Ideal Cert.Kernel4Ideal.Gen Cert.Ffn Cert.Prj
open Idealize.ShloMosaic
open Idealize.ShloMosaic.TcCoe
open Idealize.ShloMosaic.Pointwise
open Idealize.ShloMosaic.Pipeline (Window)

variable (m : (ℓ : Loc nD τ sig) → Buf (Elt Ideal) ℓ) (c : Dev nD) (t : Fin cfg0.N)

theorem index18 : ∀ t : Fin grid0.N, (cfg0.win 18).index t 0 = t.val / 32 ∧ (cfg0.win 18).index t 1 = t.val % 32 ∧ (cfg0.win 18).index t 2 = 0 := by decide +kernel
theorem flush18 : ∀ t : Fin grid0.N, (cfg0.win 18).flush t = true := by decide +kernel
theorem apart18 : ∀ t t' : Fin cfg0.N, win0_18.index t = win0_18.index t' → t = t' :=
  (by decide +kernel : ∀ t t' : Fin grid0.N, win0_18.index t = win0_18.index t' → t = t')

/-- Where a block's index lies in the array. -/
theorem emb18 (r : Fin 256) (d : Fin 512) : ((cfg0.win 18).blk t).view.emb (ix3 0 r d) = ix3 (bT t) (nT t r) d := by
  obtain ⟨h0, h1, h2⟩ := index18 t
  funext a
  apply Fin.ext
  refine ((cfg0.win 18).rect_emb_val t (ix3 0 r d) a).trans ?_
  match a with
  | ⟨0, _⟩ => show (cfg0.win 18).index t 0 * 1 + 0 = t.val / 32; rw [h0]; omega
  | ⟨1, _⟩ => show (cfg0.win 18).index t 1 * 256 + r.val = 256 * (t.val % 32) + r.val; rw [h1]; omega
  | ⟨2, _⟩ => show (cfg0.win 18).index t 2 * 512 + d.val = d.val; rw [h2]; omega

set_option maxHeartbeats 2000000 in
/-- The array after the run is the reference's result. -/
theorem arr18_eq : (dats m 0 c).arrAt 18 cfg0.N = refQ m c := by
  funext i
  have h0 : (i 0).val < 4 := (i 0).isLt
  have h1 : (i 1).val < 8192 := (i 1).isLt
  have h2 : (i 2).val < 512 := (i 2).isLt
  let t : Fin cfg0.N := ⟨32 * (i 0).val + (i 1).val / 256, by show _ < 128; omega⟩
  let r : Fin 256 := ⟨(i 1).val % 256, by omega⟩
  let d : Fin 512 := ⟨(i 2).val, h2⟩
  have hi : i = ix3 (bT t) (nT t r) d := by
    funext a
    apply Fin.ext
    match a with
    | ⟨0, _⟩ => show (i 0).val = (32 * (i 0).val + (i 1).val / 256) / 32; omega
    | ⟨1, _⟩ => show (i 1).val = 256 * ((32 * (i 0).val + (i 1).val / 256) % 32) + (i 1).val % 256; omega
    | ⟨2, _⟩ => rfl
  have hb : ((cfg0.win 18).blk t).view.read (Elt Ideal) ((dats m 0 c).arrAt 18 cfg0.N) = (dats m 0 c).flushed 18 t :=
    (dats m 0 c).read_blk_arrAt_eq_flushed 18 (fun t t' _ _ hne => (cfg0.win 18).disjoint_blk fun h => hne (apart18 t t' h)) cfg0.N t t.isLt (flush18 t)
  have hb' : (dats m 0 c).arrAt 18 cfg0.N (((cfg0.win 18).blk t).view.emb (ix3 0 r d)) = refQ m c (ix3 (bT t) (nT t r) d) :=
    by
      refine (congrFun hb (ix3 0 r d)).trans ?_
      have he : (dats m 0 c).flushed 18 t = (cfg0.win 18).cut (grid0.coords t) ((dats m 0 c).after 18 t) := rfl
      rw [he]
      exact out18_at m c t r d
  rw [emb18] at hb'
  rw [hi]
  exact hb'
theorem index19 : ∀ t : Fin grid0.N, (cfg0.win 19).index t 0 = t.val / 32 ∧ (cfg0.win 19).index t 1 = t.val % 32 ∧ (cfg0.win 19).index t 2 = 0 := by decide +kernel
theorem flush19 : ∀ t : Fin grid0.N, (cfg0.win 19).flush t = true := by decide +kernel
theorem apart19 : ∀ t t' : Fin cfg0.N, win0_19.index t = win0_19.index t' → t = t' :=
  (by decide +kernel : ∀ t t' : Fin grid0.N, win0_19.index t = win0_19.index t' → t = t')

/-- Where a block's index lies in the array. -/
theorem emb19 (r : Fin 256) (d : Fin 512) : ((cfg0.win 19).blk t).view.emb (ix3 0 r d) = ix3 (bT t) (nT t r) d := by
  obtain ⟨h0, h1, h2⟩ := index19 t
  funext a
  apply Fin.ext
  refine ((cfg0.win 19).rect_emb_val t (ix3 0 r d) a).trans ?_
  match a with
  | ⟨0, _⟩ => show (cfg0.win 19).index t 0 * 1 + 0 = t.val / 32; rw [h0]; omega
  | ⟨1, _⟩ => show (cfg0.win 19).index t 1 * 256 + r.val = 256 * (t.val % 32) + r.val; rw [h1]; omega
  | ⟨2, _⟩ => show (cfg0.win 19).index t 2 * 512 + d.val = d.val; rw [h2]; omega

set_option maxHeartbeats 2000000 in
/-- The array after the run is the reference's result. -/
theorem arr19_eq : (dats m 0 c).arrAt 19 cfg0.N = refK m c := by
  funext i
  have h0 : (i 0).val < 4 := (i 0).isLt
  have h1 : (i 1).val < 8192 := (i 1).isLt
  have h2 : (i 2).val < 512 := (i 2).isLt
  let t : Fin cfg0.N := ⟨32 * (i 0).val + (i 1).val / 256, by show _ < 128; omega⟩
  let r : Fin 256 := ⟨(i 1).val % 256, by omega⟩
  let d : Fin 512 := ⟨(i 2).val, h2⟩
  have hi : i = ix3 (bT t) (nT t r) d := by
    funext a
    apply Fin.ext
    match a with
    | ⟨0, _⟩ => show (i 0).val = (32 * (i 0).val + (i 1).val / 256) / 32; omega
    | ⟨1, _⟩ => show (i 1).val = 256 * ((32 * (i 0).val + (i 1).val / 256) % 32) + (i 1).val % 256; omega
    | ⟨2, _⟩ => rfl
  have hb : ((cfg0.win 19).blk t).view.read (Elt Ideal) ((dats m 0 c).arrAt 19 cfg0.N) = (dats m 0 c).flushed 19 t :=
    (dats m 0 c).read_blk_arrAt_eq_flushed 19 (fun t t' _ _ hne => (cfg0.win 19).disjoint_blk fun h => hne (apart19 t t' h)) cfg0.N t t.isLt (flush19 t)
  have hb' : (dats m 0 c).arrAt 19 cfg0.N (((cfg0.win 19).blk t).view.emb (ix3 0 r d)) = refK m c (ix3 (bT t) (nT t r) d) :=
    by
      refine (congrFun hb (ix3 0 r d)).trans ?_
      have he : (dats m 0 c).flushed 19 t = (cfg0.win 19).cut (grid0.coords t) ((dats m 0 c).after 19 t) := rfl
      rw [he]
      exact out19_at m c t r d
  rw [emb19] at hb'
  rw [hi]
  exact hb'
end Cert.Kernel4Ideal.Prj
end
-- ==== Proof.lean ====
/-
  The certificate's claims, proved together.
-/
module

public import proofs.«01_k».proof.Proof.Join
public import proofs.«01_k».proof.Defs
public import proofs.«01_k».proof.Proof.KFrame
public import proofs.«01_k».proof.Proof.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import proofs.«01_k».proof.Proof.FfnJoin
public import proofs.«01_k».proof.Proof.MixJoin
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Read
public import proofs.«01_k».proof.Proof.PKFrame
public import proofs.«01_k».proof.Proof.PFrame
public import proofs.«01_k».proof.Proof.PrjArr
public import proofs.«01_k».proof.Proof.PrjConvArr
public import proofs.«01_k».proof.Proof.PrjRopeArr
public import proofs.«01_k».proof.Proof.Gen.Reference4Ideal.Read
public import Idealize.ShloMosaic.Adequacy
public import Idealize.ShloMosaic.Init

@[expose] public section

noncomputable section

namespace Cert.Proof

open Idealize.ShloMosaic Idealize.SL.Sem

/-- The reference runs, its arguments end unchanged, and it has no semaphore. -/
theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run m g)

/-- The kernel over the extended reals leaves the reference's result. -/
theorem algebraic : Cert.algebraic_KernelIdeal_ReferenceIdeal_pre_finite (hKernelIdeal := Cert.KernelIdeal.Gen.facts)
    (hReferenceIdeal := Cert.ReferenceIdeal.Gen.facts) (hPre_finite := Cert.KernelIdeal.Att.pre_facts) := by
  intro m g m' g' hpre hargs
  refine ⟨fun c => Cert.KernelIdeal.Att.refOut m c, ?_, ?_⟩
  · refine (θ_run (Cert.KernelIdeal.defs (F := Ideal)) _ _).mono (fun r h c => ⟨funext (h.1 c).1, (h.1 c).2⟩)
      (Cert.KernelIdeal.Att.run_ref m g fun c => ?_)
    haveI := Cert.KernelIdeal.Att.pre_facts
    obtain ⟨h0, h1, h2, h3, h4, h5⟩ := hpre c
    obtain ⟨r0, r1, r2, r3, r4, r5⟩ := Cert.KernelIdeal.Att.pre_real _ _ _ _ _ _ _ h0 h1 h2 h3 h4 h5
    exact ⟨r0, r1, r2, r3, r4, r5⟩
  · refine (θ_run (Cert.ReferenceIdeal.defs (F := Ideal)) _ _).mono (fun r h c => ⟨(h c).1.trans ?_, (h c).2⟩) (Cert.ReferenceIdeal.Value.run m' g')
    obtain ⟨a0, a1, a2, a3, a4, a5, a6⟩ := hargs c
    rw [Cert.ReferenceIdeal.Read.val_main_v60_eq, a0, a1, a2, a3, a4, a5, a6]

/-- The feed-forward part's reference runs, its arguments end unchanged, and it has no semaphore. -/
theorem frame_reference2 : Cert.quiescent_Reference2Ideal (hReference2Ideal := Cert.Reference2Ideal.Gen.facts) := fun m g _ =>
  (θ_run (Cert.Reference2Ideal.defs (F := Ideal)) _ _).mono (fun r h => ⟨fun c => (h c).2, sem_eq_zero_of_no_sems (by decide) r.2⟩)
    (Cert.Reference2Ideal.Value.run m g)

/-- The feed-forward kernel over the extended reals leaves the reference's result. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Ffn.refOut m c, ?_, ?_⟩
  · exact (θ_run (Cert.Kernel2Ideal.defs (F := Ideal)) _ _).mono (fun r h c => ⟨(h c).1.trans (Cert.Kernel2Ideal.Ffn.arr_eq m c), (h c).2⟩)
      (Cert.Kernel2Ideal.Value.run_blocks m g)
  · refine (θ_run (Cert.Reference2Ideal.defs (F := Ideal)) _ _).mono (fun r h c => ⟨(h c).1.trans ?_, (h c).2⟩) (Cert.Reference2Ideal.Value.run m' g')
    obtain ⟨a0, a1, a2, a3, a4, a5⟩ := hargs c
    rw [Cert.Reference2Ideal.Read.val_main_v46_eq, a0, a1, a2, a3, a4, a5]

/-- The mixing's reference runs, its arguments end unchanged, and it has no semaphore. -/
theorem frame_reference3 : Cert.quiescent_Reference3Ideal (hReference3Ideal := Cert.Reference3Ideal.Gen.facts) := fun m g _ =>
  (θ_run (Cert.Reference3Ideal.defs (F := Ideal)) _ _).mono (fun r h => ⟨fun c => (h c).2, sem_eq_zero_of_no_sems (by decide) r.2⟩)
    (Cert.Reference3Ideal.Value.run m g)

/-- The mixing kernel over the extended reals leaves the reference's result. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Mix.refOut m c, ?_, ?_⟩
  · exact (θ_run (Cert.Kernel3Ideal.defs (F := Ideal)) _ _).mono (fun r h c => ⟨(h c).1.trans (Cert.Kernel3Ideal.Mix.arr_eq m c), (h c).2⟩)
      (Cert.Kernel3Ideal.Value.run_blocks m g)
  · refine (θ_run (Cert.Reference3Ideal.defs (F := Ideal)) _ _).mono (fun r h c => ⟨(h c).1.trans ?_, (h c).2⟩) (Cert.Reference3Ideal.Value.run m' g')
    obtain ⟨a0, a1, a2, a3, a4, a5, a6, a7, a8, a9⟩ := hargs c
    rw [Cert.Reference3Ideal.Read.val_main_v24_eq, a0, a1, a2, a3, a4, a5, a6, a7, a8, a9]

theorem frame_reference4 : Cert.quiescent_Reference4Ideal (hReference4Ideal := Cert.Reference4Ideal.Gen.facts) := fun m g _ =>
  (θ_run (Cert.Reference4Ideal.defs (F := Ideal)) _ _).mono (fun r h => ⟨fun c => (h c).2.2.2.2.2.2.2, sem_eq_zero_of_no_sems (by decide) r.2⟩)
    (Cert.Reference4Ideal.Value.run m g)

set_option maxHeartbeats 8000000 in
/-- The in-projection over the extended reals leaves the reference's short convolution, gates, rotated queries and keys and values. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Prj.refS m c, fun c => Cert.Kernel4Ideal.Prj.refX m c, fun c => Cert.Kernel4Ideal.Prj.refY m c,
    fun c => Cert.Kernel4Ideal.Prj.refG m c, fun c => Cert.Kernel4Ideal.Prj.refQ m c, fun c => Cert.Kernel4Ideal.Prj.refK m c, fun c => Cert.Kernel4Ideal.Prj.refV m c, ?_, ?_⟩
  · exact (θ_run (Cert.Kernel4Ideal.defs (F := Ideal)) _ _).mono
      (fun r h c => ⟨((h.1 c).1 14).trans (Cert.Kernel4Ideal.Prj.arr14_eq m c), ((h.1 c).1 15).trans (Cert.Kernel4Ideal.Prj.arr15_eq m c),
        ((h.1 c).1 16).trans (Cert.Kernel4Ideal.Prj.arr16_eq m c), ((h.1 c).1 17).trans (Cert.Kernel4Ideal.Prj.arr17_eq m c),
        ((h.1 c).1 18).trans (Cert.Kernel4Ideal.Prj.arr18_eq m c), ((h.1 c).1 19).trans (Cert.Kernel4Ideal.Prj.arr19_eq m c),
        ((h.1 c).1 20).trans (Cert.Kernel4Ideal.Prj.arr20_eq m c), h.2.1 c⟩)
      (θ_run_and (Cert.Kernel4Ideal.Prj.run_post m g) (Cert.Kernel4Ideal.Prj.run_main m g))
  · refine (θ_run (Cert.Reference4Ideal.defs (F := Ideal)) _ _).mono (fun r h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2.1.trans ?_, (h c).2.2.2.2.2.2.2⟩)
      (Cert.Reference4Ideal.Value.run m' g')
    · obtain ⟨a0, a1, a2, a3, a4, a5, a6, a7⟩ := hargs c
      rw [Cert.Reference4Ideal.Read.val_main_v61_eq, a0, a1, a2, a3, a6, a7]
    · obtain ⟨a0, a1, a2, a3, a4, a5, a6, a7⟩ := hargs c
      rw [Cert.Reference4Ideal.Read.val_main_v62_eq, a0, a1, a2, a3, a6, a7]
    · obtain ⟨a0, a1, a2, a3, a4, a5, a6, a7⟩ := hargs c
      rw [Cert.Reference4Ideal.Read.val_main_v63_eq, a0, a1, a2, a3, a6, a7]
    · obtain ⟨a0, a1, a2, a3, -⟩ := hargs c
      rw [Cert.Reference4Ideal.Read.val_main_v33_eq, a0, a1, a2, a3]
    · obtain ⟨a0, a1, a2, a3, -⟩ := hargs c
      rw [Cert.Reference4Ideal.Read.val_main_v123_eq, a0, a1, a2, a3]
    · obtain ⟨a0, a1, a2, a3, -⟩ := hargs c
      rw [Cert.Reference4Ideal.Read.val_main_v125_eq, a0, a1, a2, a3]
    · obtain ⟨a0, a1, a2, a3, -⟩ := hargs c
      rw [Cert.Reference4Ideal.Read.val_main_v35_eq, a0, a1, a2, a3]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.KernelIdeal.Att.pre_facts,
    fun m g _ => Cert.Kernel.Att.run_main m g,
    fun m g _ => Cert.KernelIdeal.Att.run_main m g,
    fun m g _ => Cert.KernelIdeal.Att.run_main m g,
    frame_reference,
    fun m g _ => frame_reference m g trivial,
    fun m g _ => Cert.Kernel2.Gen.frame m g,
    fun m g _ => Cert.Kernel2Ideal.Gen.frame m g,
    frame_reference2,
    fun m g _ => Cert.Kernel3.Gen.frame m g,
    fun m g _ => Cert.Kernel3Ideal.Gen.frame m g,
    frame_reference3,
    fun m g _ => Cert.Kernel4.Prj.run_main m g,
    fun m g _ => Cert.Kernel4Ideal.Prj.run_main m g,
    frame_reference4,
    IdealRules.named_const.statement Cert.KernelIdeal.κ "q_scale" .f32 0x3E38AA3B#32 _ rfl,
    algebraic,
    trivial,
    algebraic2,
    trivial,
    algebraic3,
    trivial,
    algebraic4⟩

end Cert.Proof

end
